-- ==== Defs.lean ====
def Pre_Kernel [hPre_parents_are_nodes : Cert.Pre_parents_are_nodes.Facts] (m : (ℓ : Loc Cert.Kernel.nD Cert.Kernel.τ Cert.Kernel.sig) → Buf (Elt Bits) ℓ) : Prop :=
  ∀ c : Dev Cert.Kernel.nD,
    (Cert.Pre_parents_are_nodes.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_parents_are_nodes : Cert.Pre_parents_are_nodes.Facts] (m : (ℓ : Loc Cert.KernelIdeal.nD Cert.KernelIdeal.τ Cert.KernelIdeal.sig) → Buf (Elt Ideal) ℓ) : Prop :=
  ∀ c : Dev Cert.KernelIdeal.nD,
    (Cert.Pre_parents_are_nodes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_parents_are_nodes [hPre_parents_are_nodes : Cert.Pre_parents_are_nodes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_parents_are_nodes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] [hPre_parents_are_nodes : Cert.Pre_parents_are_nodes.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] [hPre_parents_are_nodes : Cert.Pre_parents_are_nodes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_parents_are_nodes [hReferenceIdeal : Cert.ReferenceIdeal.Facts] [hPre_parents_are_nodes : Cert.Pre_parents_are_nodes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_parents_are_nodes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_parents_are_nodes : Cert.Pre_parents_are_nodes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55_10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_parents_are_nodes : Cert.Pre_parents_are_nodes.Facts),
    quiescent_Kernel (hKernel := hKernel) (hPre_parents_are_nodes := hPre_parents_are_nodes)
    ∧ quiescent_KernelIdeal (hKernelIdeal := hKernelIdeal) (hPre_parents_are_nodes := hPre_parents_are_nodes)
    ∧ quiescent_ReferenceIdeal (hReferenceIdeal := hReferenceIdeal)
    ∧ quiescent_ReferenceIdeal_pre_parents_are_nodes (hReferenceIdeal := hReferenceIdeal) (hPre_parents_are_nodes := hPre_parents_are_nodes)
    ∧ preserves_Kernel_KernelIdeal
    ∧ algebraic_KernelIdeal_ReferenceIdeal (hKernelIdeal := hKernelIdeal) (hReferenceIdeal := hReferenceIdeal) (hPre_parents_are_nodes := hPre_parents_are_nodes)
-- ==== Pre_parents_are_nodes.lean ====
abbrev S1024x128x128 : Shape := ⟨3, ![1024, 128, 128]⟩
abbrev S1024x128 : Shape := ⟨2, ![1024, 128]⟩
abbrev S128x128 : Shape := ⟨2, ![128, 128]⟩
abbrev S128 : Shape := ⟨1, ![128]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel

variable [Facts]

def fn {F : FTy → Type} [FloatOps F] (main_arg0 : FVec F S1024x128x128 .f32) (main_arg1 : IVec S1024x128 32) (main_arg2 : FVec F S1024x128 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128x128 .f32) (main_arg11 : FVec F S128x128 .f32) (main_arg12 : FVec F S1024x128x128 .f32) (main_arg13 : FVec F S1024x128x128 .f32) : IVec S_ 1 :=
  let main_c : IVec S_ 32 := constantI S_ 32 0#32
  let main_v0 : IVec S1024x128 32 := broadcastInDim S1024x128 ![] bcast_S_S1024x128 main_c
  let main_v1 : IVec S1024x128 1 := cmpi .sge main_arg1 main_v0
  let main_c_0 : IVec S_ 32 := constantI S_ 32 128#32
  let main_v2 : IVec S1024x128 32 := broadcastInDim S1024x128 ![] bcast_S_S1024x128 main_c_0
  let main_v3 : IVec S1024x128 1 := cmpi .slt main_arg1 main_v2
  let main_v4 : IVec S1024x128 1 := andi main_v1 main_v3
  let main_c_1 : IVec S_ 1 := constantI S_ 1 1#1
  let main_v5 : IVec S_ 1 := (fun x v => Host.reduce IntOp.andi x v reducesTo_S1024x128_S_d0_1 h_S_) main_v4 main_c_1
  main_v5
-- ==== Kernel.lean ====
abbrev S1024x128x128 : Shape := ⟨3, ![1024, 128, 128]⟩
abbrev S1024x128 : Shape := ⟨2, ![1024, 128]⟩
abbrev S128x128 : Shape := ⟨2, ![128, 128]⟩
abbrev S128 : Shape := ⟨1, ![128]⟩
abbrev S1024x1x128 : Shape := ⟨3, ![1024, 1, 128]⟩
abbrev S128x1024 : Shape := ⟨2, ![128, 1024]⟩
abbrev S128x384 : Shape := ⟨2, ![128, 384]⟩
abbrev S384 : Shape := ⟨1, ![384]⟩
abbrev S1x384 : Shape := ⟨2, ![1, 384]⟩
abbrev S256x128 : Shape := ⟨2, ![256, 128]⟩
abbrev S128x256 : Shape := ⟨2, ![128, 256]⟩
abbrev S128x256x128 : Shape := ⟨3, ![128, 256, 128]⟩
abbrev S1x256x128 : Shape := ⟨3, ![1, 256, 128]⟩
abbrev S2x256x8x128 : Shape := ⟨4, ![2, 256, 8, 128]⟩
abbrev S_ : Shape := ⟨0, ![]⟩
abbrev S256x384 : Shape := ⟨2, ![256, 384]⟩
abbrev S1x256x8x128 : Shape := ⟨4, ![1, 256, 8, 128]⟩
abbrev S256x8x128 : Shape := ⟨3, ![256, 8, 128]⟩
abbrev S8x256x128 : Shape := ⟨3, ![8, 256, 128]⟩
abbrev S1x1 : Shape := ⟨2, ![1, 1]⟩
abbrev S1x1x128 : Shape := ⟨3, ![1, 1, 128]⟩

abbrev nBuf : Space → Nat
  | .hbm => 24
  | .vmem => 12
  | .smem => 2
  | _ => 0

abbrev bufTy : (tb : Table) → Fin (tcTables nBuf tb) → BufTy
  | .hbm, ⟨0, _⟩ => ⟨S1024x128x128, .f32⟩
  | .hbm, ⟨1, _⟩ => ⟨S1024x128, .i32⟩
  | .hbm, ⟨2, _⟩ => ⟨S1024x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S1024x128x128, .f32⟩
  | .hbm, ⟨13, _⟩ => ⟨S1024x128x128, .f32⟩
  | .hbm, ⟨14, _⟩ => ⟨S1024x1x128, .f32⟩
  | .hbm, ⟨15, _⟩ => ⟨S1024x128, .f32⟩
  | .hbm, ⟨16, _⟩ => ⟨S128x1024, .i32⟩
  | .hbm, ⟨17, _⟩ => ⟨S128x128, .f32⟩
  | .hbm, ⟨18, _⟩ => ⟨S128x128, .f32⟩
  | .hbm, ⟨19, _⟩ => ⟨S128x128, .f32⟩
  | .hbm, ⟨20, _⟩ => ⟨S128x384, .f32⟩
  | .hbm, ⟨21, _⟩ => ⟨S384, .f32⟩
  | .hbm, ⟨22, _⟩ => ⟨S1x384, .f32⟩
  | .hbm, ⟨23, _⟩ => ⟨S1024x128x128, .f32⟩
  | .local _ .vmem, ⟨0, _⟩ => ⟨S256x128, .f32⟩
  | .local _ .vmem, ⟨1, _⟩ => ⟨S256x128, .f32⟩
  | .local _ .vmem, ⟨2, _⟩ => ⟨S128x384, .f32⟩
  | .local _ .vmem, ⟨3, _⟩ => ⟨S1x384, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x256x128, .f32⟩
  | .local _ .vmem, ⟨8, _⟩ => ⟨S128x256x128, .f32⟩
  | .local _ .vmem, ⟨9, _⟩ => ⟨S1x256x128, .f32⟩
  | .local _ .vmem, ⟨10, _⟩ => ⟨S1x256x128, .f32⟩
  | .local _ .vmem, ⟨11, _⟩ => ⟨S2x256x8x128, .f32⟩
  | .local _ .smem, ⟨0, _⟩ => ⟨S128x256, .i32⟩
  | .local _ .smem, ⟨1, _⟩ => ⟨S128x256, .i32⟩
  | _, _ => ⟨S1024x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_stg1_0 : Ref sig .tc := ⟨.smem, 0, rfl⟩
abbrev cc0_stg1_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![4], ![false]⟩

def k0_off1 (i : grid0.Coords) : Fin 3 → Nat :=
  let arg0 : BitVec 32 := BitVec.ofNat 32 (i 0).val
  let c256_i32 : BitVec 32 := 256#32
  let v27 : BitVec 32 := Scalar.muli arg0 c256_i32
  let c0_i32_18 : BitVec 32 := 0#32
  let c0_i32_19 : BitVec 32 := 0#32
  ![v27.toNat, 0, 0]
def k0_off2 (i : grid0.Coords) : Fin 3 → Nat :=
  let arg0 : BitVec 32 := BitVec.ofNat 32 (i 0).val
  let c256_i32_20 : BitVec 32 := 256#32
  let v31 : BitVec 32 := Scalar.muli arg0 c256_i32_20
  let c8_i32 : BitVec 32 := 8#32
  let c0_i32_24 : BitVec 32 := 0#32
  ![v31.toNat, 8, 0]
def k0_off3 (i : grid0.Coords) : Fin 3 → Nat :=
  let arg0 : BitVec 32 := BitVec.ofNat 32 (i 0).val
  let c256_i32_39 : BitVec 32 := 256#32
  let v45 : BitVec 32 := Scalar.muli arg0 c256_i32_39
  let c16_i32 : BitVec 32 := 16#32
  let c0_i32_44 : BitVec 32 := 0#32
  ![v45.toNat, 16, 0]
def k0_off4 (i : grid0.Coords) : Fin 3 → Nat :=
  let arg0 : BitVec 32 := BitVec.ofNat 32 (i 0).val
  let c256_i32_57 : BitVec 32 := 256#32
  let v59 : BitVec 32 := Scalar.muli arg0 c256_i32_57
  let c24_i32 : BitVec 32 := 24#32
  let c0_i32_62 : BitVec 32 := 0#32
  ![v59.toNat, 24, 0]
def k0_off5 (i : grid0.Coords) : Fin 3 → Nat :=
  let arg0 : BitVec 32 := BitVec.ofNat 32 (i 0).val
  let c256_i32_76 : BitVec 32 := 256#32
  let v73 : BitVec 32 := Scalar.muli arg0 c256_i32_76
  let c32_i32 : BitVec 32 := 32#32
  let c0_i32_81 : BitVec 32 := 0#32
  ![v73.toNat, 32, 0]
def k0_off6 (i : grid0.Coords) : Fin 3 → Nat :=
  let arg0 : BitVec 32 := BitVec.ofNat 32 (i 0).val
  let c256_i32_95 : BitVec 32 := 256#32
  let v87 : BitVec 32 := Scalar.muli arg0 c256_i32_95
  let c40_i32 : BitVec 32 := 40#32
  let c0_i32_100 : BitVec 32 := 0#32
  ![v87.toNat, 40, 0]
def k0_off7 (i : grid0.Coords) : Fin 3 → Nat :=
  let arg0 : BitVec 32 := BitVec.ofNat 32 (i 0).val
  let c256_i32_114 : BitVec 32 := 256#32
  let v101 : BitVec 32 := Scalar.muli arg0 c256_i32_114
  let c48_i32 : BitVec 32 := 48#32
  let c0_i32_119 : BitVec 32 := 0#32
  ![v101.toNat, 48, 0]
def k0_off8 (i : grid0.Coords) : Fin 3 → Nat :=
  let arg0 : BitVec 32 := BitVec.ofNat 32 (i 0).val
  let c256_i32_133 : BitVec 32 := 256#32
  let v115 : BitVec 32 := Scalar.muli arg0 c256_i32_133
  let c56_i32 : BitVec 32 := 56#32
  let c0_i32_138 : BitVec 32 := 0#32
  ![v115.toNat, 56, 0]
def k0_off9 (i : grid0.Coords) : Fin 3 → Nat :=
  let arg0 : BitVec 32 := BitVec.ofNat 32 (i 0).val
  let c256_i32_152 : BitVec 32 := 256#32
  let v129 : BitVec 32 := Scalar.muli arg0 c256_i32_152
  let c64_i32 : BitVec 32 := 64#32
  let c0_i32_157 : BitVec 32 := 0#32
  ![v129.toNat, 64, 0]
def k0_off10 (i : grid0.Coords) : Fin 3 → Nat :=
  let arg0 : BitVec 32 := BitVec.ofNat 32 (i 0).val
  let c256_i32_171 : BitVec 32 := 256#32
  let v143 : BitVec 32 := Scalar.muli arg0 c256_i32_171
  let c72_i32 : BitVec 32 := 72#32
  let c0_i32_176 : BitVec 32 := 0#32
  ![v143.toNat, 72, 0]
def k0_off11 (i : grid0.Coords) : Fin 3 → Nat :=
  let arg0 : BitVec 32 := BitVec.ofNat 32 (i 0).val
  let c256_i32_190 : BitVec 32 := 256#32
  let v157 : BitVec 32 := Scalar.muli arg0 c256_i32_190
  let c80_i32 : BitVec 32 := 80#32
  let c0_i32_195 : BitVec 32 := 0#32
  ![v157.toNat, 80, 0]
def k0_off12 (i : grid0.Coords) : Fin 3 → Nat :=
  let arg0 : BitVec 32 := BitVec.ofNat 32 (i 0).val
  let c256_i32_209 : BitVec 32 := 256#32
  let v171 : BitVec 32 := Scalar.muli arg0 c256_i32_209
  let c88_i32 : BitVec 32 := 88#32
  let c0_i32_214 : BitVec 32 := 0#32
  ![v171.toNat, 88, 0]
def k0_off13 (i : grid0.Coords) : Fin 3 → Nat :=
  let arg0 : BitVec 32 := BitVec.ofNat 32 (i 0).val
  let c256_i32_228 : BitVec 32 := 256#32
  let v185 : BitVec 32 := Scalar.muli arg0 c256_i32_228
  let c96_i32 : BitVec 32 := 96#32
  let c0_i32_233 : BitVec 32 := 0#32
  ![v185.toNat, 96, 0]
def k0_off14 (i : grid0.Coords) : Fin 3 → Nat :=
  let arg0 : BitVec 32 := BitVec.ofNat 32 (i 0).val
  let c256_i32_247 : BitVec 32 := 256#32
  let v199 : BitVec 32 := Scalar.muli arg0 c256_i32_247
  let c104_i32 : BitVec 32 := 104#32
  let c0_i32_252 : BitVec 32 := 0#32
  ![v199.toNat, 104, 0]
def k0_off15 (i : grid0.Coords) : Fin 3 → Nat :=
  let arg0 : BitVec 32 := BitVec.ofNat 32 (i 0).val
  let c256_i32_266 : BitVec 32 := 256#32
  let v213 : BitVec 32 := Scalar.muli arg0 c256_i32_266
  let c112_i32 : BitVec 32 := 112#32
  let c0_i32_271 : BitVec 32 := 0#32
  ![v213.toNat, 112, 0]
def k0_off16 (i : grid0.Coords) : Fin 3 → Nat :=
  let arg0 : BitVec 32 := BitVec.ofNat 32 (i 0).val
  let c256_i32_285 : BitVec 32 := 256#32
  let v227 : BitVec 32 := Scalar.muli arg0 c256_i32_285
  let c120_i32 : BitVec 32 := 120#32
  let c0_i32_290 : BitVec 32 := 0#32
  ![v227.toNat, 120, 0]
@[reducible] def k0_t1_loop : Scf.Loop 32 :=
  let c1_i32_659 : BitVec 32 := 1#32
  let c127_i32 : BitVec 32 := 127#32
  let v483 : BitVec 32 := Scalar.addi c1_i32_659 c127_i32
  let c1_i32_660 : BitVec 32 := 1#32
  ⟨c1_i32_659, v483, c1_i32_660⟩
def k0_off17 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v692 : Index := Scalar.indexCast arg18
  let c0_998 : Index := 0#32
  ![v692.toNat, 0]
def k0_off18 (v693 : BitVec 32) : Fin 3 → Nat :=
  let v694 : Index := Scalar.indexCast v693
  let c0_999 : Index := 0#32
  let c0_1000 : Index := 0#32
  ![v694.toNat, 0, 0]

def k0_chk1 (v693 : BitVec 32) : Prop :=
  (∀ a, (k0_off18 v693) a + S1x1x128.size a ≤ S128x256x128.size a)
theorem k0_off18_inb : ∀ (v693 : BitVec 32) (k0_hw1 : k0_chk1 v693), ∀ a, (k0_off18 v693) a + S1x1x128.size a ≤ S128x256x128.size a := fun v693 k0_hw1 => k0_hw1

def k0_off19 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v704 : Index := Scalar.indexCast arg18
  let c1_1009 : Index := 1#32
  ![v704.toNat, 1]
def k0_off20 (v705 : BitVec 32) : Fin 3 → Nat :=
  let v706 : Index := Scalar.indexCast v705
  let c1_1010 : Index := 1#32
  let c0_1011 : Index := 0#32
  ![v706.toNat, 1, 0]

def k0_chk2 (v705 : BitVec 32) : Prop :=
  (∀ a, (k0_off20 v705) a + S1x1x128.size a ≤ S128x256x128.size a)
theorem k0_off20_inb : ∀ (v705 : BitVec 32) (k0_hw2 : k0_chk2 v705), ∀ a, (k0_off20 v705) a + S1x1x128.size a ≤ S128x256x128.size a := fun v705 k0_hw2 => k0_hw2

def k0_off21 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v716 : Index := Scalar.indexCast arg18
  let c2 : Index := 2#32
  ![v716.toNat, 2]
def k0_off22 (v717 : BitVec 32) : Fin 3 → Nat :=
  let v718 : Index := Scalar.indexCast v717
  let c2_1020 : Index := 2#32
  let c0_1021 : Index := 0#32
  ![v718.toNat, 2, 0]

def k0_chk3 (v717 : BitVec 32) : Prop :=
  (∀ a, (k0_off22 v717) a + S1x1x128.size a ≤ S128x256x128.size a)
theorem k0_off22_inb : ∀ (v717 : BitVec 32) (k0_hw3 : k0_chk3 v717), ∀ a, (k0_off22 v717) a + S1x1x128.size a ≤ S128x256x128.size a := fun v717 k0_hw3 => k0_hw3

def k0_off23 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v728 : Index := Scalar.indexCast arg18
  let c3 : Index := 3#32
  ![v728.toNat, 3]
def k0_off24 (v729 : BitVec 32) : Fin 3 → Nat :=
  let v730 : Index := Scalar.indexCast v729
  let c3_1030 : Index := 3#32
  let c0_1031 : Index := 0#32
  ![v730.toNat, 3, 0]

def k0_chk4 (v729 : BitVec 32) : Prop :=
  (∀ a, (k0_off24 v729) a + S1x1x128.size a ≤ S128x256x128.size a)
theorem k0_off24_inb : ∀ (v729 : BitVec 32) (k0_hw4 : k0_chk4 v729), ∀ a, (k0_off24 v729) a + S1x1x128.size a ≤ S128x256x128.size a := fun v729 k0_hw4 => k0_hw4

def k0_off25 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v740 : Index := Scalar.indexCast arg18
  let c4 : Index := 4#32
  ![v740.toNat, 4]
def k0_off26 (v741 : BitVec 32) : Fin 3 → Nat :=
  let v742 : Index := Scalar.indexCast v741
  let c4_1040 : Index := 4#32
  let c0_1041 : Index := 0#32
  ![v742.toNat, 4, 0]

def k0_chk5 (v741 : BitVec 32) : Prop :=
  (∀ a, (k0_off26 v741) a + S1x1x128.size a ≤ S128x256x128.size a)
theorem k0_off26_inb : ∀ (v741 : BitVec 32) (k0_hw5 : k0_chk5 v741), ∀ a, (k0_off26 v741) a + S1x1x128.size a ≤ S128x256x128.size a := fun v741 k0_hw5 => k0_hw5

def k0_off27 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v752 : Index := Scalar.indexCast arg18
  let c5 : Index := 5#32
  ![v752.toNat, 5]
def k0_off28 (v753 : BitVec 32) : Fin 3 → Nat :=
  let v754 : Index := Scalar.indexCast v753
  let c5_1050 : Index := 5#32
  let c0_1051 : Index := 0#32
  ![v754.toNat, 5, 0]

def k0_chk6 (v753 : BitVec 32) : Prop :=
  (∀ a, (k0_off28 v753) a + S1x1x128.size a ≤ S128x256x128.size a)
theorem k0_off28_inb : ∀ (v753 : BitVec 32) (k0_hw6 : k0_chk6 v753), ∀ a, (k0_off28 v753) a + S1x1x128.size a ≤ S128x256x128.size a := fun v753 k0_hw6 => k0_hw6

def k0_off29 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v764 : Index := Scalar.indexCast arg18
  let c6 : Index := 6#32
  ![v764.toNat, 6]
def k0_off30 (v765 : BitVec 32) : Fin 3 → Nat :=
  let v766 : Index := Scalar.indexCast v765
  let c6_1060 : Index := 6#32
  let c0_1061 : Index := 0#32
  ![v766.toNat, 6, 0]

def k0_chk7 (v765 : BitVec 32) : Prop :=
  (∀ a, (k0_off30 v765) a + S1x1x128.size a ≤ S128x256x128.size a)
theorem k0_off30_inb : ∀ (v765 : BitVec 32) (k0_hw7 : k0_chk7 v765), ∀ a, (k0_off30 v765) a + S1x1x128.size a ≤ S128x256x128.size a := fun v765 k0_hw7 => k0_hw7

def k0_off31 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v776 : Index := Scalar.indexCast arg18
  let c7 : Index := 7#32
  ![v776.toNat, 7]
def k0_off32 (v777 : BitVec 32) : Fin 3 → Nat :=
  let v778 : Index := Scalar.indexCast v777
  let c7_1070 : Index := 7#32
  let c0_1071 : Index := 0#32
  ![v778.toNat, 7, 0]

def k0_chk8 (v777 : BitVec 32) : Prop :=
  (∀ a, (k0_off32 v777) a + S1x1x128.size a ≤ S128x256x128.size a)
theorem k0_off32_inb : ∀ (v777 : BitVec 32) (k0_hw8 : k0_chk8 v777), ∀ a, (k0_off32 v777) a + S1x1x128.size a ≤ S128x256x128.size a := fun v777 k0_hw8 => k0_hw8

def k0_off33 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v788 : Index := Scalar.indexCast arg18
  let c8_1080 : Index := 8#32
  ![v788.toNat, 8]
def k0_off34 (v789 : BitVec 32) : Fin 3 → Nat :=
  let v790 : Index := Scalar.indexCast v789
  let c8_1081 : Index := 8#32
  let c0_1082 : Index := 0#32
  ![v790.toNat, 8, 0]

def k0_chk9 (v789 : BitVec 32) : Prop :=
  (∀ a, (k0_off34 v789) a + S1x1x128.size a ≤ S128x256x128.size a)
theorem k0_off34_inb : ∀ (v789 : BitVec 32) (k0_hw9 : k0_chk9 v789), ∀ a, (k0_off34 v789) a + S1x1x128.size a ≤ S128x256x128.size a := fun v789 k0_hw9 => k0_hw9

def k0_off35 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v800 : Index := Scalar.indexCast arg18
  let c9 : Index := 9#32
  ![v800.toNat, 9]
def k0_off36 (v801 : BitVec 32) : Fin 3 → Nat :=
  let v802 : Index := Scalar.indexCast v801
  let c9_1091 : Index := 9#32
  let c0_1092 : Index := 0#32
  ![v802.toNat, 9, 0]

def k0_chk10 (v801 : BitVec 32) : Prop :=
  (∀ a, (k0_off36 v801) a + S1x1x128.size a ≤ S128x256x128.size a)
theorem k0_off36_inb : ∀ (v801 : BitVec 32) (k0_hw10 : k0_chk10 v801), ∀ a, (k0_off36 v801) a + S1x1x128.size a ≤ S128x256x128.size a := fun v801 k0_hw10 => k0_hw10

def k0_off37 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v812 : Index := Scalar.indexCast arg18
  let c10 : Index := 10#32
  ![v812.toNat, 10]
def k0_off38 (v813 : BitVec 32) : Fin 3 → Nat :=
  let v814 : Index := Scalar.indexCast v813
  let c10_1101 : Index := 10#32
  let c0_1102 : Index := 0#32
  ![v814.toNat, 10, 0]

def k0_chk11 (v813 : BitVec 32) : Prop :=
  (∀ a, (k0_off38 v813) a + S1x1x128.size a ≤ S128x256x128.size a)
theorem k0_off38_inb : ∀ (v813 : BitVec 32) (k0_hw11 : k0_chk11 v813), ∀ a, (k0_off38 v813) a + S1x1x128.size a ≤ S128x256x128.size a := fun v813 k0_hw11 => k0_hw11

def k0_off39 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v824 : Index := Scalar.indexCast arg18
  let c11 : Index := 11#32
  ![v824.toNat, 11]
def k0_off40 (v825 : BitVec 32) : Fin 3 → Nat :=
  let v826 : Index := Scalar.indexCast v825
  let c11_1111 : Index := 11#32
  let c0_1112 : Index := 0#32
  ![v826.toNat, 11, 0]

def k0_chk12 (v825 : BitVec 32) : Prop :=
  (∀ a, (k0_off40 v825) a + S1x1x128.size a ≤ S128x256x128.size a)
theorem k0_off40_inb : ∀ (v825 : BitVec 32) (k0_hw12 : k0_chk12 v825), ∀ a, (k0_off40 v825) a + S1x1x128.size a ≤ S128x256x128.size a := fun v825 k0_hw12 => k0_hw12

def k0_off41 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v836 : Index := Scalar.indexCast arg18
  let c12 : Index := 12#32
  ![v836.toNat, 12]
def k0_off42 (v837 : BitVec 32) : Fin 3 → Nat :=
  let v838 : Index := Scalar.indexCast v837
  let c12_1121 : Index := 12#32
  let c0_1122 : Index := 0#32
  ![v838.toNat, 12, 0]

def k0_chk13 (v837 : BitVec 32) : Prop :=
  (∀ a, (k0_off42 v837) a + S1x1x128.size a ≤ S128x256x128.size a)
theorem k0_off42_inb : ∀ (v837 : BitVec 32) (k0_hw13 : k0_chk13 v837), ∀ a, (k0_off42 v837) a + S1x1x128.size a ≤ S128x256x128.size a := fun v837 k0_hw13 => k0_hw13

def k0_off43 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v848 : Index := Scalar.indexCast arg18
  let c13 : Index := 13#32
  ![v848.toNat, 13]
def k0_off44 (v849 : BitVec 32) : Fin 3 → Nat :=
  let v850 : Index := Scalar.indexCast v849
  let c13_1131 : Index := 13#32
  let c0_1132 : Index := 0#32
  ![v850.toNat, 13, 0]

def k0_chk14 (v849 : BitVec 32) : Prop :=
  (∀ a, (k0_off44 v849) a + S1x1x128.size a ≤ S128x256x128.size a)
theorem k0_off44_inb : ∀ (v849 : BitVec 32) (k0_hw14 : k0_chk14 v849), ∀ a, (k0_off44 v849) a + S1x1x128.size a ≤ S128x256x128.size a := fun v849 k0_hw14 => k0_hw14

def k0_off45 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v860 : Index := Scalar.indexCast arg18
  let c14 : Index := 14#32
  ![v860.toNat, 14]
def k0_off46 (v861 : BitVec 32) : Fin 3 → Nat :=
  let v862 : Index := Scalar.indexCast v861
  let c14_1141 : Index := 14#32
  let c0_1142 : Index := 0#32
  ![v862.toNat, 14, 0]

def k0_chk15 (v861 : BitVec 32) : Prop :=
  (∀ a, (k0_off46 v861) a + S1x1x128.size a ≤ S128x256x128.size a)
theorem k0_off46_inb : ∀ (v861 : BitVec 32) (k0_hw15 : k0_chk15 v861), ∀ a, (k0_off46 v861) a + S1x1x128.size a ≤ S128x256x128.size a := fun v861 k0_hw15 => k0_hw15

def k0_off47 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v872 : Index := Scalar.indexCast arg18
  let c15 : Index := 15#32
  ![v872.toNat, 15]
def k0_off48 (v873 : BitVec 32) : Fin 3 → Nat :=
  let v874 : Index := Scalar.indexCast v873
  let c15_1151 : Index := 15#32
  let c0_1152 : Index := 0#32
  ![v874.toNat, 15, 0]

def k0_chk16 (v873 : BitVec 32) : Prop :=
  (∀ a, (k0_off48 v873) a + S1x1x128.size a ≤ S128x256x128.size a)
theorem k0_off48_inb : ∀ (v873 : BitVec 32) (k0_hw16 : k0_chk16 v873), ∀ a, (k0_off48 v873) a + S1x1x128.size a ≤ S128x256x128.size a := fun v873 k0_hw16 => k0_hw16

def k0_off49 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v884 : Index := Scalar.indexCast arg18
  let c16_1161 : Index := 16#32
  ![v884.toNat, 16]
def k0_off50 (v885 : BitVec 32) : Fin 3 → Nat :=
  let v886 : Index := Scalar.indexCast v885
  let c16_1162 : Index := 16#32
  let c0_1163 : Index := 0#32
  ![v886.toNat, 16, 0]

def k0_chk17 (v885 : BitVec 32) : Prop :=
  (∀ a, (k0_off50 v885) a + S1x1x128.size a ≤ S128x256x128.size a)
theorem k0_off50_inb : ∀ (v885 : BitVec 32) (k0_hw17 : k0_chk17 v885), ∀ a, (k0_off50 v885) a + S1x1x128.size a ≤ S128x256x128.size a := fun v885 k0_hw17 => k0_hw17

def k0_off51 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v896 : Index := Scalar.indexCast arg18
  let c17 : Index := 17#32
  ![v896.toNat, 17]
def k0_off52 (v897 : BitVec 32) : Fin 3 → Nat :=
  let v898 : Index := Scalar.indexCast v897
  let c17_1172 : Index := 17#32
  let c0_1173 : Index := 0#32
  ![v898.toNat, 17, 0]

def k0_chk18 (v897 : BitVec 32) : Prop :=
  (∀ a, (k0_off52 v897) a + S1x1x128.size a ≤ S128x256x128.size a)
theorem k0_off52_inb : ∀ (v897 : BitVec 32) (k0_hw18 : k0_chk18 v897), ∀ a, (k0_off52 v897) a + S1x1x128.size a ≤ S128x256x128.size a := fun v897 k0_hw18 => k0_hw18

def k0_off53 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v908 : Index := Scalar.indexCast arg18
  let c18 : Index := 18#32
  ![v908.toNat, 18]
def k0_off54 (v909 : BitVec 32) : Fin 3 → Nat :=
  let v910 : Index := Scalar.indexCast v909
  let c18_1182 : Index := 18#32
  let c0_1183 : Index := 0#32
  ![v910.toNat, 18, 0]

def k0_chk19 (v909 : BitVec 32) : Prop :=
  (∀ a, (k0_off54 v909) a + S1x1x128.size a ≤ S128x256x128.size a)
theorem k0_off54_inb : ∀ (v909 : BitVec 32) (k0_hw19 : k0_chk19 v909), ∀ a, (k0_off54 v909) a + S1x1x128.size a ≤ S128x256x128.size a := fun v909 k0_hw19 => k0_hw19

def k0_off55 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v920 : Index := Scalar.indexCast arg18
  let c19 : Index := 19#32
  ![v920.toNat, 19]
def k0_off56 (v921 : BitVec 32) : Fin 3 → Nat :=
  let v922 : Index := Scalar.indexCast v921
  let c19_1192 : Index := 19#32
  let c0_1193 : Index := 0#32
  ![v922.toNat, 19, 0]

def k0_chk20 (v921 : BitVec 32) : Prop :=
  (∀ a, (k0_off56 v921) a + S1x1x128.size a ≤ S128x256x128.size a)
theorem k0_off56_inb : ∀ (v921 : BitVec 32) (k0_hw20 : k0_chk20 v921), ∀ a, (k0_off56 v921) a + S1x1x128.size a ≤ S128x256x128.size a := fun v921 k0_hw20 => k0_hw20

def k0_off57 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v932 : Index := Scalar.indexCast arg18
  let c20 : Index := 20#32
  ![v932.toNat, 20]
def k0_off58 (v933 : BitVec 32) : Fin 3 → Nat :=
  let v934 : Index := Scalar.indexCast v933
  let c20_1202 : Index := 20#32
  let c0_1203 : Index := 0#32
  ![v934.toNat, 20, 0]

def k0_chk21 (v933 : BitVec 32) : Prop :=
  (∀ a, (k0_off58 v933) a + S1x1x128.size a ≤ S128x256x128.size a)
theorem k0_off58_inb : ∀ (v933 : BitVec 32) (k0_hw21 : k0_chk21 v933), ∀ a, (k0_off58 v933) a + S1x1x128.size a ≤ S128x256x128.size a := fun v933 k0_hw21 => k0_hw21

def k0_off59 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v944 : Index := Scalar.indexCast arg18
  let c21 : Index := 21#32
  ![v944.toNat, 21]
def k0_off60 (v945 : BitVec 32) : Fin 3 → Nat :=
  let v946 : Index := Scalar.indexCast v945
  let c21_1212 : Index := 21#32
  let c0_1213 : Index := 0#32
  ![v946.toNat, 21, 0]

def k0_chk22 (v945 : BitVec 32) : Prop :=
  (∀ a, (k0_off60 v945) a + S1x1x128.size a ≤ S128x256x128.size a)
theorem k0_off60_inb : ∀ (v945 : BitVec 32) (k0_hw22 : k0_chk22 v945), ∀ a, (k0_off60 v945) a + S1x1x128.size a ≤ S128x256x128.size a := fun v945 k0_hw22 => k0_hw22

def k0_off61 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v956 : Index := Scalar.indexCast arg18
  let c22 : Index := 22#32
  ![v956.toNat, 22]
def k0_off62 (v957 : BitVec 32) : Fin 3 → Nat :=
  let v958 : Index := Scalar.indexCast v957
  let c22_1222 : Index := 22#32
  let c0_1223 : Index := 0#32
  ![v958.toNat, 22, 0]

def k0_chk23 (v957 : BitVec 32) : Prop :=
  (∀ a, (k0_off62 v957) a + S1x1x128.size a ≤ S128x256x128.size a)
theorem k0_off62_inb : ∀ (v957 : BitVec 32) (k0_hw23 : k0_chk23 v957), ∀ a, (k0_off62 v957) a + S1x1x128.size a ≤ S128x256x128.size a := fun v957 k0_hw23 => k0_hw23

def k0_off63 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v968 : Index := Scalar.indexCast arg18
  let c23 : Index := 23#32
  ![v968.toNat, 23]
def k0_off64 (v969 : BitVec 32) : Fin 3 → Nat :=
  let v970 : Index := Scalar.indexCast v969
  let c23_1232 : Index := 23#32
  let c0_1233 : Index := 0#32
  ![v970.toNat, 23, 0]

def k0_chk24 (v969 : BitVec 32) : Prop :=
  (∀ a, (k0_off64 v969) a + S1x1x128.size a ≤ S128x256x128.size a)
theorem k0_off64_inb : ∀ (v969 : BitVec 32) (k0_hw24 : k0_chk24 v969), ∀ a, (k0_off64 v969) a + S1x1x128.size a ≤ S128x256x128.size a := fun v969 k0_hw24 => k0_hw24

def k0_off65 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v980 : Index := Scalar.indexCast arg18
  let c24_1242 : Index := 24#32
  ![v980.toNat, 24]
def k0_off66 (v981 : BitVec 32) : Fin 3 → Nat :=
  let v982 : Index := Scalar.indexCast v981
  let c24_1243 : Index := 24#32
  let c0_1244 : Index := 0#32
  ![v982.toNat, 24, 0]

def k0_chk25 (v981 : BitVec 32) : Prop :=
  (∀ a, (k0_off66 v981) a + S1x1x128.size a ≤ S128x256x128.size a)
theorem k0_off66_inb : ∀ (v981 : BitVec 32) (k0_hw25 : k0_chk25 v981), ∀ a, (k0_off66 v981) a + S1x1x128.size a ≤ S128x256x128.size a := fun v981 k0_hw25 => k0_hw25

def k0_off67 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v992 : Index := Scalar.indexCast arg18
  let c25 : Index := 25#32
  ![v992.toNat, 25]
def k0_off68 (v993 : BitVec 32) : Fin 3 → Nat :=
  let v994 : Index := Scalar.indexCast v993
  let c25_1253 : Index := 25#32
  let c0_1254 : Index := 0#32
  ![v994.toNat, 25, 0]

def k0_chk26 (v993 : BitVec 32) : Prop :=
  (∀ a, (k0_off68 v993) a + S1x1x128.size a ≤ S128x256x128.size a)
theorem k0_off68_inb : ∀ (v993 : BitVec 32) (k0_hw26 : k0_chk26 v993), ∀ a, (k0_off68 v993) a + S1x1x128.size a ≤ S128x256x128.size a := fun v993 k0_hw26 => k0_hw26

def k0_off69 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1004 : Index := Scalar.indexCast arg18
  let c26 : Index := 26#32
  ![v1004.toNat, 26]
def k0_off70 (v1005 : BitVec 32) : Fin 3 → Nat :=
  let v1006 : Index := Scalar.indexCast v1005
  let c26_1263 : Index := 26#32
  let c0_1264 : Index := 0#32
  ![v1006.toNat, 26, 0]

def k0_chk27 (v1005 : BitVec 32) : Prop :=
  (∀ a, (k0_off70 v1005) a + S1x1x128.size a ≤ S128x256x128.size a)
theorem k0_off70_inb : ∀ (v1005 : BitVec 32) (k0_hw27 : k0_chk27 v1005), ∀ a, (k0_off70 v1005) a + S1x1x128.size a ≤ S128x256x128.size a := fun v1005 k0_hw27 => k0_hw27

def k0_off71 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1016 : Index := Scalar.indexCast arg18
  let c27 : Index := 27#32
  ![v1016.toNat, 27]
def k0_off72 (v1017 : BitVec 32) : Fin 3 → Nat :=
  let v1018 : Index := Scalar.indexCast v1017
  let c27_1273 : Index := 27#32
  let c0_1274 : Index := 0#32
  ![v1018.toNat, 27, 0]

def k0_chk28 (v1017 : BitVec 32) : Prop :=
  (∀ a, (k0_off72 v1017) a + S1x1x128.size a ≤ S128x256x128.size a)
theorem k0_off72_inb : ∀ (v1017 : BitVec 32) (k0_hw28 : k0_chk28 v1017), ∀ a, (k0_off72 v1017) a + S1x1x128.size a ≤ S128x256x128.size a := fun v1017 k0_hw28 => k0_hw28

def k0_off73 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1028 : Index := Scalar.indexCast arg18
  let c28 : Index := 28#32
  ![v1028.toNat, 28]
def k0_off74 (v1029 : BitVec 32) : Fin 3 → Nat :=
  let v1030 : Index := Scalar.indexCast v1029
  let c28_1283 : Index := 28#32
  let c0_1284 : Index := 0#32
  ![v1030.toNat, 28, 0]

def k0_chk29 (v1029 : BitVec 32) : Prop :=
  (∀ a, (k0_off74 v1029) a + S1x1x128.size a ≤ S128x256x128.size a)
theorem k0_off74_inb : ∀ (v1029 : BitVec 32) (k0_hw29 : k0_chk29 v1029), ∀ a, (k0_off74 v1029) a + S1x1x128.size a ≤ S128x256x128.size a := fun v1029 k0_hw29 => k0_hw29

def k0_off75 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1040 : Index := Scalar.indexCast arg18
  let c29 : Index := 29#32
  ![v1040.toNat, 29]
def k0_off76 (v1041 : BitVec 32) : Fin 3 → Nat :=
  let v1042 : Index := Scalar.indexCast v1041
  let c29_1293 : Index := 29#32
  let c0_1294 : Index := 0#32
  ![v1042.toNat, 29, 0]

def k0_chk30 (v1041 : BitVec 32) : Prop :=
  (∀ a, (k0_off76 v1041) a + S1x1x128.size a ≤ S128x256x128.size a)
theorem k0_off76_inb : ∀ (v1041 : BitVec 32) (k0_hw30 : k0_chk30 v1041), ∀ a, (k0_off76 v1041) a + S1x1x128.size a ≤ S128x256x128.size a := fun v1041 k0_hw30 => k0_hw30

def k0_off77 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1052 : Index := Scalar.indexCast arg18
  let c30 : Index := 30#32
  ![v1052.toNat, 30]
def k0_off78 (v1053 : BitVec 32) : Fin 3 → Nat :=
  let v1054 : Index := Scalar.indexCast v1053
  let c30_1303 : Index := 30#32
  let c0_1304 : Index := 0#32
  ![v1054.toNat, 30, 0]

def k0_chk31 (v1053 : BitVec 32) : Prop :=
  (∀ a, (k0_off78 v1053) a + S1x1x128.size a ≤ S128x256x128.size a)
theorem k0_off78_inb : ∀ (v1053 : BitVec 32) (k0_hw31 : k0_chk31 v1053), ∀ a, (k0_off78 v1053) a + S1x1x128.size a ≤ S128x256x128.size a := fun v1053 k0_hw31 => k0_hw31

def k0_off79 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1064 : Index := Scalar.indexCast arg18
  let c31 : Index := 31#32
  ![v1064.toNat, 31]
def k0_off80 (v1065 : BitVec 32) : Fin 3 → Nat :=
  let v1066 : Index := Scalar.indexCast v1065
  let c31_1313 : Index := 31#32
  let c0_1314 : Index := 0#32
  ![v1066.toNat, 31, 0]

def k0_chk32 (v1065 : BitVec 32) : Prop :=
  (∀ a, (k0_off80 v1065) a + S1x1x128.size a ≤ S128x256x128.size a)
theorem k0_off80_inb : ∀ (v1065 : BitVec 32) (k0_hw32 : k0_chk32 v1065), ∀ a, (k0_off80 v1065) a + S1x1x128.size a ≤ S128x256x128.size a := fun v1065 k0_hw32 => k0_hw32

def k0_off81 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1076 : Index := Scalar.indexCast arg18
  let c32_1323 : Index := 32#32
  ![v1076.toNat, 32]
def k0_off82 (v1077 : BitVec 32) : Fin 3 → Nat :=
  let v1078 : Index := Scalar.indexCast v1077
  let c32_1324 : Index := 32#32
  let c0_1325 : Index := 0#32
  ![v1078.toNat, 32, 0]

def k0_chk33 (v1077 : BitVec 32) : Prop :=
  (∀ a, (k0_off82 v1077) a + S1x1x128.size a ≤ S128x256x128.size a)
theorem k0_off82_inb : ∀ (v1077 : BitVec 32) (k0_hw33 : k0_chk33 v1077), ∀ a, (k0_off82 v1077) a + S1x1x128.size a ≤ S128x256x128.size a := fun v1077 k0_hw33 => k0_hw33

def k0_off83 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1088 : Index := Scalar.indexCast arg18
  let c33 : Index := 33#32
  ![v1088.toNat, 33]
def k0_off84 (v1089 : BitVec 32) : Fin 3 → Nat :=
  let v1090 : Index := Scalar.indexCast v1089
  let c33_1334 : Index := 33#32
  let c0_1335 : Index := 0#32
  ![v1090.toNat, 33, 0]

def k0_chk34 (v1089 : BitVec 32) : Prop :=
  (∀ a, (k0_off84 v1089) a + S1x1x128.size a ≤ S128x256x128.size a)
theorem k0_off84_inb : ∀ (v1089 : BitVec 32) (k0_hw34 : k0_chk34 v1089), ∀ a, (k0_off84 v1089) a + S1x1x128.size a ≤ S128x256x128.size a := fun v1089 k0_hw34 => k0_hw34

def k0_off85 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1100 : Index := Scalar.indexCast arg18
  let c34 : Index := 34#32
  ![v1100.toNat, 34]
def k0_off86 (v1101 : BitVec 32) : Fin 3 → Nat :=
  let v1102 : Index := Scalar.indexCast v1101
  let c34_1344 : Index := 34#32
  let c0_1345 : Index := 0#32
  ![v1102.toNat, 34, 0]

def k0_chk35 (v1101 : BitVec 32) : Prop :=
  (∀ a, (k0_off86 v1101) a + S1x1x128.size a ≤ S128x256x128.size a)
theorem k0_off86_inb : ∀ (v1101 : BitVec 32) (k0_hw35 : k0_chk35 v1101), ∀ a, (k0_off86 v1101) a + S1x1x128.size a ≤ S128x256x128.size a := fun v1101 k0_hw35 => k0_hw35

def k0_off87 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1112 : Index := Scalar.indexCast arg18
  let c35 : Index := 35#32
  ![v1112.toNat, 35]
def k0_off88 (v1113 : BitVec 32) : Fin 3 → Nat :=
  let v1114 : Index := Scalar.indexCast v1113
  let c35_1354 : Index := 35#32
  let c0_1355 : Index := 0#32
  ![v1114.toNat, 35, 0]

def k0_chk36 (v1113 : BitVec 32) : Prop :=
  (∀ a, (k0_off88 v1113) a + S1x1x128.size a ≤ S128x256x128.size a)
theorem k0_off88_inb : ∀ (v1113 : BitVec 32) (k0_hw36 : k0_chk36 v1113), ∀ a, (k0_off88 v1113) a + S1x1x128.size a ≤ S128x256x128.size a := fun v1113 k0_hw36 => k0_hw36

def k0_off89 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1124 : Index := Scalar.indexCast arg18
  let c36 : Index := 36#32
  ![v1124.toNat, 36]
def k0_off90 (v1125 : BitVec 32) : Fin 3 → Nat :=
  let v1126 : Index := Scalar.indexCast v1125
  let c36_1364 : Index := 36#32
  let c0_1365 : Index := 0#32
  ![v1126.toNat, 36, 0]

def k0_chk37 (v1125 : BitVec 32) : Prop :=
  (∀ a, (k0_off90 v1125) a + S1x1x128.size a ≤ S128x256x128.size a)
theorem k0_off90_inb : ∀ (v1125 : BitVec 32) (k0_hw37 : k0_chk37 v1125), ∀ a, (k0_off90 v1125) a + S1x1x128.size a ≤ S128x256x128.size a := fun v1125 k0_hw37 => k0_hw37

def k0_off91 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1136 : Index := Scalar.indexCast arg18
  let c37 : Index := 37#32
  ![v1136.toNat, 37]
def k0_off92 (v1137 : BitVec 32) : Fin 3 → Nat :=
  let v1138 : Index := Scalar.indexCast v1137
  let c37_1374 : Index := 37#32
  let c0_1375 : Index := 0#32
  ![v1138.toNat, 37, 0]

def k0_chk38 (v1137 : BitVec 32) : Prop :=
  (∀ a, (k0_off92 v1137) a + S1x1x128.size a ≤ S128x256x128.size a)
theorem k0_off92_inb : ∀ (v1137 : BitVec 32) (k0_hw38 : k0_chk38 v1137), ∀ a, (k0_off92 v1137) a + S1x1x128.size a ≤ S128x256x128.size a := fun v1137 k0_hw38 => k0_hw38

def k0_off93 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1148 : Index := Scalar.indexCast arg18
  let c38 : Index := 38#32
  ![v1148.toNat, 38]
def k0_off94 (v1149 : BitVec 32) : Fin 3 → Nat :=
  let v1150 : Index := Scalar.indexCast v1149
  let c38_1384 : Index := 38#32
  let c0_1385 : Index := 0#32
  ![v1150.toNat, 38, 0]

def k0_chk39 (v1149 : BitVec 32) : Prop :=
  (∀ a, (k0_off94 v1149) a + S1x1x128.size a ≤ S128x256x128.size a)
theorem k0_off94_inb : ∀ (v1149 : BitVec 32) (k0_hw39 : k0_chk39 v1149), ∀ a, (k0_off94 v1149) a + S1x1x128.size a ≤ S128x256x128.size a := fun v1149 k0_hw39 => k0_hw39

def k0_off95 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1160 : Index := Scalar.indexCast arg18
  let c39 : Index := 39#32
  ![v1160.toNat, 39]
def k0_off96 (v1161 : BitVec 32) : Fin 3 → Nat :=
  let v1162 : Index := Scalar.indexCast v1161
  let c39_1394 : Index := 39#32
  let c0_1395 : Index := 0#32
  ![v1162.toNat, 39, 0]

def k0_chk40 (v1161 : BitVec 32) : Prop :=
  (∀ a, (k0_off96 v1161) a + S1x1x128.size a ≤ S128x256x128.size a)
theorem k0_off96_inb : ∀ (v1161 : BitVec 32) (k0_hw40 : k0_chk40 v1161), ∀ a, (k0_off96 v1161) a + S1x1x128.size a ≤ S128x256x128.size a := fun v1161 k0_hw40 => k0_hw40

def k0_off97 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1172 : Index := Scalar.indexCast arg18
  let c40_1404 : Index := 40#32
  ![v1172.toNat, 40]
def k0_off98 (v1173 : BitVec 32) : Fin 3 → Nat :=
  let v1174 : Index := Scalar.indexCast v1173
  let c40_1405 : Index := 40#32
  let c0_1406 : Index := 0#32
  ![v1174.toNat, 40, 0]

def k0_chk41 (v1173 : BitVec 32) : Prop :=
  (∀ a, (k0_off98 v1173) a + S1x1x128.size a ≤ S128x256x128.size a)
theorem k0_off98_inb : ∀ (v1173 : BitVec 32) (k0_hw41 : k0_chk41 v1173), ∀ a, (k0_off98 v1173) a + S1x1x128.size a ≤ S128x256x128.size a := fun v1173 k0_hw41 => k0_hw41

def k0_off99 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1184 : Index := Scalar.indexCast arg18
  let c41 : Index := 41#32
  ![v1184.toNat, 41]
def k0_off100 (v1185 : BitVec 32) : Fin 3 → Nat :=
  let v1186 : Index := Scalar.indexCast v1185
  let c41_1415 : Index := 41#32
  let c0_1416 : Index := 0#32
  ![v1186.toNat, 41, 0]

def k0_chk42 (v1185 : BitVec 32) : Prop :=
  (∀ a, (k0_off100 v1185) a + S1x1x128.size a ≤ S128x256x128.size a)
theorem k0_off100_inb : ∀ (v1185 : BitVec 32) (k0_hw42 : k0_chk42 v1185), ∀ a, (k0_off100 v1185) a + S1x1x128.size a ≤ S128x256x128.size a := fun v1185 k0_hw42 => k0_hw42

def k0_off101 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1196 : Index := Scalar.indexCast arg18
  let c42 : Index := 42#32
  ![v1196.toNat, 42]
def k0_off102 (v1197 : BitVec 32) : Fin 3 → Nat :=
  let v1198 : Index := Scalar.indexCast v1197
  let c42_1425 : Index := 42#32
  let c0_1426 : Index := 0#32
  ![v1198.toNat, 42, 0]

def k0_chk43 (v1197 : BitVec 32) : Prop :=
  (∀ a, (k0_off102 v1197) a + S1x1x128.size a ≤ S128x256x128.size a)
theorem k0_off102_inb : ∀ (v1197 : BitVec 32) (k0_hw43 : k0_chk43 v1197), ∀ a, (k0_off102 v1197) a + S1x1x128.size a ≤ S128x256x128.size a := fun v1197 k0_hw43 => k0_hw43

def k0_off103 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1208 : Index := Scalar.indexCast arg18
  let c43 : Index := 43#32
  ![v1208.toNat, 43]
def k0_off104 (v1209 : BitVec 32) : Fin 3 → Nat :=
  let v1210 : Index := Scalar.indexCast v1209
  let c43_1435 : Index := 43#32
  let c0_1436 : Index := 0#32
  ![v1210.toNat, 43, 0]

def k0_chk44 (v1209 : BitVec 32) : Prop :=
  (∀ a, (k0_off104 v1209) a + S1x1x128.size a ≤ S128x256x128.size a)
theorem k0_off104_inb : ∀ (v1209 : BitVec 32) (k0_hw44 : k0_chk44 v1209), ∀ a, (k0_off104 v1209) a + S1x1x128.size a ≤ S128x256x128.size a := fun v1209 k0_hw44 => k0_hw44

def k0_off105 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1220 : Index := Scalar.indexCast arg18
  let c44 : Index := 44#32
  ![v1220.toNat, 44]
def k0_off106 (v1221 : BitVec 32) : Fin 3 → Nat :=
  let v1222 : Index := Scalar.indexCast v1221
  let c44_1445 : Index := 44#32
  let c0_1446 : Index := 0#32
  ![v1222.toNat, 44, 0]

def k0_chk45 (v1221 : BitVec 32) : Prop :=
  (∀ a, (k0_off106 v1221) a + S1x1x128.size a ≤ S128x256x128.size a)
theorem k0_off106_inb : ∀ (v1221 : BitVec 32) (k0_hw45 : k0_chk45 v1221), ∀ a, (k0_off106 v1221) a + S1x1x128.size a ≤ S128x256x128.size a := fun v1221 k0_hw45 => k0_hw45

def k0_off107 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1232 : Index := Scalar.indexCast arg18
  let c45 : Index := 45#32
  ![v1232.toNat, 45]
def k0_off108 (v1233 : BitVec 32) : Fin 3 → Nat :=
  let v1234 : Index := Scalar.indexCast v1233
  let c45_1455 : Index := 45#32
  let c0_1456 : Index := 0#32
  ![v1234.toNat, 45, 0]

def k0_chk46 (v1233 : BitVec 32) : Prop :=
  (∀ a, (k0_off108 v1233) a + S1x1x128.size a ≤ S128x256x128.size a)
theorem k0_off108_inb : ∀ (v1233 : BitVec 32) (k0_hw46 : k0_chk46 v1233), ∀ a, (k0_off108 v1233) a + S1x1x128.size a ≤ S128x256x128.size a := fun v1233 k0_hw46 => k0_hw46

def k0_off109 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1244 : Index := Scalar.indexCast arg18
  let c46 : Index := 46#32
  ![v1244.toNat, 46]
def k0_off110 (v1245 : BitVec 32) : Fin 3 → Nat :=
  let v1246 : Index := Scalar.indexCast v1245
  let c46_1465 : Index := 46#32
  let c0_1466 : Index := 0#32
  ![v1246.toNat, 46, 0]

def k0_chk47 (v1245 : BitVec 32) : Prop :=
  (∀ a, (k0_off110 v1245) a + S1x1x128.size a ≤ S128x256x128.size a)
theorem k0_off110_inb : ∀ (v1245 : BitVec 32) (k0_hw47 : k0_chk47 v1245), ∀ a, (k0_off110 v1245) a + S1x1x128.size a ≤ S128x256x128.size a := fun v1245 k0_hw47 => k0_hw47

def k0_off111 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1256 : Index := Scalar.indexCast arg18
  let c47 : Index := 47#32
  ![v1256.toNat, 47]
def k0_off112 (v1257 : BitVec 32) : Fin 3 → Nat :=
  let v1258 : Index := Scalar.indexCast v1257
  let c47_1475 : Index := 47#32
  let c0_1476 : Index := 0#32
  ![v1258.toNat, 47, 0]

def k0_chk48 (v1257 : BitVec 32) : Prop :=
  (∀ a, (k0_off112 v1257) a + S1x1x128.size a ≤ S128x256x128.size a)
theorem k0_off112_inb : ∀ (v1257 : BitVec 32) (k0_hw48 : k0_chk48 v1257), ∀ a, (k0_off112 v1257) a + S1x1x128.size a ≤ S128x256x128.size a := fun v1257 k0_hw48 => k0_hw48

def k0_off113 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1268 : Index := Scalar.indexCast arg18
  let c48_1485 : Index := 48#32
  ![v1268.toNat, 48]
def k0_off114 (v1269 : BitVec 32) : Fin 3 → Nat :=
  let v1270 : Index := Scalar.indexCast v1269
  let c48_1486 : Index := 48#32
  let c0_1487 : Index := 0#32
  ![v1270.toNat, 48, 0]

def k0_chk49 (v1269 : BitVec 32) : Prop :=
  (∀ a, (k0_off114 v1269) a + S1x1x128.size a ≤ S128x256x128.size a)
theorem k0_off114_inb : ∀ (v1269 : BitVec 32) (k0_hw49 : k0_chk49 v1269), ∀ a, (k0_off114 v1269) a + S1x1x128.size a ≤ S128x256x128.size a := fun v1269 k0_hw49 => k0_hw49

def k0_off115 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1280 : Index := Scalar.indexCast arg18
  let c49 : Index := 49#32
  ![v1280.toNat, 49]
def k0_off116 (v1281 : BitVec 32) : Fin 3 → Nat :=
  let v1282 : Index := Scalar.indexCast v1281
  let c49_1496 : Index := 49#32
  let c0_1497 : Index := 0#32
  ![v1282.toNat, 49, 0]

def k0_chk50 (v1281 : BitVec 32) : Prop :=
  (∀ a, (k0_off116 v1281) a + S1x1x128.size a ≤ S128x256x128.size a)
theorem k0_off116_inb : ∀ (v1281 : BitVec 32) (k0_hw50 : k0_chk50 v1281), ∀ a, (k0_off116 v1281) a + S1x1x128.size a ≤ S128x256x128.size a := fun v1281 k0_hw50 => k0_hw50

def k0_off117 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1292 : Index := Scalar.indexCast arg18
  let c50 : Index := 50#32
  ![v1292.toNat, 50]
def k0_off118 (v1293 : BitVec 32) : Fin 3 → Nat :=
  let v1294 : Index := Scalar.indexCast v1293
  let c50_1506 : Index := 50#32
  let c0_1507 : Index := 0#32
  ![v1294.toNat, 50, 0]

def k0_chk51 (v1293 : BitVec 32) : Prop :=
  (∀ a, (k0_off118 v1293) a + S1x1x128.size a ≤ S128x256x128.size a)
theorem k0_off118_inb : ∀ (v1293 : BitVec 32) (k0_hw51 : k0_chk51 v1293), ∀ a, (k0_off118 v1293) a + S1x1x128.size a ≤ S128x256x128.size a := fun v1293 k0_hw51 => k0_hw51

def k0_off119 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1304 : Index := Scalar.indexCast arg18
  let c51 : Index := 51#32
  ![v1304.toNat, 51]
def k0_off120 (v1305 : BitVec 32) : Fin 3 → Nat :=
  let v1306 : Index := Scalar.indexCast v1305
  let c51_1516 : Index := 51#32
  let c0_1517 : Index := 0#32
  ![v1306.toNat, 51, 0]

def k0_chk52 (v1305 : BitVec 32) : Prop :=
  (∀ a, (k0_off120 v1305) a + S1x1x128.size a ≤ S128x256x128.size a)
theorem k0_off120_inb : ∀ (v1305 : BitVec 32) (k0_hw52 : k0_chk52 v1305), ∀ a, (k0_off120 v1305) a + S1x1x128.size a ≤ S128x256x128.size a := fun v1305 k0_hw52 => k0_hw52

def k0_off121 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1316 : Index := Scalar.indexCast arg18
  let c52 : Index := 52#32
  ![v1316.toNat, 52]
def k0_off122 (v1317 : BitVec 32) : Fin 3 → Nat :=
  let v1318 : Index := Scalar.indexCast v1317
  let c52_1526 : Index := 52#32
  let c0_1527 : Index := 0#32
  ![v1318.toNat, 52, 0]

def k0_chk53 (v1317 : BitVec 32) : Prop :=
  (∀ a, (k0_off122 v1317) a + S1x1x128.size a ≤ S128x256x128.size a)
theorem k0_off122_inb : ∀ (v1317 : BitVec 32) (k0_hw53 : k0_chk53 v1317), ∀ a, (k0_off122 v1317) a + S1x1x128.size a ≤ S128x256x128.size a := fun v1317 k0_hw53 => k0_hw53

def k0_off123 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1328 : Index := Scalar.indexCast arg18
  let c53 : Index := 53#32
  ![v1328.toNat, 53]
def k0_off124 (v1329 : BitVec 32) : Fin 3 → Nat :=
  let v1330 : Index := Scalar.indexCast v1329
  let c53_1536 : Index := 53#32
  let c0_1537 : Index := 0#32
  ![v1330.toNat, 53, 0]

def k0_chk54 (v1329 : BitVec 32) : Prop :=
  (∀ a, (k0_off124 v1329) a + S1x1x128.size a ≤ S128x256x128.size a)
theorem k0_off124_inb : ∀ (v1329 : BitVec 32) (k0_hw54 : k0_chk54 v1329), ∀ a, (k0_off124 v1329) a + S1x1x128.size a ≤ S128x256x128.size a := fun v1329 k0_hw54 => k0_hw54

def k0_off125 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1340 : Index := Scalar.indexCast arg18
  let c54 : Index := 54#32
  ![v1340.toNat, 54]
def k0_off126 (v1341 : BitVec 32) : Fin 3 → Nat :=
  let v1342 : Index := Scalar.indexCast v1341
  let c54_1546 : Index := 54#32
  let c0_1547 : Index := 0#32
  ![v1342.toNat, 54, 0]

def k0_chk55 (v1341 : BitVec 32) : Prop :=
  (∀ a, (k0_off126 v1341) a + S1x1x128.size a ≤ S128x256x128.size a)
theorem k0_off126_inb : ∀ (v1341 : BitVec 32) (k0_hw55 : k0_chk55 v1341), ∀ a, (k0_off126 v1341) a + S1x1x128.size a ≤ S128x256x128.size a := fun v1341 k0_hw55 => k0_hw55

def k0_off127 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1352 : Index := Scalar.indexCast arg18
  let c55 : Index := 55#32
  ![v1352.toNat, 55]
def k0_off128 (v1353 : BitVec 32) : Fin 3 → Nat :=
  let v1354 : Index := Scalar.indexCast v1353
  let c55_1556 : Index := 55#32
  let c0_1557 : Index := 0#32
  ![v1354.toNat, 55, 0]

def k0_chk56 (v1353 : BitVec 32) : Prop :=
  (∀ a, (k0_off128 v1353) a + S1x1x128.size a ≤ S128x256x128.size a)
theorem k0_off128_inb : ∀ (v1353 : BitVec 32) (k0_hw56 : k0_chk56 v1353), ∀ a, (k0_off128 v1353) a + S1x1x128.size a ≤ S128x256x128.size a := fun v1353 k0_hw56 => k0_hw56

def k0_off129 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1364 : Index := Scalar.indexCast arg18
  let c56_1566 : Index := 56#32
  ![v1364.toNat, 56]
def k0_off130 (v1365 : BitVec 32) : Fin 3 → Nat :=
  let v1366 : Index := Scalar.indexCast v1365
  let c56_1567 : Index := 56#32
  let c0_1568 : Index := 0#32
  ![v1366.toNat, 56, 0]

def k0_chk57 (v1365 : BitVec 32) : Prop :=
  (∀ a, (k0_off130 v1365) a + S1x1x128.size a ≤ S128x256x128.size a)
theorem k0_off130_inb : ∀ (v1365 : BitVec 32) (k0_hw57 : k0_chk57 v1365), ∀ a, (k0_off130 v1365) a + S1x1x128.size a ≤ S128x256x128.size a := fun v1365 k0_hw57 => k0_hw57

def k0_off131 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1376 : Index := Scalar.indexCast arg18
  let c57 : Index := 57#32
  ![v1376.toNat, 57]
def k0_off132 (v1377 : BitVec 32) : Fin 3 → Nat :=
  let v1378 : Index := Scalar.indexCast v1377
  let c57_1577 : Index := 57#32
  let c0_1578 : Index := 0#32
  ![v1378.toNat, 57, 0]

def k0_chk58 (v1377 : BitVec 32) : Prop :=
  (∀ a, (k0_off132 v1377) a + S1x1x128.size a ≤ S128x256x128.size a)
theorem k0_off132_inb : ∀ (v1377 : BitVec 32) (k0_hw58 : k0_chk58 v1377), ∀ a, (k0_off132 v1377) a + S1x1x128.size a ≤ S128x256x128.size a := fun v1377 k0_hw58 => k0_hw58

def k0_off133 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1388 : Index := Scalar.indexCast arg18
  let c58 : Index := 58#32
  ![v1388.toNat, 58]
def k0_off134 (v1389 : BitVec 32) : Fin 3 → Nat :=
  let v1390 : Index := Scalar.indexCast v1389
  let c58_1587 : Index := 58#32
  let c0_1588 : Index := 0#32
  ![v1390.toNat, 58, 0]

def k0_chk59 (v1389 : BitVec 32) : Prop :=
  (∀ a, (k0_off134 v1389) a + S1x1x128.size a ≤ S128x256x128.size a)
theorem k0_off134_inb : ∀ (v1389 : BitVec 32) (k0_hw59 : k0_chk59 v1389), ∀ a, (k0_off134 v1389) a + S1x1x128.size a ≤ S128x256x128.size a := fun v1389 k0_hw59 => k0_hw59

def k0_off135 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1400 : Index := Scalar.indexCast arg18
  let c59 : Index := 59#32
  ![v1400.toNat, 59]
def k0_off136 (v1401 : BitVec 32) : Fin 3 → Nat :=
  let v1402 : Index := Scalar.indexCast v1401
  let c59_1597 : Index := 59#32
  let c0_1598 : Index := 0#32
  ![v1402.toNat, 59, 0]

def k0_chk60 (v1401 : BitVec 32) : Prop :=
  (∀ a, (k0_off136 v1401) a + S1x1x128.size a ≤ S128x256x128.size a)
theorem k0_off136_inb : ∀ (v1401 : BitVec 32) (k0_hw60 : k0_chk60 v1401), ∀ a, (k0_off136 v1401) a + S1x1x128.size a ≤ S128x256x128.size a := fun v1401 k0_hw60 => k0_hw60

def k0_off137 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1412 : Index := Scalar.indexCast arg18
  let c60 : Index := 60#32
  ![v1412.toNat, 60]
def k0_off138 (v1413 : BitVec 32) : Fin 3 → Nat :=
  let v1414 : Index := Scalar.indexCast v1413
  let c60_1607 : Index := 60#32
  let c0_1608 : Index := 0#32
  ![v1414.toNat, 60, 0]

def k0_chk61 (v1413 : BitVec 32) : Prop :=
  (∀ a, (k0_off138 v1413) a + S1x1x128.size a ≤ S128x256x128.size a)
theorem k0_off138_inb : ∀ (v1413 : BitVec 32) (k0_hw61 : k0_chk61 v1413), ∀ a, (k0_off138 v1413) a + S1x1x128.size a ≤ S128x256x128.size a := fun v1413 k0_hw61 => k0_hw61

def k0_off139 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1424 : Index := Scalar.indexCast arg18
  let c61 : Index := 61#32
  ![v1424.toNat, 61]
def k0_off140 (v1425 : BitVec 32) : Fin 3 → Nat :=
  let v1426 : Index := Scalar.indexCast v1425
  let c61_1617 : Index := 61#32
  let c0_1618 : Index := 0#32
  ![v1426.toNat, 61, 0]

def k0_chk62 (v1425 : BitVec 32) : Prop :=
  (∀ a, (k0_off140 v1425) a + S1x1x128.size a ≤ S128x256x128.size a)
theorem k0_off140_inb : ∀ (v1425 : BitVec 32) (k0_hw62 : k0_chk62 v1425), ∀ a, (k0_off140 v1425) a + S1x1x128.size a ≤ S128x256x128.size a := fun v1425 k0_hw62 => k0_hw62

def k0_off141 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1436 : Index := Scalar.indexCast arg18
  let c62 : Index := 62#32
  ![v1436.toNat, 62]
def k0_off142 (v1437 : BitVec 32) : Fin 3 → Nat :=
  let v1438 : Index := Scalar.indexCast v1437
  let c62_1627 : Index := 62#32
  let c0_1628 : Index := 0#32
  ![v1438.toNat, 62, 0]

def k0_chk63 (v1437 : BitVec 32) : Prop :=
  (∀ a, (k0_off142 v1437) a + S1x1x128.size a ≤ S128x256x128.size a)
theorem k0_off142_inb : ∀ (v1437 : BitVec 32) (k0_hw63 : k0_chk63 v1437), ∀ a, (k0_off142 v1437) a + S1x1x128.size a ≤ S128x256x128.size a := fun v1437 k0_hw63 => k0_hw63

def k0_off143 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1448 : Index := Scalar.indexCast arg18
  let c63 : Index := 63#32
  ![v1448.toNat, 63]
def k0_off144 (v1449 : BitVec 32) : Fin 3 → Nat :=
  let v1450 : Index := Scalar.indexCast v1449
  let c63_1637 : Index := 63#32
  let c0_1638 : Index := 0#32
  ![v1450.toNat, 63, 0]

def k0_chk64 (v1449 : BitVec 32) : Prop :=
  (∀ a, (k0_off144 v1449) a + S1x1x128.size a ≤ S128x256x128.size a)
theorem k0_off144_inb : ∀ (v1449 : BitVec 32) (k0_hw64 : k0_chk64 v1449), ∀ a, (k0_off144 v1449) a + S1x1x128.size a ≤ S128x256x128.size a := fun v1449 k0_hw64 => k0_hw64

def k0_off145 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1460 : Index := Scalar.indexCast arg18
  let c64_1647 : Index := 64#32
  ![v1460.toNat, 64]
def k0_off146 (v1461 : BitVec 32) : Fin 3 → Nat :=
  let v1462 : Index := Scalar.indexCast v1461
  let c64_1648 : Index := 64#32
  let c0_1649 : Index := 0#32
  ![v1462.toNat, 64, 0]

def k0_chk65 (v1461 : BitVec 32) : Prop :=
  (∀ a, (k0_off146 v1461) a + S1x1x128.size a ≤ S128x256x128.size a)
theorem k0_off146_inb : ∀ (v1461 : BitVec 32) (k0_hw65 : k0_chk65 v1461), ∀ a, (k0_off146 v1461) a + S1x1x128.size a ≤ S128x256x128.size a := fun v1461 k0_hw65 => k0_hw65

def k0_off147 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1472 : Index := Scalar.indexCast arg18
  let c65 : Index := 65#32
  ![v1472.toNat, 65]
def k0_off148 (v1473 : BitVec 32) : Fin 3 → Nat :=
  let v1474 : Index := Scalar.indexCast v1473
  let c65_1658 : Index := 65#32
  let c0_1659 : Index := 0#32
  ![v1474.toNat, 65, 0]

def k0_chk66 (v1473 : BitVec 32) : Prop :=
  (∀ a, (k0_off148 v1473) a + S1x1x128.size a ≤ S128x256x128.size a)
theorem k0_off148_inb : ∀ (v1473 : BitVec 32) (k0_hw66 : k0_chk66 v1473), ∀ a, (k0_off148 v1473) a + S1x1x128.size a ≤ S128x256x128.size a := fun v1473 k0_hw66 => k0_hw66

def k0_off149 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1484 : Index := Scalar.indexCast arg18
  let c66 : Index := 66#32
  ![v1484.toNat, 66]
def k0_off150 (v1485 : BitVec 32) : Fin 3 → Nat :=
  let v1486 : Index := Scalar.indexCast v1485
  let c66_1668 : Index := 66#32
  let c0_1669 : Index := 0#32
  ![v1486.toNat, 66, 0]

def k0_chk67 (v1485 : BitVec 32) : Prop :=
  (∀ a, (k0_off150 v1485) a + S1x1x128.size a ≤ S128x256x128.size a)
theorem k0_off150_inb : ∀ (v1485 : BitVec 32) (k0_hw67 : k0_chk67 v1485), ∀ a, (k0_off150 v1485) a + S1x1x128.size a ≤ S128x256x128.size a := fun v1485 k0_hw67 => k0_hw67

def k0_off151 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1496 : Index := Scalar.indexCast arg18
  let c67 : Index := 67#32
  ![v1496.toNat, 67]
def k0_off152 (v1497 : BitVec 32) : Fin 3 → Nat :=
  let v1498 : Index := Scalar.indexCast v1497
  let c67_1678 : Index := 67#32
  let c0_1679 : Index := 0#32
  ![v1498.toNat, 67, 0]

def k0_chk68 (v1497 : BitVec 32) : Prop :=
  (∀ a, (k0_off152 v1497) a + S1x1x128.size a ≤ S128x256x128.size a)
theorem k0_off152_inb : ∀ (v1497 : BitVec 32) (k0_hw68 : k0_chk68 v1497), ∀ a, (k0_off152 v1497) a + S1x1x128.size a ≤ S128x256x128.size a := fun v1497 k0_hw68 => k0_hw68

def k0_off153 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1508 : Index := Scalar.indexCast arg18
  let c68 : Index := 68#32
  ![v1508.toNat, 68]
def k0_off154 (v1509 : BitVec 32) : Fin 3 → Nat :=
  let v1510 : Index := Scalar.indexCast v1509
  let c68_1688 : Index := 68#32
  let c0_1689 : Index := 0#32
  ![v1510.toNat, 68, 0]

def k0_chk69 (v1509 : BitVec 32) : Prop :=
  (∀ a, (k0_off154 v1509) a + S1x1x128.size a ≤ S128x256x128.size a)
theorem k0_off154_inb : ∀ (v1509 : BitVec 32) (k0_hw69 : k0_chk69 v1509), ∀ a, (k0_off154 v1509) a + S1x1x128.size a ≤ S128x256x128.size a := fun v1509 k0_hw69 => k0_hw69

def k0_off155 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1520 : Index := Scalar.indexCast arg18
  let c69 : Index := 69#32
  ![v1520.toNat, 69]
def k0_off156 (v1521 : BitVec 32) : Fin 3 → Nat :=
  let v1522 : Index := Scalar.indexCast v1521
  let c69_1698 : Index := 69#32
  let c0_1699 : Index := 0#32
  ![v1522.toNat, 69, 0]

def k0_chk70 (v1521 : BitVec 32) : Prop :=
  (∀ a, (k0_off156 v1521) a + S1x1x128.size a ≤ S128x256x128.size a)
theorem k0_off156_inb : ∀ (v1521 : BitVec 32) (k0_hw70 : k0_chk70 v1521), ∀ a, (k0_off156 v1521) a + S1x1x128.size a ≤ S128x256x128.size a := fun v1521 k0_hw70 => k0_hw70

def k0_off157 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1532 : Index := Scalar.indexCast arg18
  let c70 : Index := 70#32
  ![v1532.toNat, 70]
def k0_off158 (v1533 : BitVec 32) : Fin 3 → Nat :=
  let v1534 : Index := Scalar.indexCast v1533
  let c70_1708 : Index := 70#32
  let c0_1709 : Index := 0#32
  ![v1534.toNat, 70, 0]

def k0_chk71 (v1533 : BitVec 32) : Prop :=
  (∀ a, (k0_off158 v1533) a + S1x1x128.size a ≤ S128x256x128.size a)
theorem k0_off158_inb : ∀ (v1533 : BitVec 32) (k0_hw71 : k0_chk71 v1533), ∀ a, (k0_off158 v1533) a + S1x1x128.size a ≤ S128x256x128.size a := fun v1533 k0_hw71 => k0_hw71

def k0_off159 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1544 : Index := Scalar.indexCast arg18
  let c71 : Index := 71#32
  ![v1544.toNat, 71]
def k0_off160 (v1545 : BitVec 32) : Fin 3 → Nat :=
  let v1546 : Index := Scalar.indexCast v1545
  let c71_1718 : Index := 71#32
  let c0_1719 : Index := 0#32
  ![v1546.toNat, 71, 0]

def k0_chk72 (v1545 : BitVec 32) : Prop :=
  (∀ a, (k0_off160 v1545) a + S1x1x128.size a ≤ S128x256x128.size a)
theorem k0_off160_inb : ∀ (v1545 : BitVec 32) (k0_hw72 : k0_chk72 v1545), ∀ a, (k0_off160 v1545) a + S1x1x128.size a ≤ S128x256x128.size a := fun v1545 k0_hw72 => k0_hw72

def k0_off161 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1556 : Index := Scalar.indexCast arg18
  let c72_1728 : Index := 72#32
  ![v1556.toNat, 72]
def k0_off162 (v1557 : BitVec 32) : Fin 3 → Nat :=
  let v1558 : Index := Scalar.indexCast v1557
  let c72_1729 : Index := 72#32
  let c0_1730 : Index := 0#32
  ![v1558.toNat, 72, 0]

def k0_chk73 (v1557 : BitVec 32) : Prop :=
  (∀ a, (k0_off162 v1557) a + S1x1x128.size a ≤ S128x256x128.size a)
theorem k0_off162_inb : ∀ (v1557 : BitVec 32) (k0_hw73 : k0_chk73 v1557), ∀ a, (k0_off162 v1557) a + S1x1x128.size a ≤ S128x256x128.size a := fun v1557 k0_hw73 => k0_hw73

def k0_off163 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1568 : Index := Scalar.indexCast arg18
  let c73 : Index := 73#32
  ![v1568.toNat, 73]
def k0_off164 (v1569 : BitVec 32) : Fin 3 → Nat :=
  let v1570 : Index := Scalar.indexCast v1569
  let c73_1739 : Index := 73#32
  let c0_1740 : Index := 0#32
  ![v1570.toNat, 73, 0]

def k0_chk74 (v1569 : BitVec 32) : Prop :=
  (∀ a, (k0_off164 v1569) a + S1x1x128.size a ≤ S128x256x128.size a)
theorem k0_off164_inb : ∀ (v1569 : BitVec 32) (k0_hw74 : k0_chk74 v1569), ∀ a, (k0_off164 v1569) a + S1x1x128.size a ≤ S128x256x128.size a := fun v1569 k0_hw74 => k0_hw74

def k0_off165 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1580 : Index := Scalar.indexCast arg18
  let c74 : Index := 74#32
  ![v1580.toNat, 74]
def k0_off166 (v1581 : BitVec 32) : Fin 3 → Nat :=
  let v1582 : Index := Scalar.indexCast v1581
  let c74_1749 : Index := 74#32
  let c0_1750 : Index := 0#32
  ![v1582.toNat, 74, 0]

def k0_chk75 (v1581 : BitVec 32) : Prop :=
  (∀ a, (k0_off166 v1581) a + S1x1x128.size a ≤ S128x256x128.size a)
theorem k0_off166_inb : ∀ (v1581 : BitVec 32) (k0_hw75 : k0_chk75 v1581), ∀ a, (k0_off166 v1581) a + S1x1x128.size a ≤ S128x256x128.size a := fun v1581 k0_hw75 => k0_hw75

def k0_off167 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1592 : Index := Scalar.indexCast arg18
  let c75 : Index := 75#32
  ![v1592.toNat, 75]
def k0_off168 (v1593 : BitVec 32) : Fin 3 → Nat :=
  let v1594 : Index := Scalar.indexCast v1593
  let c75_1759 : Index := 75#32
  let c0_1760 : Index := 0#32
  ![v1594.toNat, 75, 0]

def k0_chk76 (v1593 : BitVec 32) : Prop :=
  (∀ a, (k0_off168 v1593) a + S1x1x128.size a ≤ S128x256x128.size a)
theorem k0_off168_inb : ∀ (v1593 : BitVec 32) (k0_hw76 : k0_chk76 v1593), ∀ a, (k0_off168 v1593) a + S1x1x128.size a ≤ S128x256x128.size a := fun v1593 k0_hw76 => k0_hw76

def k0_off169 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1604 : Index := Scalar.indexCast arg18
  let c76 : Index := 76#32
  ![v1604.toNat, 76]
def k0_off170 (v1605 : BitVec 32) : Fin 3 → Nat :=
  let v1606 : Index := Scalar.indexCast v1605
  let c76_1769 : Index := 76#32
  let c0_1770 : Index := 0#32
  ![v1606.toNat, 76, 0]

def k0_chk77 (v1605 : BitVec 32) : Prop :=
  (∀ a, (k0_off170 v1605) a + S1x1x128.size a ≤ S128x256x128.size a)
theorem k0_off170_inb : ∀ (v1605 : BitVec 32) (k0_hw77 : k0_chk77 v1605), ∀ a, (k0_off170 v1605) a + S1x1x128.size a ≤ S128x256x128.size a := fun v1605 k0_hw77 => k0_hw77

def k0_off171 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1616 : Index := Scalar.indexCast arg18
  let c77 : Index := 77#32
  ![v1616.toNat, 77]
def k0_off172 (v1617 : BitVec 32) : Fin 3 → Nat :=
  let v1618 : Index := Scalar.indexCast v1617
  let c77_1779 : Index := 77#32
  let c0_1780 : Index := 0#32
  ![v1618.toNat, 77, 0]

def k0_chk78 (v1617 : BitVec 32) : Prop :=
  (∀ a, (k0_off172 v1617) a + S1x1x128.size a ≤ S128x256x128.size a)
theorem k0_off172_inb : ∀ (v1617 : BitVec 32) (k0_hw78 : k0_chk78 v1617), ∀ a, (k0_off172 v1617) a + S1x1x128.size a ≤ S128x256x128.size a := fun v1617 k0_hw78 => k0_hw78

def k0_off173 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1628 : Index := Scalar.indexCast arg18
  let c78 : Index := 78#32
  ![v1628.toNat, 78]
def k0_off174 (v1629 : BitVec 32) : Fin 3 → Nat :=
  let v1630 : Index := Scalar.indexCast v1629
  let c78_1789 : Index := 78#32
  let c0_1790 : Index := 0#32
  ![v1630.toNat, 78, 0]

def k0_chk79 (v1629 : BitVec 32) : Prop :=
  (∀ a, (k0_off174 v1629) a + S1x1x128.size a ≤ S128x256x128.size a)
theorem k0_off174_inb : ∀ (v1629 : BitVec 32) (k0_hw79 : k0_chk79 v1629), ∀ a, (k0_off174 v1629) a + S1x1x128.size a ≤ S128x256x128.size a := fun v1629 k0_hw79 => k0_hw79

def k0_off175 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1640 : Index := Scalar.indexCast arg18
  let c79 : Index := 79#32
  ![v1640.toNat, 79]
def k0_off176 (v1641 : BitVec 32) : Fin 3 → Nat :=
  let v1642 : Index := Scalar.indexCast v1641
  let c79_1799 : Index := 79#32
  let c0_1800 : Index := 0#32
  ![v1642.toNat, 79, 0]

def k0_chk80 (v1641 : BitVec 32) : Prop :=
  (∀ a, (k0_off176 v1641) a + S1x1x128.size a ≤ S128x256x128.size a)
theorem k0_off176_inb : ∀ (v1641 : BitVec 32) (k0_hw80 : k0_chk80 v1641), ∀ a, (k0_off176 v1641) a + S1x1x128.size a ≤ S128x256x128.size a := fun v1641 k0_hw80 => k0_hw80

def k0_off177 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1652 : Index := Scalar.indexCast arg18
  let c80_1809 : Index := 80#32
  ![v1652.toNat, 80]
def k0_off178 (v1653 : BitVec 32) : Fin 3 → Nat :=
  let v1654 : Index := Scalar.indexCast v1653
  let c80_1810 : Index := 80#32
  let c0_1811 : Index := 0#32
  ![v1654.toNat, 80, 0]

def k0_chk81 (v1653 : BitVec 32) : Prop :=
  (∀ a, (k0_off178 v1653) a + S1x1x128.size a ≤ S128x256x128.size a)
theorem k0_off178_inb : ∀ (v1653 : BitVec 32) (k0_hw81 : k0_chk81 v1653), ∀ a, (k0_off178 v1653) a + S1x1x128.size a ≤ S128x256x128.size a := fun v1653 k0_hw81 => k0_hw81

def k0_off179 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1664 : Index := Scalar.indexCast arg18
  let c81 : Index := 81#32
  ![v1664.toNat, 81]
def k0_off180 (v1665 : BitVec 32) : Fin 3 → Nat :=
  let v1666 : Index := Scalar.indexCast v1665
  let c81_1820 : Index := 81#32
  let c0_1821 : Index := 0#32
  ![v1666.toNat, 81, 0]

def k0_chk82 (v1665 : BitVec 32) : Prop :=
  (∀ a, (k0_off180 v1665) a + S1x1x128.size a ≤ S128x256x128.size a)
theorem k0_off180_inb : ∀ (v1665 : BitVec 32) (k0_hw82 : k0_chk82 v1665), ∀ a, (k0_off180 v1665) a + S1x1x128.size a ≤ S128x256x128.size a := fun v1665 k0_hw82 => k0_hw82

def k0_off181 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1676 : Index := Scalar.indexCast arg18
  let c82 : Index := 82#32
  ![v1676.toNat, 82]
def k0_off182 (v1677 : BitVec 32) : Fin 3 → Nat :=
  let v1678 : Index := Scalar.indexCast v1677
  let c82_1830 : Index := 82#32
  let c0_1831 : Index := 0#32
  ![v1678.toNat, 82, 0]

def k0_chk83 (v1677 : BitVec 32) : Prop :=
  (∀ a, (k0_off182 v1677) a + S1x1x128.size a ≤ S128x256x128.size a)
theorem k0_off182_inb : ∀ (v1677 : BitVec 32) (k0_hw83 : k0_chk83 v1677), ∀ a, (k0_off182 v1677) a + S1x1x128.size a ≤ S128x256x128.size a := fun v1677 k0_hw83 => k0_hw83

def k0_off183 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1688 : Index := Scalar.indexCast arg18
  let c83 : Index := 83#32
  ![v1688.toNat, 83]
def k0_off184 (v1689 : BitVec 32) : Fin 3 → Nat :=
  let v1690 : Index := Scalar.indexCast v1689
  let c83_1840 : Index := 83#32
  let c0_1841 : Index := 0#32
  ![v1690.toNat, 83, 0]

def k0_chk84 (v1689 : BitVec 32) : Prop :=
  (∀ a, (k0_off184 v1689) a + S1x1x128.size a ≤ S128x256x128.size a)
theorem k0_off184_inb : ∀ (v1689 : BitVec 32) (k0_hw84 : k0_chk84 v1689), ∀ a, (k0_off184 v1689) a + S1x1x128.size a ≤ S128x256x128.size a := fun v1689 k0_hw84 => k0_hw84

def k0_off185 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1700 : Index := Scalar.indexCast arg18
  let c84 : Index := 84#32
  ![v1700.toNat, 84]
def k0_off186 (v1701 : BitVec 32) : Fin 3 → Nat :=
  let v1702 : Index := Scalar.indexCast v1701
  let c84_1850 : Index := 84#32
  let c0_1851 : Index := 0#32
  ![v1702.toNat, 84, 0]

def k0_chk85 (v1701 : BitVec 32) : Prop :=
  (∀ a, (k0_off186 v1701) a + S1x1x128.size a ≤ S128x256x128.size a)
theorem k0_off186_inb : ∀ (v1701 : BitVec 32) (k0_hw85 : k0_chk85 v1701), ∀ a, (k0_off186 v1701) a + S1x1x128.size a ≤ S128x256x128.size a := fun v1701 k0_hw85 => k0_hw85

def k0_off187 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1712 : Index := Scalar.indexCast arg18
  let c85 : Index := 85#32
  ![v1712.toNat, 85]
def k0_off188 (v1713 : BitVec 32) : Fin 3 → Nat :=
  let v1714 : Index := Scalar.indexCast v1713
  let c85_1860 : Index := 85#32
  let c0_1861 : Index := 0#32
  ![v1714.toNat, 85, 0]

def k0_chk86 (v1713 : BitVec 32) : Prop :=
  (∀ a, (k0_off188 v1713) a + S1x1x128.size a ≤ S128x256x128.size a)
theorem k0_off188_inb : ∀ (v1713 : BitVec 32) (k0_hw86 : k0_chk86 v1713), ∀ a, (k0_off188 v1713) a + S1x1x128.size a ≤ S128x256x128.size a := fun v1713 k0_hw86 => k0_hw86

def k0_off189 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1724 : Index := Scalar.indexCast arg18
  let c86 : Index := 86#32
  ![v1724.toNat, 86]
def k0_off190 (v1725 : BitVec 32) : Fin 3 → Nat :=
  let v1726 : Index := Scalar.indexCast v1725
  let c86_1870 : Index := 86#32
  let c0_1871 : Index := 0#32
  ![v1726.toNat, 86, 0]

def k0_chk87 (v1725 : BitVec 32) : Prop :=
  (∀ a, (k0_off190 v1725) a + S1x1x128.size a ≤ S128x256x128.size a)
theorem k0_off190_inb : ∀ (v1725 : BitVec 32) (k0_hw87 : k0_chk87 v1725), ∀ a, (k0_off190 v1725) a + S1x1x128.size a ≤ S128x256x128.size a := fun v1725 k0_hw87 => k0_hw87

def k0_off191 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1736 : Index := Scalar.indexCast arg18
  let c87 : Index := 87#32
  ![v1736.toNat, 87]
def k0_off192 (v1737 : BitVec 32) : Fin 3 → Nat :=
  let v1738 : Index := Scalar.indexCast v1737
  let c87_1880 : Index := 87#32
  let c0_1881 : Index := 0#32
  ![v1738.toNat, 87, 0]

def k0_chk88 (v1737 : BitVec 32) : Prop :=
  (∀ a, (k0_off192 v1737) a + S1x1x128.size a ≤ S128x256x128.size a)
theorem k0_off192_inb : ∀ (v1737 : BitVec 32) (k0_hw88 : k0_chk88 v1737), ∀ a, (k0_off192 v1737) a + S1x1x128.size a ≤ S128x256x128.size a := fun v1737 k0_hw88 => k0_hw88

def k0_off193 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1748 : Index := Scalar.indexCast arg18
  let c88_1890 : Index := 88#32
  ![v1748.toNat, 88]
def k0_off194 (v1749 : BitVec 32) : Fin 3 → Nat :=
  let v1750 : Index := Scalar.indexCast v1749
  let c88_1891 : Index := 88#32
  let c0_1892 : Index := 0#32
  ![v1750.toNat, 88, 0]

def k0_chk89 (v1749 : BitVec 32) : Prop :=
  (∀ a, (k0_off194 v1749) a + S1x1x128.size a ≤ S128x256x128.size a)
theorem k0_off194_inb : ∀ (v1749 : BitVec 32) (k0_hw89 : k0_chk89 v1749), ∀ a, (k0_off194 v1749) a + S1x1x128.size a ≤ S128x256x128.size a := fun v1749 k0_hw89 => k0_hw89

def k0_off195 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1760 : Index := Scalar.indexCast arg18
  let c89 : Index := 89#32
  ![v1760.toNat, 89]
def k0_off196 (v1761 : BitVec 32) : Fin 3 → Nat :=
  let v1762 : Index := Scalar.indexCast v1761
  let c89_1901 : Index := 89#32
  let c0_1902 : Index := 0#32
  ![v1762.toNat, 89, 0]

def k0_chk90 (v1761 : BitVec 32) : Prop :=
  (∀ a, (k0_off196 v1761) a + S1x1x128.size a ≤ S128x256x128.size a)
theorem k0_off196_inb : ∀ (v1761 : BitVec 32) (k0_hw90 : k0_chk90 v1761), ∀ a, (k0_off196 v1761) a + S1x1x128.size a ≤ S128x256x128.size a := fun v1761 k0_hw90 => k0_hw90

def k0_off197 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1772 : Index := Scalar.indexCast arg18
  let c90 : Index := 90#32
  ![v1772.toNat, 90]
def k0_off198 (v1773 : BitVec 32) : Fin 3 → Nat :=
  let v1774 : Index := Scalar.indexCast v1773
  let c90_1911 : Index := 90#32
  let c0_1912 : Index := 0#32
  ![v1774.toNat, 90, 0]

def k0_chk91 (v1773 : BitVec 32) : Prop :=
  (∀ a, (k0_off198 v1773) a + S1x1x128.size a ≤ S128x256x128.size a)
theorem k0_off198_inb : ∀ (v1773 : BitVec 32) (k0_hw91 : k0_chk91 v1773), ∀ a, (k0_off198 v1773) a + S1x1x128.size a ≤ S128x256x128.size a := fun v1773 k0_hw91 => k0_hw91

def k0_off199 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1784 : Index := Scalar.indexCast arg18
  let c91 : Index := 91#32
  ![v1784.toNat, 91]
def k0_off200 (v1785 : BitVec 32) : Fin 3 → Nat :=
  let v1786 : Index := Scalar.indexCast v1785
  let c91_1921 : Index := 91#32
  let c0_1922 : Index := 0#32
  ![v1786.toNat, 91, 0]

def k0_chk92 (v1785 : BitVec 32) : Prop :=
  (∀ a, (k0_off200 v1785) a + S1x1x128.size a ≤ S128x256x128.size a)
theorem k0_off200_inb : ∀ (v1785 : BitVec 32) (k0_hw92 : k0_chk92 v1785), ∀ a, (k0_off200 v1785) a + S1x1x128.size a ≤ S128x256x128.size a := fun v1785 k0_hw92 => k0_hw92

def k0_off201 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1796 : Index := Scalar.indexCast arg18
  let c92 : Index := 92#32
  ![v1796.toNat, 92]
def k0_off202 (v1797 : BitVec 32) : Fin 3 → Nat :=
  let v1798 : Index := Scalar.indexCast v1797
  let c92_1931 : Index := 92#32
  let c0_1932 : Index := 0#32
  ![v1798.toNat, 92, 0]

def k0_chk93 (v1797 : BitVec 32) : Prop :=
  (∀ a, (k0_off202 v1797) a + S1x1x128.size a ≤ S128x256x128.size a)
theorem k0_off202_inb : ∀ (v1797 : BitVec 32) (k0_hw93 : k0_chk93 v1797), ∀ a, (k0_off202 v1797) a + S1x1x128.size a ≤ S128x256x128.size a := fun v1797 k0_hw93 => k0_hw93

def k0_off203 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1808 : Index := Scalar.indexCast arg18
  let c93 : Index := 93#32
  ![v1808.toNat, 93]
def k0_off204 (v1809 : BitVec 32) : Fin 3 → Nat :=
  let v1810 : Index := Scalar.indexCast v1809
  let c93_1941 : Index := 93#32
  let c0_1942 : Index := 0#32
  ![v1810.toNat, 93, 0]

def k0_chk94 (v1809 : BitVec 32) : Prop :=
  (∀ a, (k0_off204 v1809) a + S1x1x128.size a ≤ S128x256x128.size a)
theorem k0_off204_inb : ∀ (v1809 : BitVec 32) (k0_hw94 : k0_chk94 v1809), ∀ a, (k0_off204 v1809) a + S1x1x128.size a ≤ S128x256x128.size a := fun v1809 k0_hw94 => k0_hw94

def k0_off205 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1820 : Index := Scalar.indexCast arg18
  let c94 : Index := 94#32
  ![v1820.toNat, 94]
def k0_off206 (v1821 : BitVec 32) : Fin 3 → Nat :=
  let v1822 : Index := Scalar.indexCast v1821
  let c94_1951 : Index := 94#32
  let c0_1952 : Index := 0#32
  ![v1822.toNat, 94, 0]

def k0_chk95 (v1821 : BitVec 32) : Prop :=
  (∀ a, (k0_off206 v1821) a + S1x1x128.size a ≤ S128x256x128.size a)
theorem k0_off206_inb : ∀ (v1821 : BitVec 32) (k0_hw95 : k0_chk95 v1821), ∀ a, (k0_off206 v1821) a + S1x1x128.size a ≤ S128x256x128.size a := fun v1821 k0_hw95 => k0_hw95

def k0_off207 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1832 : Index := Scalar.indexCast arg18
  let c95 : Index := 95#32
  ![v1832.toNat, 95]
def k0_off208 (v1833 : BitVec 32) : Fin 3 → Nat :=
  let v1834 : Index := Scalar.indexCast v1833
  let c95_1961 : Index := 95#32
  let c0_1962 : Index := 0#32
  ![v1834.toNat, 95, 0]

def k0_chk96 (v1833 : BitVec 32) : Prop :=
  (∀ a, (k0_off208 v1833) a + S1x1x128.size a ≤ S128x256x128.size a)
theorem k0_off208_inb : ∀ (v1833 : BitVec 32) (k0_hw96 : k0_chk96 v1833), ∀ a, (k0_off208 v1833) a + S1x1x128.size a ≤ S128x256x128.size a := fun v1833 k0_hw96 => k0_hw96

def k0_off209 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1844 : Index := Scalar.indexCast arg18
  let c96_1971 : Index := 96#32
  ![v1844.toNat, 96]
def k0_off210 (v1845 : BitVec 32) : Fin 3 → Nat :=
  let v1846 : Index := Scalar.indexCast v1845
  let c96_1972 : Index := 96#32
  let c0_1973 : Index := 0#32
  ![v1846.toNat, 96, 0]

def k0_chk97 (v1845 : BitVec 32) : Prop :=
  (∀ a, (k0_off210 v1845) a + S1x1x128.size a ≤ S128x256x128.size a)
theorem k0_off210_inb : ∀ (v1845 : BitVec 32) (k0_hw97 : k0_chk97 v1845), ∀ a, (k0_off210 v1845) a + S1x1x128.size a ≤ S128x256x128.size a := fun v1845 k0_hw97 => k0_hw97

def k0_off211 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1856 : Index := Scalar.indexCast arg18
  let c97 : Index := 97#32
  ![v1856.toNat, 97]
def k0_off212 (v1857 : BitVec 32) : Fin 3 → Nat :=
  let v1858 : Index := Scalar.indexCast v1857
  let c97_1982 : Index := 97#32
  let c0_1983 : Index := 0#32
  ![v1858.toNat, 97, 0]

def k0_chk98 (v1857 : BitVec 32) : Prop :=
  (∀ a, (k0_off212 v1857) a + S1x1x128.size a ≤ S128x256x128.size a)
theorem k0_off212_inb : ∀ (v1857 : BitVec 32) (k0_hw98 : k0_chk98 v1857), ∀ a, (k0_off212 v1857) a + S1x1x128.size a ≤ S128x256x128.size a := fun v1857 k0_hw98 => k0_hw98

def k0_off213 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1868 : Index := Scalar.indexCast arg18
  let c98 : Index := 98#32
  ![v1868.toNat, 98]
def k0_off214 (v1869 : BitVec 32) : Fin 3 → Nat :=
  let v1870 : Index := Scalar.indexCast v1869
  let c98_1992 : Index := 98#32
  let c0_1993 : Index := 0#32
  ![v1870.toNat, 98, 0]

def k0_chk99 (v1869 : BitVec 32) : Prop :=
  (∀ a, (k0_off214 v1869) a + S1x1x128.size a ≤ S128x256x128.size a)
theorem k0_off214_inb : ∀ (v1869 : BitVec 32) (k0_hw99 : k0_chk99 v1869), ∀ a, (k0_off214 v1869) a + S1x1x128.size a ≤ S128x256x128.size a := fun v1869 k0_hw99 => k0_hw99

def k0_off215 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1880 : Index := Scalar.indexCast arg18
  let c99 : Index := 99#32
  ![v1880.toNat, 99]
def k0_off216 (v1881 : BitVec 32) : Fin 3 → Nat :=
  let v1882 : Index := Scalar.indexCast v1881
  let c99_2002 : Index := 99#32
  let c0_2003 : Index := 0#32
  ![v1882.toNat, 99, 0]

def k0_chk100 (v1881 : BitVec 32) : Prop :=
  (∀ a, (k0_off216 v1881) a + S1x1x128.size a ≤ S128x256x128.size a)
theorem k0_off216_inb : ∀ (v1881 : BitVec 32) (k0_hw100 : k0_chk100 v1881), ∀ a, (k0_off216 v1881) a + S1x1x128.size a ≤ S128x256x128.size a := fun v1881 k0_hw100 => k0_hw100

def k0_off217 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1892 : Index := Scalar.indexCast arg18
  let c100 : Index := 100#32
  ![v1892.toNat, 100]
def k0_off218 (v1893 : BitVec 32) : Fin 3 → Nat :=
  let v1894 : Index := Scalar.indexCast v1893
  let c100_2012 : Index := 100#32
  let c0_2013 : Index := 0#32
  ![v1894.toNat, 100, 0]

def k0_chk101 (v1893 : BitVec 32) : Prop :=
  (∀ a, (k0_off218 v1893) a + S1x1x128.size a ≤ S128x256x128.size a)
theorem k0_off218_inb : ∀ (v1893 : BitVec 32) (k0_hw101 : k0_chk101 v1893), ∀ a, (k0_off218 v1893) a + S1x1x128.size a ≤ S128x256x128.size a := fun v1893 k0_hw101 => k0_hw101

def k0_off219 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1904 : Index := Scalar.indexCast arg18
  let c101 : Index := 101#32
  ![v1904.toNat, 101]
def k0_off220 (v1905 : BitVec 32) : Fin 3 → Nat :=
  let v1906 : Index := Scalar.indexCast v1905
  let c101_2022 : Index := 101#32
  let c0_2023 : Index := 0#32
  ![v1906.toNat, 101, 0]

def k0_chk102 (v1905 : BitVec 32) : Prop :=
  (∀ a, (k0_off220 v1905) a + S1x1x128.size a ≤ S128x256x128.size a)
theorem k0_off220_inb : ∀ (v1905 : BitVec 32) (k0_hw102 : k0_chk102 v1905), ∀ a, (k0_off220 v1905) a + S1x1x128.size a ≤ S128x256x128.size a := fun v1905 k0_hw102 => k0_hw102

def k0_off221 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1916 : Index := Scalar.indexCast arg18
  let c102 : Index := 102#32
  ![v1916.toNat, 102]
def k0_off222 (v1917 : BitVec 32) : Fin 3 → Nat :=
  let v1918 : Index := Scalar.indexCast v1917
  let c102_2032 : Index := 102#32
  let c0_2033 : Index := 0#32
  ![v1918.toNat, 102, 0]

def k0_chk103 (v1917 : BitVec 32) : Prop :=
  (∀ a, (k0_off222 v1917) a + S1x1x128.size a ≤ S128x256x128.size a)
theorem k0_off222_inb : ∀ (v1917 : BitVec 32) (k0_hw103 : k0_chk103 v1917), ∀ a, (k0_off222 v1917) a + S1x1x128.size a ≤ S128x256x128.size a := fun v1917 k0_hw103 => k0_hw103

def k0_off223 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1928 : Index := Scalar.indexCast arg18
  let c103 : Index := 103#32
  ![v1928.toNat, 103]
def k0_off224 (v1929 : BitVec 32) : Fin 3 → Nat :=
  let v1930 : Index := Scalar.indexCast v1929
  let c103_2042 : Index := 103#32
  let c0_2043 : Index := 0#32
  ![v1930.toNat, 103, 0]

def k0_chk104 (v1929 : BitVec 32) : Prop :=
  (∀ a, (k0_off224 v1929) a + S1x1x128.size a ≤ S128x256x128.size a)
theorem k0_off224_inb : ∀ (v1929 : BitVec 32) (k0_hw104 : k0_chk104 v1929), ∀ a, (k0_off224 v1929) a + S1x1x128.size a ≤ S128x256x128.size a := fun v1929 k0_hw104 => k0_hw104

def k0_off225 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1940 : Index := Scalar.indexCast arg18
  let c104_2052 : Index := 104#32
  ![v1940.toNat, 104]
def k0_off226 (v1941 : BitVec 32) : Fin 3 → Nat :=
  let v1942 : Index := Scalar.indexCast v1941
  let c104_2053 : Index := 104#32
  let c0_2054 : Index := 0#32
  ![v1942.toNat, 104, 0]

def k0_chk105 (v1941 : BitVec 32) : Prop :=
  (∀ a, (k0_off226 v1941) a + S1x1x128.size a ≤ S128x256x128.size a)
theorem k0_off226_inb : ∀ (v1941 : BitVec 32) (k0_hw105 : k0_chk105 v1941), ∀ a, (k0_off226 v1941) a + S1x1x128.size a ≤ S128x256x128.size a := fun v1941 k0_hw105 => k0_hw105

def k0_off227 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1952 : Index := Scalar.indexCast arg18
  let c105 : Index := 105#32
  ![v1952.toNat, 105]
def k0_off228 (v1953 : BitVec 32) : Fin 3 → Nat :=
  let v1954 : Index := Scalar.indexCast v1953
  let c105_2063 : Index := 105#32
  let c0_2064 : Index := 0#32
  ![v1954.toNat, 105, 0]

def k0_chk106 (v1953 : BitVec 32) : Prop :=
  (∀ a, (k0_off228 v1953) a + S1x1x128.size a ≤ S128x256x128.size a)
theorem k0_off228_inb : ∀ (v1953 : BitVec 32) (k0_hw106 : k0_chk106 v1953), ∀ a, (k0_off228 v1953) a + S1x1x128.size a ≤ S128x256x128.size a := fun v1953 k0_hw106 => k0_hw106

def k0_off229 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1964 : Index := Scalar.indexCast arg18
  let c106 : Index := 106#32
  ![v1964.toNat, 106]
def k0_off230 (v1965 : BitVec 32) : Fin 3 → Nat :=
  let v1966 : Index := Scalar.indexCast v1965
  let c106_2073 : Index := 106#32
  let c0_2074 : Index := 0#32
  ![v1966.toNat, 106, 0]

def k0_chk107 (v1965 : BitVec 32) : Prop :=
  (∀ a, (k0_off230 v1965) a + S1x1x128.size a ≤ S128x256x128.size a)
theorem k0_off230_inb : ∀ (v1965 : BitVec 32) (k0_hw107 : k0_chk107 v1965), ∀ a, (k0_off230 v1965) a + S1x1x128.size a ≤ S128x256x128.size a := fun v1965 k0_hw107 => k0_hw107

def k0_off231 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1976 : Index := Scalar.indexCast arg18
  let c107 : Index := 107#32
  ![v1976.toNat, 107]
def k0_off232 (v1977 : BitVec 32) : Fin 3 → Nat :=
  let v1978 : Index := Scalar.indexCast v1977
  let c107_2083 : Index := 107#32
  let c0_2084 : Index := 0#32
  ![v1978.toNat, 107, 0]

def k0_chk108 (v1977 : BitVec 32) : Prop :=
  (∀ a, (k0_off232 v1977) a + S1x1x128.size a ≤ S128x256x128.size a)
theorem k0_off232_inb : ∀ (v1977 : BitVec 32) (k0_hw108 : k0_chk108 v1977), ∀ a, (k0_off232 v1977) a + S1x1x128.size a ≤ S128x256x128.size a := fun v1977 k0_hw108 => k0_hw108

def k0_off233 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v1988 : Index := Scalar.indexCast arg18
  let c108 : Index := 108#32
  ![v1988.toNat, 108]
def k0_off234 (v1989 : BitVec 32) : Fin 3 → Nat :=
  let v1990 : Index := Scalar.indexCast v1989
  let c108_2093 : Index := 108#32
  let c0_2094 : Index := 0#32
  ![v1990.toNat, 108, 0]

def k0_chk109 (v1989 : BitVec 32) : Prop :=
  (∀ a, (k0_off234 v1989) a + S1x1x128.size a ≤ S128x256x128.size a)
theorem k0_off234_inb : ∀ (v1989 : BitVec 32) (k0_hw109 : k0_chk109 v1989), ∀ a, (k0_off234 v1989) a + S1x1x128.size a ≤ S128x256x128.size a := fun v1989 k0_hw109 => k0_hw109

def k0_off235 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2000 : Index := Scalar.indexCast arg18
  let c109 : Index := 109#32
  ![v2000.toNat, 109]
def k0_off236 (v2001 : BitVec 32) : Fin 3 → Nat :=
  let v2002 : Index := Scalar.indexCast v2001
  let c109_2103 : Index := 109#32
  let c0_2104 : Index := 0#32
  ![v2002.toNat, 109, 0]

def k0_chk110 (v2001 : BitVec 32) : Prop :=
  (∀ a, (k0_off236 v2001) a + S1x1x128.size a ≤ S128x256x128.size a)
theorem k0_off236_inb : ∀ (v2001 : BitVec 32) (k0_hw110 : k0_chk110 v2001), ∀ a, (k0_off236 v2001) a + S1x1x128.size a ≤ S128x256x128.size a := fun v2001 k0_hw110 => k0_hw110

def k0_off237 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2012 : Index := Scalar.indexCast arg18
  let c110 : Index := 110#32
  ![v2012.toNat, 110]
def k0_off238 (v2013 : BitVec 32) : Fin 3 → Nat :=
  let v2014 : Index := Scalar.indexCast v2013
  let c110_2113 : Index := 110#32
  let c0_2114 : Index := 0#32
  ![v2014.toNat, 110, 0]

def k0_chk111 (v2013 : BitVec 32) : Prop :=
  (∀ a, (k0_off238 v2013) a + S1x1x128.size a ≤ S128x256x128.size a)
theorem k0_off238_inb : ∀ (v2013 : BitVec 32) (k0_hw111 : k0_chk111 v2013), ∀ a, (k0_off238 v2013) a + S1x1x128.size a ≤ S128x256x128.size a := fun v2013 k0_hw111 => k0_hw111

def k0_off239 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2024 : Index := Scalar.indexCast arg18
  let c111 : Index := 111#32
  ![v2024.toNat, 111]
def k0_off240 (v2025 : BitVec 32) : Fin 3 → Nat :=
  let v2026 : Index := Scalar.indexCast v2025
  let c111_2123 : Index := 111#32
  let c0_2124 : Index := 0#32
  ![v2026.toNat, 111, 0]

def k0_chk112 (v2025 : BitVec 32) : Prop :=
  (∀ a, (k0_off240 v2025) a + S1x1x128.size a ≤ S128x256x128.size a)
theorem k0_off240_inb : ∀ (v2025 : BitVec 32) (k0_hw112 : k0_chk112 v2025), ∀ a, (k0_off240 v2025) a + S1x1x128.size a ≤ S128x256x128.size a := fun v2025 k0_hw112 => k0_hw112

def k0_off241 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2036 : Index := Scalar.indexCast arg18
  let c112_2133 : Index := 112#32
  ![v2036.toNat, 112]
def k0_off242 (v2037 : BitVec 32) : Fin 3 → Nat :=
  let v2038 : Index := Scalar.indexCast v2037
  let c112_2134 : Index := 112#32
  let c0_2135 : Index := 0#32
  ![v2038.toNat, 112, 0]

def k0_chk113 (v2037 : BitVec 32) : Prop :=
  (∀ a, (k0_off242 v2037) a + S1x1x128.size a ≤ S128x256x128.size a)
theorem k0_off242_inb : ∀ (v2037 : BitVec 32) (k0_hw113 : k0_chk113 v2037), ∀ a, (k0_off242 v2037) a + S1x1x128.size a ≤ S128x256x128.size a := fun v2037 k0_hw113 => k0_hw113

def k0_off243 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2048 : Index := Scalar.indexCast arg18
  let c113 : Index := 113#32
  ![v2048.toNat, 113]
def k0_off244 (v2049 : BitVec 32) : Fin 3 → Nat :=
  let v2050 : Index := Scalar.indexCast v2049
  let c113_2144 : Index := 113#32
  let c0_2145 : Index := 0#32
  ![v2050.toNat, 113, 0]

def k0_chk114 (v2049 : BitVec 32) : Prop :=
  (∀ a, (k0_off244 v2049) a + S1x1x128.size a ≤ S128x256x128.size a)
theorem k0_off244_inb : ∀ (v2049 : BitVec 32) (k0_hw114 : k0_chk114 v2049), ∀ a, (k0_off244 v2049) a + S1x1x128.size a ≤ S128x256x128.size a := fun v2049 k0_hw114 => k0_hw114

def k0_off245 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2060 : Index := Scalar.indexCast arg18
  let c114 : Index := 114#32
  ![v2060.toNat, 114]
def k0_off246 (v2061 : BitVec 32) : Fin 3 → Nat :=
  let v2062 : Index := Scalar.indexCast v2061
  let c114_2154 : Index := 114#32
  let c0_2155 : Index := 0#32
  ![v2062.toNat, 114, 0]

def k0_chk115 (v2061 : BitVec 32) : Prop :=
  (∀ a, (k0_off246 v2061) a + S1x1x128.size a ≤ S128x256x128.size a)
theorem k0_off246_inb : ∀ (v2061 : BitVec 32) (k0_hw115 : k0_chk115 v2061), ∀ a, (k0_off246 v2061) a + S1x1x128.size a ≤ S128x256x128.size a := fun v2061 k0_hw115 => k0_hw115

def k0_off247 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2072 : Index := Scalar.indexCast arg18
  let c115 : Index := 115#32
  ![v2072.toNat, 115]
def k0_off248 (v2073 : BitVec 32) : Fin 3 → Nat :=
  let v2074 : Index := Scalar.indexCast v2073
  let c115_2164 : Index := 115#32
  let c0_2165 : Index := 0#32
  ![v2074.toNat, 115, 0]

def k0_chk116 (v2073 : BitVec 32) : Prop :=
  (∀ a, (k0_off248 v2073) a + S1x1x128.size a ≤ S128x256x128.size a)
theorem k0_off248_inb : ∀ (v2073 : BitVec 32) (k0_hw116 : k0_chk116 v2073), ∀ a, (k0_off248 v2073) a + S1x1x128.size a ≤ S128x256x128.size a := fun v2073 k0_hw116 => k0_hw116

def k0_off249 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2084 : Index := Scalar.indexCast arg18
  let c116 : Index := 116#32
  ![v2084.toNat, 116]
def k0_off250 (v2085 : BitVec 32) : Fin 3 → Nat :=
  let v2086 : Index := Scalar.indexCast v2085
  let c116_2174 : Index := 116#32
  let c0_2175 : Index := 0#32
  ![v2086.toNat, 116, 0]

def k0_chk117 (v2085 : BitVec 32) : Prop :=
  (∀ a, (k0_off250 v2085) a + S1x1x128.size a ≤ S128x256x128.size a)
theorem k0_off250_inb : ∀ (v2085 : BitVec 32) (k0_hw117 : k0_chk117 v2085), ∀ a, (k0_off250 v2085) a + S1x1x128.size a ≤ S128x256x128.size a := fun v2085 k0_hw117 => k0_hw117

def k0_off251 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2096 : Index := Scalar.indexCast arg18
  let c117 : Index := 117#32
  ![v2096.toNat, 117]
def k0_off252 (v2097 : BitVec 32) : Fin 3 → Nat :=
  let v2098 : Index := Scalar.indexCast v2097
  let c117_2184 : Index := 117#32
  let c0_2185 : Index := 0#32
  ![v2098.toNat, 117, 0]

def k0_chk118 (v2097 : BitVec 32) : Prop :=
  (∀ a, (k0_off252 v2097) a + S1x1x128.size a ≤ S128x256x128.size a)
theorem k0_off252_inb : ∀ (v2097 : BitVec 32) (k0_hw118 : k0_chk118 v2097), ∀ a, (k0_off252 v2097) a + S1x1x128.size a ≤ S128x256x128.size a := fun v2097 k0_hw118 => k0_hw118

def k0_off253 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2108 : Index := Scalar.indexCast arg18
  let c118 : Index := 118#32
  ![v2108.toNat, 118]
def k0_off254 (v2109 : BitVec 32) : Fin 3 → Nat :=
  let v2110 : Index := Scalar.indexCast v2109
  let c118_2194 : Index := 118#32
  let c0_2195 : Index := 0#32
  ![v2110.toNat, 118, 0]

def k0_chk119 (v2109 : BitVec 32) : Prop :=
  (∀ a, (k0_off254 v2109) a + S1x1x128.size a ≤ S128x256x128.size a)
theorem k0_off254_inb : ∀ (v2109 : BitVec 32) (k0_hw119 : k0_chk119 v2109), ∀ a, (k0_off254 v2109) a + S1x1x128.size a ≤ S128x256x128.size a := fun v2109 k0_hw119 => k0_hw119

def k0_off255 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2120 : Index := Scalar.indexCast arg18
  let c119 : Index := 119#32
  ![v2120.toNat, 119]
def k0_off256 (v2121 : BitVec 32) : Fin 3 → Nat :=
  let v2122 : Index := Scalar.indexCast v2121
  let c119_2204 : Index := 119#32
  let c0_2205 : Index := 0#32
  ![v2122.toNat, 119, 0]

def k0_chk120 (v2121 : BitVec 32) : Prop :=
  (∀ a, (k0_off256 v2121) a + S1x1x128.size a ≤ S128x256x128.size a)
theorem k0_off256_inb : ∀ (v2121 : BitVec 32) (k0_hw120 : k0_chk120 v2121), ∀ a, (k0_off256 v2121) a + S1x1x128.size a ≤ S128x256x128.size a := fun v2121 k0_hw120 => k0_hw120

def k0_off257 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2132 : Index := Scalar.indexCast arg18
  let c120_2214 : Index := 120#32
  ![v2132.toNat, 120]
def k0_off258 (v2133 : BitVec 32) : Fin 3 → Nat :=
  let v2134 : Index := Scalar.indexCast v2133
  let c120_2215 : Index := 120#32
  let c0_2216 : Index := 0#32
  ![v2134.toNat, 120, 0]

def k0_chk121 (v2133 : BitVec 32) : Prop :=
  (∀ a, (k0_off258 v2133) a + S1x1x128.size a ≤ S128x256x128.size a)
theorem k0_off258_inb : ∀ (v2133 : BitVec 32) (k0_hw121 : k0_chk121 v2133), ∀ a, (k0_off258 v2133) a + S1x1x128.size a ≤ S128x256x128.size a := fun v2133 k0_hw121 => k0_hw121

def k0_off259 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2144 : Index := Scalar.indexCast arg18
  let c121 : Index := 121#32
  ![v2144.toNat, 121]
def k0_off260 (v2145 : BitVec 32) : Fin 3 → Nat :=
  let v2146 : Index := Scalar.indexCast v2145
  let c121_2225 : Index := 121#32
  let c0_2226 : Index := 0#32
  ![v2146.toNat, 121, 0]

def k0_chk122 (v2145 : BitVec 32) : Prop :=
  (∀ a, (k0_off260 v2145) a + S1x1x128.size a ≤ S128x256x128.size a)
theorem k0_off260_inb : ∀ (v2145 : BitVec 32) (k0_hw122 : k0_chk122 v2145), ∀ a, (k0_off260 v2145) a + S1x1x128.size a ≤ S128x256x128.size a := fun v2145 k0_hw122 => k0_hw122

def k0_off261 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2156 : Index := Scalar.indexCast arg18
  let c122 : Index := 122#32
  ![v2156.toNat, 122]
def k0_off262 (v2157 : BitVec 32) : Fin 3 → Nat :=
  let v2158 : Index := Scalar.indexCast v2157
  let c122_2235 : Index := 122#32
  let c0_2236 : Index := 0#32
  ![v2158.toNat, 122, 0]

def k0_chk123 (v2157 : BitVec 32) : Prop :=
  (∀ a, (k0_off262 v2157) a + S1x1x128.size a ≤ S128x256x128.size a)
theorem k0_off262_inb : ∀ (v2157 : BitVec 32) (k0_hw123 : k0_chk123 v2157), ∀ a, (k0_off262 v2157) a + S1x1x128.size a ≤ S128x256x128.size a := fun v2157 k0_hw123 => k0_hw123

def k0_off263 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2168 : Index := Scalar.indexCast arg18
  let c123 : Index := 123#32
  ![v2168.toNat, 123]
def k0_off264 (v2169 : BitVec 32) : Fin 3 → Nat :=
  let v2170 : Index := Scalar.indexCast v2169
  let c123_2245 : Index := 123#32
  let c0_2246 : Index := 0#32
  ![v2170.toNat, 123, 0]

def k0_chk124 (v2169 : BitVec 32) : Prop :=
  (∀ a, (k0_off264 v2169) a + S1x1x128.size a ≤ S128x256x128.size a)
theorem k0_off264_inb : ∀ (v2169 : BitVec 32) (k0_hw124 : k0_chk124 v2169), ∀ a, (k0_off264 v2169) a + S1x1x128.size a ≤ S128x256x128.size a := fun v2169 k0_hw124 => k0_hw124

def k0_off265 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2180 : Index := Scalar.indexCast arg18
  let c124 : Index := 124#32
  ![v2180.toNat, 124]
def k0_off266 (v2181 : BitVec 32) : Fin 3 → Nat :=
  let v2182 : Index := Scalar.indexCast v2181
  let c124_2255 : Index := 124#32
  let c0_2256 : Index := 0#32
  ![v2182.toNat, 124, 0]

def k0_chk125 (v2181 : BitVec 32) : Prop :=
  (∀ a, (k0_off266 v2181) a + S1x1x128.size a ≤ S128x256x128.size a)
theorem k0_off266_inb : ∀ (v2181 : BitVec 32) (k0_hw125 : k0_chk125 v2181), ∀ a, (k0_off266 v2181) a + S1x1x128.size a ≤ S128x256x128.size a := fun v2181 k0_hw125 => k0_hw125

def k0_off267 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2192 : Index := Scalar.indexCast arg18
  let c125 : Index := 125#32
  ![v2192.toNat, 125]
def k0_off268 (v2193 : BitVec 32) : Fin 3 → Nat :=
  let v2194 : Index := Scalar.indexCast v2193
  let c125_2265 : Index := 125#32
  let c0_2266 : Index := 0#32
  ![v2194.toNat, 125, 0]

def k0_chk126 (v2193 : BitVec 32) : Prop :=
  (∀ a, (k0_off268 v2193) a + S1x1x128.size a ≤ S128x256x128.size a)
theorem k0_off268_inb : ∀ (v2193 : BitVec 32) (k0_hw126 : k0_chk126 v2193), ∀ a, (k0_off268 v2193) a + S1x1x128.size a ≤ S128x256x128.size a := fun v2193 k0_hw126 => k0_hw126

def k0_off269 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2204 : Index := Scalar.indexCast arg18
  let c126 : Index := 126#32
  ![v2204.toNat, 126]
def k0_off270 (v2205 : BitVec 32) : Fin 3 → Nat :=
  let v2206 : Index := Scalar.indexCast v2205
  let c126_2275 : Index := 126#32
  let c0_2276 : Index := 0#32
  ![v2206.toNat, 126, 0]

def k0_chk127 (v2205 : BitVec 32) : Prop :=
  (∀ a, (k0_off270 v2205) a + S1x1x128.size a ≤ S128x256x128.size a)
theorem k0_off270_inb : ∀ (v2205 : BitVec 32) (k0_hw127 : k0_chk127 v2205), ∀ a, (k0_off270 v2205) a + S1x1x128.size a ≤ S128x256x128.size a := fun v2205 k0_hw127 => k0_hw127

def k0_off271 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2216 : Index := Scalar.indexCast arg18
  let c127 : Index := 127#32
  ![v2216.toNat, 127]
def k0_off272 (v2217 : BitVec 32) : Fin 3 → Nat :=
  let v2218 : Index := Scalar.indexCast v2217
  let c127_2285 : Index := 127#32
  let c0_2286 : Index := 0#32
  ![v2218.toNat, 127, 0]

def k0_chk128 (v2217 : BitVec 32) : Prop :=
  (∀ a, (k0_off272 v2217) a + S1x1x128.size a ≤ S128x256x128.size a)
theorem k0_off272_inb : ∀ (v2217 : BitVec 32) (k0_hw128 : k0_chk128 v2217), ∀ a, (k0_off272 v2217) a + S1x1x128.size a ≤ S128x256x128.size a := fun v2217 k0_hw128 => k0_hw128

def k0_off273 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2228 : Index := Scalar.indexCast arg18
  let c128 : Index := 128#32
  ![v2228.toNat, 128]
def k0_off274 (v2229 : BitVec 32) : Fin 3 → Nat :=
  let v2230 : Index := Scalar.indexCast v2229
  let c128_2295 : Index := 128#32
  let c0_2296 : Index := 0#32
  ![v2230.toNat, 128, 0]

def k0_chk129 (v2229 : BitVec 32) : Prop :=
  (∀ a, (k0_off274 v2229) a + S1x1x128.size a ≤ S128x256x128.size a)
theorem k0_off274_inb : ∀ (v2229 : BitVec 32) (k0_hw129 : k0_chk129 v2229), ∀ a, (k0_off274 v2229) a + S1x1x128.size a ≤ S128x256x128.size a := fun v2229 k0_hw129 => k0_hw129

def k0_off275 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2240 : Index := Scalar.indexCast arg18
  let c129 : Index := 129#32
  ![v2240.toNat, 129]
def k0_off276 (v2241 : BitVec 32) : Fin 3 → Nat :=
  let v2242 : Index := Scalar.indexCast v2241
  let c129_2305 : Index := 129#32
  let c0_2306 : Index := 0#32
  ![v2242.toNat, 129, 0]

def k0_chk130 (v2241 : BitVec 32) : Prop :=
  (∀ a, (k0_off276 v2241) a + S1x1x128.size a ≤ S128x256x128.size a)
theorem k0_off276_inb : ∀ (v2241 : BitVec 32) (k0_hw130 : k0_chk130 v2241), ∀ a, (k0_off276 v2241) a + S1x1x128.size a ≤ S128x256x128.size a := fun v2241 k0_hw130 => k0_hw130

def k0_off277 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2252 : Index := Scalar.indexCast arg18
  let c130 : Index := 130#32
  ![v2252.toNat, 130]
def k0_off278 (v2253 : BitVec 32) : Fin 3 → Nat :=
  let v2254 : Index := Scalar.indexCast v2253
  let c130_2315 : Index := 130#32
  let c0_2316 : Index := 0#32
  ![v2254.toNat, 130, 0]

def k0_chk131 (v2253 : BitVec 32) : Prop :=
  (∀ a, (k0_off278 v2253) a + S1x1x128.size a ≤ S128x256x128.size a)
theorem k0_off278_inb : ∀ (v2253 : BitVec 32) (k0_hw131 : k0_chk131 v2253), ∀ a, (k0_off278 v2253) a + S1x1x128.size a ≤ S128x256x128.size a := fun v2253 k0_hw131 => k0_hw131

def k0_off279 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2264 : Index := Scalar.indexCast arg18
  let c131 : Index := 131#32
  ![v2264.toNat, 131]
def k0_off280 (v2265 : BitVec 32) : Fin 3 → Nat :=
  let v2266 : Index := Scalar.indexCast v2265
  let c131_2325 : Index := 131#32
  let c0_2326 : Index := 0#32
  ![v2266.toNat, 131, 0]

def k0_chk132 (v2265 : BitVec 32) : Prop :=
  (∀ a, (k0_off280 v2265) a + S1x1x128.size a ≤ S128x256x128.size a)
theorem k0_off280_inb : ∀ (v2265 : BitVec 32) (k0_hw132 : k0_chk132 v2265), ∀ a, (k0_off280 v2265) a + S1x1x128.size a ≤ S128x256x128.size a := fun v2265 k0_hw132 => k0_hw132

def k0_off281 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2276 : Index := Scalar.indexCast arg18
  let c132 : Index := 132#32
  ![v2276.toNat, 132]
def k0_off282 (v2277 : BitVec 32) : Fin 3 → Nat :=
  let v2278 : Index := Scalar.indexCast v2277
  let c132_2335 : Index := 132#32
  let c0_2336 : Index := 0#32
  ![v2278.toNat, 132, 0]

def k0_chk133 (v2277 : BitVec 32) : Prop :=
  (∀ a, (k0_off282 v2277) a + S1x1x128.size a ≤ S128x256x128.size a)
theorem k0_off282_inb : ∀ (v2277 : BitVec 32) (k0_hw133 : k0_chk133 v2277), ∀ a, (k0_off282 v2277) a + S1x1x128.size a ≤ S128x256x128.size a := fun v2277 k0_hw133 => k0_hw133

def k0_off283 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2288 : Index := Scalar.indexCast arg18
  let c133 : Index := 133#32
  ![v2288.toNat, 133]
def k0_off284 (v2289 : BitVec 32) : Fin 3 → Nat :=
  let v2290 : Index := Scalar.indexCast v2289
  let c133_2345 : Index := 133#32
  let c0_2346 : Index := 0#32
  ![v2290.toNat, 133, 0]

def k0_chk134 (v2289 : BitVec 32) : Prop :=
  (∀ a, (k0_off284 v2289) a + S1x1x128.size a ≤ S128x256x128.size a)
theorem k0_off284_inb : ∀ (v2289 : BitVec 32) (k0_hw134 : k0_chk134 v2289), ∀ a, (k0_off284 v2289) a + S1x1x128.size a ≤ S128x256x128.size a := fun v2289 k0_hw134 => k0_hw134

def k0_off285 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2300 : Index := Scalar.indexCast arg18
  let c134 : Index := 134#32
  ![v2300.toNat, 134]
def k0_off286 (v2301 : BitVec 32) : Fin 3 → Nat :=
  let v2302 : Index := Scalar.indexCast v2301
  let c134_2355 : Index := 134#32
  let c0_2356 : Index := 0#32
  ![v2302.toNat, 134, 0]

def k0_chk135 (v2301 : BitVec 32) : Prop :=
  (∀ a, (k0_off286 v2301) a + S1x1x128.size a ≤ S128x256x128.size a)
theorem k0_off286_inb : ∀ (v2301 : BitVec 32) (k0_hw135 : k0_chk135 v2301), ∀ a, (k0_off286 v2301) a + S1x1x128.size a ≤ S128x256x128.size a := fun v2301 k0_hw135 => k0_hw135

def k0_off287 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2312 : Index := Scalar.indexCast arg18
  let c135 : Index := 135#32
  ![v2312.toNat, 135]
def k0_off288 (v2313 : BitVec 32) : Fin 3 → Nat :=
  let v2314 : Index := Scalar.indexCast v2313
  let c135_2365 : Index := 135#32
  let c0_2366 : Index := 0#32
  ![v2314.toNat, 135, 0]

def k0_chk136 (v2313 : BitVec 32) : Prop :=
  (∀ a, (k0_off288 v2313) a + S1x1x128.size a ≤ S128x256x128.size a)
theorem k0_off288_inb : ∀ (v2313 : BitVec 32) (k0_hw136 : k0_chk136 v2313), ∀ a, (k0_off288 v2313) a + S1x1x128.size a ≤ S128x256x128.size a := fun v2313 k0_hw136 => k0_hw136

def k0_off289 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2324 : Index := Scalar.indexCast arg18
  let c136 : Index := 136#32
  ![v2324.toNat, 136]
def k0_off290 (v2325 : BitVec 32) : Fin 3 → Nat :=
  let v2326 : Index := Scalar.indexCast v2325
  let c136_2375 : Index := 136#32
  let c0_2376 : Index := 0#32
  ![v2326.toNat, 136, 0]

def k0_chk137 (v2325 : BitVec 32) : Prop :=
  (∀ a, (k0_off290 v2325) a + S1x1x128.size a ≤ S128x256x128.size a)
theorem k0_off290_inb : ∀ (v2325 : BitVec 32) (k0_hw137 : k0_chk137 v2325), ∀ a, (k0_off290 v2325) a + S1x1x128.size a ≤ S128x256x128.size a := fun v2325 k0_hw137 => k0_hw137

def k0_off291 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2336 : Index := Scalar.indexCast arg18
  let c137 : Index := 137#32
  ![v2336.toNat, 137]
def k0_off292 (v2337 : BitVec 32) : Fin 3 → Nat :=
  let v2338 : Index := Scalar.indexCast v2337
  let c137_2385 : Index := 137#32
  let c0_2386 : Index := 0#32
  ![v2338.toNat, 137, 0]

def k0_chk138 (v2337 : BitVec 32) : Prop :=
  (∀ a, (k0_off292 v2337) a + S1x1x128.size a ≤ S128x256x128.size a)
theorem k0_off292_inb : ∀ (v2337 : BitVec 32) (k0_hw138 : k0_chk138 v2337), ∀ a, (k0_off292 v2337) a + S1x1x128.size a ≤ S128x256x128.size a := fun v2337 k0_hw138 => k0_hw138

def k0_off293 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2348 : Index := Scalar.indexCast arg18
  let c138 : Index := 138#32
  ![v2348.toNat, 138]
def k0_off294 (v2349 : BitVec 32) : Fin 3 → Nat :=
  let v2350 : Index := Scalar.indexCast v2349
  let c138_2395 : Index := 138#32
  let c0_2396 : Index := 0#32
  ![v2350.toNat, 138, 0]

def k0_chk139 (v2349 : BitVec 32) : Prop :=
  (∀ a, (k0_off294 v2349) a + S1x1x128.size a ≤ S128x256x128.size a)
theorem k0_off294_inb : ∀ (v2349 : BitVec 32) (k0_hw139 : k0_chk139 v2349), ∀ a, (k0_off294 v2349) a + S1x1x128.size a ≤ S128x256x128.size a := fun v2349 k0_hw139 => k0_hw139

def k0_off295 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2360 : Index := Scalar.indexCast arg18
  let c139 : Index := 139#32
  ![v2360.toNat, 139]
def k0_off296 (v2361 : BitVec 32) : Fin 3 → Nat :=
  let v2362 : Index := Scalar.indexCast v2361
  let c139_2405 : Index := 139#32
  let c0_2406 : Index := 0#32
  ![v2362.toNat, 139, 0]

def k0_chk140 (v2361 : BitVec 32) : Prop :=
  (∀ a, (k0_off296 v2361) a + S1x1x128.size a ≤ S128x256x128.size a)
theorem k0_off296_inb : ∀ (v2361 : BitVec 32) (k0_hw140 : k0_chk140 v2361), ∀ a, (k0_off296 v2361) a + S1x1x128.size a ≤ S128x256x128.size a := fun v2361 k0_hw140 => k0_hw140

def k0_off297 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2372 : Index := Scalar.indexCast arg18
  let c140 : Index := 140#32
  ![v2372.toNat, 140]
def k0_off298 (v2373 : BitVec 32) : Fin 3 → Nat :=
  let v2374 : Index := Scalar.indexCast v2373
  let c140_2415 : Index := 140#32
  let c0_2416 : Index := 0#32
  ![v2374.toNat, 140, 0]

def k0_chk141 (v2373 : BitVec 32) : Prop :=
  (∀ a, (k0_off298 v2373) a + S1x1x128.size a ≤ S128x256x128.size a)
theorem k0_off298_inb : ∀ (v2373 : BitVec 32) (k0_hw141 : k0_chk141 v2373), ∀ a, (k0_off298 v2373) a + S1x1x128.size a ≤ S128x256x128.size a := fun v2373 k0_hw141 => k0_hw141

def k0_off299 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2384 : Index := Scalar.indexCast arg18
  let c141 : Index := 141#32
  ![v2384.toNat, 141]
def k0_off300 (v2385 : BitVec 32) : Fin 3 → Nat :=
  let v2386 : Index := Scalar.indexCast v2385
  let c141_2425 : Index := 141#32
  let c0_2426 : Index := 0#32
  ![v2386.toNat, 141, 0]

def k0_chk142 (v2385 : BitVec 32) : Prop :=
  (∀ a, (k0_off300 v2385) a + S1x1x128.size a ≤ S128x256x128.size a)
theorem k0_off300_inb : ∀ (v2385 : BitVec 32) (k0_hw142 : k0_chk142 v2385), ∀ a, (k0_off300 v2385) a + S1x1x128.size a ≤ S128x256x128.size a := fun v2385 k0_hw142 => k0_hw142

def k0_off301 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2396 : Index := Scalar.indexCast arg18
  let c142 : Index := 142#32
  ![v2396.toNat, 142]
def k0_off302 (v2397 : BitVec 32) : Fin 3 → Nat :=
  let v2398 : Index := Scalar.indexCast v2397
  let c142_2435 : Index := 142#32
  let c0_2436 : Index := 0#32
  ![v2398.toNat, 142, 0]

def k0_chk143 (v2397 : BitVec 32) : Prop :=
  (∀ a, (k0_off302 v2397) a + S1x1x128.size a ≤ S128x256x128.size a)
theorem k0_off302_inb : ∀ (v2397 : BitVec 32) (k0_hw143 : k0_chk143 v2397), ∀ a, (k0_off302 v2397) a + S1x1x128.size a ≤ S128x256x128.size a := fun v2397 k0_hw143 => k0_hw143

def k0_off303 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2408 : Index := Scalar.indexCast arg18
  let c143 : Index := 143#32
  ![v2408.toNat, 143]
def k0_off304 (v2409 : BitVec 32) : Fin 3 → Nat :=
  let v2410 : Index := Scalar.indexCast v2409
  let c143_2445 : Index := 143#32
  let c0_2446 : Index := 0#32
  ![v2410.toNat, 143, 0]

def k0_chk144 (v2409 : BitVec 32) : Prop :=
  (∀ a, (k0_off304 v2409) a + S1x1x128.size a ≤ S128x256x128.size a)
theorem k0_off304_inb : ∀ (v2409 : BitVec 32) (k0_hw144 : k0_chk144 v2409), ∀ a, (k0_off304 v2409) a + S1x1x128.size a ≤ S128x256x128.size a := fun v2409 k0_hw144 => k0_hw144

def k0_off305 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2420 : Index := Scalar.indexCast arg18
  let c144 : Index := 144#32
  ![v2420.toNat, 144]
def k0_off306 (v2421 : BitVec 32) : Fin 3 → Nat :=
  let v2422 : Index := Scalar.indexCast v2421
  let c144_2455 : Index := 144#32
  let c0_2456 : Index := 0#32
  ![v2422.toNat, 144, 0]

def k0_chk145 (v2421 : BitVec 32) : Prop :=
  (∀ a, (k0_off306 v2421) a + S1x1x128.size a ≤ S128x256x128.size a)
theorem k0_off306_inb : ∀ (v2421 : BitVec 32) (k0_hw145 : k0_chk145 v2421), ∀ a, (k0_off306 v2421) a + S1x1x128.size a ≤ S128x256x128.size a := fun v2421 k0_hw145 => k0_hw145

def k0_off307 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2432 : Index := Scalar.indexCast arg18
  let c145 : Index := 145#32
  ![v2432.toNat, 145]
def k0_off308 (v2433 : BitVec 32) : Fin 3 → Nat :=
  let v2434 : Index := Scalar.indexCast v2433
  let c145_2465 : Index := 145#32
  let c0_2466 : Index := 0#32
  ![v2434.toNat, 145, 0]

def k0_chk146 (v2433 : BitVec 32) : Prop :=
  (∀ a, (k0_off308 v2433) a + S1x1x128.size a ≤ S128x256x128.size a)
theorem k0_off308_inb : ∀ (v2433 : BitVec 32) (k0_hw146 : k0_chk146 v2433), ∀ a, (k0_off308 v2433) a + S1x1x128.size a ≤ S128x256x128.size a := fun v2433 k0_hw146 => k0_hw146

def k0_off309 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2444 : Index := Scalar.indexCast arg18
  let c146 : Index := 146#32
  ![v2444.toNat, 146]
def k0_off310 (v2445 : BitVec 32) : Fin 3 → Nat :=
  let v2446 : Index := Scalar.indexCast v2445
  let c146_2475 : Index := 146#32
  let c0_2476 : Index := 0#32
  ![v2446.toNat, 146, 0]

def k0_chk147 (v2445 : BitVec 32) : Prop :=
  (∀ a, (k0_off310 v2445) a + S1x1x128.size a ≤ S128x256x128.size a)
theorem k0_off310_inb : ∀ (v2445 : BitVec 32) (k0_hw147 : k0_chk147 v2445), ∀ a, (k0_off310 v2445) a + S1x1x128.size a ≤ S128x256x128.size a := fun v2445 k0_hw147 => k0_hw147

def k0_off311 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2456 : Index := Scalar.indexCast arg18
  let c147 : Index := 147#32
  ![v2456.toNat, 147]
def k0_off312 (v2457 : BitVec 32) : Fin 3 → Nat :=
  let v2458 : Index := Scalar.indexCast v2457
  let c147_2485 : Index := 147#32
  let c0_2486 : Index := 0#32
  ![v2458.toNat, 147, 0]

def k0_chk148 (v2457 : BitVec 32) : Prop :=
  (∀ a, (k0_off312 v2457) a + S1x1x128.size a ≤ S128x256x128.size a)
theorem k0_off312_inb : ∀ (v2457 : BitVec 32) (k0_hw148 : k0_chk148 v2457), ∀ a, (k0_off312 v2457) a + S1x1x128.size a ≤ S128x256x128.size a := fun v2457 k0_hw148 => k0_hw148

def k0_off313 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2468 : Index := Scalar.indexCast arg18
  let c148 : Index := 148#32
  ![v2468.toNat, 148]
def k0_off314 (v2469 : BitVec 32) : Fin 3 → Nat :=
  let v2470 : Index := Scalar.indexCast v2469
  let c148_2495 : Index := 148#32
  let c0_2496 : Index := 0#32
  ![v2470.toNat, 148, 0]

def k0_chk149 (v2469 : BitVec 32) : Prop :=
  (∀ a, (k0_off314 v2469) a + S1x1x128.size a ≤ S128x256x128.size a)
theorem k0_off314_inb : ∀ (v2469 : BitVec 32) (k0_hw149 : k0_chk149 v2469), ∀ a, (k0_off314 v2469) a + S1x1x128.size a ≤ S128x256x128.size a := fun v2469 k0_hw149 => k0_hw149

def k0_off315 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2480 : Index := Scalar.indexCast arg18
  let c149 : Index := 149#32
  ![v2480.toNat, 149]
def k0_off316 (v2481 : BitVec 32) : Fin 3 → Nat :=
  let v2482 : Index := Scalar.indexCast v2481
  let c149_2505 : Index := 149#32
  let c0_2506 : Index := 0#32
  ![v2482.toNat, 149, 0]

def k0_chk150 (v2481 : BitVec 32) : Prop :=
  (∀ a, (k0_off316 v2481) a + S1x1x128.size a ≤ S128x256x128.size a)
theorem k0_off316_inb : ∀ (v2481 : BitVec 32) (k0_hw150 : k0_chk150 v2481), ∀ a, (k0_off316 v2481) a + S1x1x128.size a ≤ S128x256x128.size a := fun v2481 k0_hw150 => k0_hw150

def k0_off317 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2492 : Index := Scalar.indexCast arg18
  let c150 : Index := 150#32
  ![v2492.toNat, 150]
def k0_off318 (v2493 : BitVec 32) : Fin 3 → Nat :=
  let v2494 : Index := Scalar.indexCast v2493
  let c150_2515 : Index := 150#32
  let c0_2516 : Index := 0#32
  ![v2494.toNat, 150, 0]

def k0_chk151 (v2493 : BitVec 32) : Prop :=
  (∀ a, (k0_off318 v2493) a + S1x1x128.size a ≤ S128x256x128.size a)
theorem k0_off318_inb : ∀ (v2493 : BitVec 32) (k0_hw151 : k0_chk151 v2493), ∀ a, (k0_off318 v2493) a + S1x1x128.size a ≤ S128x256x128.size a := fun v2493 k0_hw151 => k0_hw151

def k0_off319 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2504 : Index := Scalar.indexCast arg18
  let c151 : Index := 151#32
  ![v2504.toNat, 151]
def k0_off320 (v2505 : BitVec 32) : Fin 3 → Nat :=
  let v2506 : Index := Scalar.indexCast v2505
  let c151_2525 : Index := 151#32
  let c0_2526 : Index := 0#32
  ![v2506.toNat, 151, 0]

def k0_chk152 (v2505 : BitVec 32) : Prop :=
  (∀ a, (k0_off320 v2505) a + S1x1x128.size a ≤ S128x256x128.size a)
theorem k0_off320_inb : ∀ (v2505 : BitVec 32) (k0_hw152 : k0_chk152 v2505), ∀ a, (k0_off320 v2505) a + S1x1x128.size a ≤ S128x256x128.size a := fun v2505 k0_hw152 => k0_hw152

def k0_off321 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2516 : Index := Scalar.indexCast arg18
  let c152 : Index := 152#32
  ![v2516.toNat, 152]
def k0_off322 (v2517 : BitVec 32) : Fin 3 → Nat :=
  let v2518 : Index := Scalar.indexCast v2517
  let c152_2535 : Index := 152#32
  let c0_2536 : Index := 0#32
  ![v2518.toNat, 152, 0]

def k0_chk153 (v2517 : BitVec 32) : Prop :=
  (∀ a, (k0_off322 v2517) a + S1x1x128.size a ≤ S128x256x128.size a)
theorem k0_off322_inb : ∀ (v2517 : BitVec 32) (k0_hw153 : k0_chk153 v2517), ∀ a, (k0_off322 v2517) a + S1x1x128.size a ≤ S128x256x128.size a := fun v2517 k0_hw153 => k0_hw153

def k0_off323 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2528 : Index := Scalar.indexCast arg18
  let c153 : Index := 153#32
  ![v2528.toNat, 153]
def k0_off324 (v2529 : BitVec 32) : Fin 3 → Nat :=
  let v2530 : Index := Scalar.indexCast v2529
  let c153_2545 : Index := 153#32
  let c0_2546 : Index := 0#32
  ![v2530.toNat, 153, 0]

def k0_chk154 (v2529 : BitVec 32) : Prop :=
  (∀ a, (k0_off324 v2529) a + S1x1x128.size a ≤ S128x256x128.size a)
theorem k0_off324_inb : ∀ (v2529 : BitVec 32) (k0_hw154 : k0_chk154 v2529), ∀ a, (k0_off324 v2529) a + S1x1x128.size a ≤ S128x256x128.size a := fun v2529 k0_hw154 => k0_hw154

def k0_off325 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2540 : Index := Scalar.indexCast arg18
  let c154 : Index := 154#32
  ![v2540.toNat, 154]
def k0_off326 (v2541 : BitVec 32) : Fin 3 → Nat :=
  let v2542 : Index := Scalar.indexCast v2541
  let c154_2555 : Index := 154#32
  let c0_2556 : Index := 0#32
  ![v2542.toNat, 154, 0]

def k0_chk155 (v2541 : BitVec 32) : Prop :=
  (∀ a, (k0_off326 v2541) a + S1x1x128.size a ≤ S128x256x128.size a)
theorem k0_off326_inb : ∀ (v2541 : BitVec 32) (k0_hw155 : k0_chk155 v2541), ∀ a, (k0_off326 v2541) a + S1x1x128.size a ≤ S128x256x128.size a := fun v2541 k0_hw155 => k0_hw155

def k0_off327 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2552 : Index := Scalar.indexCast arg18
  let c155 : Index := 155#32
  ![v2552.toNat, 155]
def k0_off328 (v2553 : BitVec 32) : Fin 3 → Nat :=
  let v2554 : Index := Scalar.indexCast v2553
  let c155_2565 : Index := 155#32
  let c0_2566 : Index := 0#32
  ![v2554.toNat, 155, 0]

def k0_chk156 (v2553 : BitVec 32) : Prop :=
  (∀ a, (k0_off328 v2553) a + S1x1x128.size a ≤ S128x256x128.size a)
theorem k0_off328_inb : ∀ (v2553 : BitVec 32) (k0_hw156 : k0_chk156 v2553), ∀ a, (k0_off328 v2553) a + S1x1x128.size a ≤ S128x256x128.size a := fun v2553 k0_hw156 => k0_hw156

def k0_off329 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2564 : Index := Scalar.indexCast arg18
  let c156 : Index := 156#32
  ![v2564.toNat, 156]
def k0_off330 (v2565 : BitVec 32) : Fin 3 → Nat :=
  let v2566 : Index := Scalar.indexCast v2565
  let c156_2575 : Index := 156#32
  let c0_2576 : Index := 0#32
  ![v2566.toNat, 156, 0]

def k0_chk157 (v2565 : BitVec 32) : Prop :=
  (∀ a, (k0_off330 v2565) a + S1x1x128.size a ≤ S128x256x128.size a)
theorem k0_off330_inb : ∀ (v2565 : BitVec 32) (k0_hw157 : k0_chk157 v2565), ∀ a, (k0_off330 v2565) a + S1x1x128.size a ≤ S128x256x128.size a := fun v2565 k0_hw157 => k0_hw157

def k0_off331 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2576 : Index := Scalar.indexCast arg18
  let c157 : Index := 157#32
  ![v2576.toNat, 157]
def k0_off332 (v2577 : BitVec 32) : Fin 3 → Nat :=
  let v2578 : Index := Scalar.indexCast v2577
  let c157_2585 : Index := 157#32
  let c0_2586 : Index := 0#32
  ![v2578.toNat, 157, 0]

def k0_chk158 (v2577 : BitVec 32) : Prop :=
  (∀ a, (k0_off332 v2577) a + S1x1x128.size a ≤ S128x256x128.size a)
theorem k0_off332_inb : ∀ (v2577 : BitVec 32) (k0_hw158 : k0_chk158 v2577), ∀ a, (k0_off332 v2577) a + S1x1x128.size a ≤ S128x256x128.size a := fun v2577 k0_hw158 => k0_hw158

def k0_off333 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2588 : Index := Scalar.indexCast arg18
  let c158 : Index := 158#32
  ![v2588.toNat, 158]
def k0_off334 (v2589 : BitVec 32) : Fin 3 → Nat :=
  let v2590 : Index := Scalar.indexCast v2589
  let c158_2595 : Index := 158#32
  let c0_2596 : Index := 0#32
  ![v2590.toNat, 158, 0]

def k0_chk159 (v2589 : BitVec 32) : Prop :=
  (∀ a, (k0_off334 v2589) a + S1x1x128.size a ≤ S128x256x128.size a)
theorem k0_off334_inb : ∀ (v2589 : BitVec 32) (k0_hw159 : k0_chk159 v2589), ∀ a, (k0_off334 v2589) a + S1x1x128.size a ≤ S128x256x128.size a := fun v2589 k0_hw159 => k0_hw159

def k0_off335 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2600 : Index := Scalar.indexCast arg18
  let c159 : Index := 159#32
  ![v2600.toNat, 159]
def k0_off336 (v2601 : BitVec 32) : Fin 3 → Nat :=
  let v2602 : Index := Scalar.indexCast v2601
  let c159_2605 : Index := 159#32
  let c0_2606 : Index := 0#32
  ![v2602.toNat, 159, 0]

def k0_chk160 (v2601 : BitVec 32) : Prop :=
  (∀ a, (k0_off336 v2601) a + S1x1x128.size a ≤ S128x256x128.size a)
theorem k0_off336_inb : ∀ (v2601 : BitVec 32) (k0_hw160 : k0_chk160 v2601), ∀ a, (k0_off336 v2601) a + S1x1x128.size a ≤ S128x256x128.size a := fun v2601 k0_hw160 => k0_hw160

def k0_off337 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2612 : Index := Scalar.indexCast arg18
  let c160 : Index := 160#32
  ![v2612.toNat, 160]
def k0_off338 (v2613 : BitVec 32) : Fin 3 → Nat :=
  let v2614 : Index := Scalar.indexCast v2613
  let c160_2615 : Index := 160#32
  let c0_2616 : Index := 0#32
  ![v2614.toNat, 160, 0]

def k0_chk161 (v2613 : BitVec 32) : Prop :=
  (∀ a, (k0_off338 v2613) a + S1x1x128.size a ≤ S128x256x128.size a)
theorem k0_off338_inb : ∀ (v2613 : BitVec 32) (k0_hw161 : k0_chk161 v2613), ∀ a, (k0_off338 v2613) a + S1x1x128.size a ≤ S128x256x128.size a := fun v2613 k0_hw161 => k0_hw161

def k0_off339 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2624 : Index := Scalar.indexCast arg18
  let c161 : Index := 161#32
  ![v2624.toNat, 161]
def k0_off340 (v2625 : BitVec 32) : Fin 3 → Nat :=
  let v2626 : Index := Scalar.indexCast v2625
  let c161_2625 : Index := 161#32
  let c0_2626 : Index := 0#32
  ![v2626.toNat, 161, 0]

def k0_chk162 (v2625 : BitVec 32) : Prop :=
  (∀ a, (k0_off340 v2625) a + S1x1x128.size a ≤ S128x256x128.size a)
theorem k0_off340_inb : ∀ (v2625 : BitVec 32) (k0_hw162 : k0_chk162 v2625), ∀ a, (k0_off340 v2625) a + S1x1x128.size a ≤ S128x256x128.size a := fun v2625 k0_hw162 => k0_hw162

def k0_off341 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2636 : Index := Scalar.indexCast arg18
  let c162 : Index := 162#32
  ![v2636.toNat, 162]
def k0_off342 (v2637 : BitVec 32) : Fin 3 → Nat :=
  let v2638 : Index := Scalar.indexCast v2637
  let c162_2635 : Index := 162#32
  let c0_2636 : Index := 0#32
  ![v2638.toNat, 162, 0]

def k0_chk163 (v2637 : BitVec 32) : Prop :=
  (∀ a, (k0_off342 v2637) a + S1x1x128.size a ≤ S128x256x128.size a)
theorem k0_off342_inb : ∀ (v2637 : BitVec 32) (k0_hw163 : k0_chk163 v2637), ∀ a, (k0_off342 v2637) a + S1x1x128.size a ≤ S128x256x128.size a := fun v2637 k0_hw163 => k0_hw163

def k0_off343 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2648 : Index := Scalar.indexCast arg18
  let c163 : Index := 163#32
  ![v2648.toNat, 163]
def k0_off344 (v2649 : BitVec 32) : Fin 3 → Nat :=
  let v2650 : Index := Scalar.indexCast v2649
  let c163_2645 : Index := 163#32
  let c0_2646 : Index := 0#32
  ![v2650.toNat, 163, 0]

def k0_chk164 (v2649 : BitVec 32) : Prop :=
  (∀ a, (k0_off344 v2649) a + S1x1x128.size a ≤ S128x256x128.size a)
theorem k0_off344_inb : ∀ (v2649 : BitVec 32) (k0_hw164 : k0_chk164 v2649), ∀ a, (k0_off344 v2649) a + S1x1x128.size a ≤ S128x256x128.size a := fun v2649 k0_hw164 => k0_hw164

def k0_off345 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2660 : Index := Scalar.indexCast arg18
  let c164 : Index := 164#32
  ![v2660.toNat, 164]
def k0_off346 (v2661 : BitVec 32) : Fin 3 → Nat :=
  let v2662 : Index := Scalar.indexCast v2661
  let c164_2655 : Index := 164#32
  let c0_2656 : Index := 0#32
  ![v2662.toNat, 164, 0]

def k0_chk165 (v2661 : BitVec 32) : Prop :=
  (∀ a, (k0_off346 v2661) a + S1x1x128.size a ≤ S128x256x128.size a)
theorem k0_off346_inb : ∀ (v2661 : BitVec 32) (k0_hw165 : k0_chk165 v2661), ∀ a, (k0_off346 v2661) a + S1x1x128.size a ≤ S128x256x128.size a := fun v2661 k0_hw165 => k0_hw165

def k0_off347 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2672 : Index := Scalar.indexCast arg18
  let c165 : Index := 165#32
  ![v2672.toNat, 165]
def k0_off348 (v2673 : BitVec 32) : Fin 3 → Nat :=
  let v2674 : Index := Scalar.indexCast v2673
  let c165_2665 : Index := 165#32
  let c0_2666 : Index := 0#32
  ![v2674.toNat, 165, 0]

def k0_chk166 (v2673 : BitVec 32) : Prop :=
  (∀ a, (k0_off348 v2673) a + S1x1x128.size a ≤ S128x256x128.size a)
theorem k0_off348_inb : ∀ (v2673 : BitVec 32) (k0_hw166 : k0_chk166 v2673), ∀ a, (k0_off348 v2673) a + S1x1x128.size a ≤ S128x256x128.size a := fun v2673 k0_hw166 => k0_hw166

def k0_off349 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2684 : Index := Scalar.indexCast arg18
  let c166 : Index := 166#32
  ![v2684.toNat, 166]
def k0_off350 (v2685 : BitVec 32) : Fin 3 → Nat :=
  let v2686 : Index := Scalar.indexCast v2685
  let c166_2675 : Index := 166#32
  let c0_2676 : Index := 0#32
  ![v2686.toNat, 166, 0]

def k0_chk167 (v2685 : BitVec 32) : Prop :=
  (∀ a, (k0_off350 v2685) a + S1x1x128.size a ≤ S128x256x128.size a)
theorem k0_off350_inb : ∀ (v2685 : BitVec 32) (k0_hw167 : k0_chk167 v2685), ∀ a, (k0_off350 v2685) a + S1x1x128.size a ≤ S128x256x128.size a := fun v2685 k0_hw167 => k0_hw167

def k0_off351 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2696 : Index := Scalar.indexCast arg18
  let c167 : Index := 167#32
  ![v2696.toNat, 167]
def k0_off352 (v2697 : BitVec 32) : Fin 3 → Nat :=
  let v2698 : Index := Scalar.indexCast v2697
  let c167_2685 : Index := 167#32
  let c0_2686 : Index := 0#32
  ![v2698.toNat, 167, 0]

def k0_chk168 (v2697 : BitVec 32) : Prop :=
  (∀ a, (k0_off352 v2697) a + S1x1x128.size a ≤ S128x256x128.size a)
theorem k0_off352_inb : ∀ (v2697 : BitVec 32) (k0_hw168 : k0_chk168 v2697), ∀ a, (k0_off352 v2697) a + S1x1x128.size a ≤ S128x256x128.size a := fun v2697 k0_hw168 => k0_hw168

def k0_off353 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2708 : Index := Scalar.indexCast arg18
  let c168 : Index := 168#32
  ![v2708.toNat, 168]
def k0_off354 (v2709 : BitVec 32) : Fin 3 → Nat :=
  let v2710 : Index := Scalar.indexCast v2709
  let c168_2695 : Index := 168#32
  let c0_2696 : Index := 0#32
  ![v2710.toNat, 168, 0]

def k0_chk169 (v2709 : BitVec 32) : Prop :=
  (∀ a, (k0_off354 v2709) a + S1x1x128.size a ≤ S128x256x128.size a)
theorem k0_off354_inb : ∀ (v2709 : BitVec 32) (k0_hw169 : k0_chk169 v2709), ∀ a, (k0_off354 v2709) a + S1x1x128.size a ≤ S128x256x128.size a := fun v2709 k0_hw169 => k0_hw169

def k0_off355 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2720 : Index := Scalar.indexCast arg18
  let c169 : Index := 169#32
  ![v2720.toNat, 169]
def k0_off356 (v2721 : BitVec 32) : Fin 3 → Nat :=
  let v2722 : Index := Scalar.indexCast v2721
  let c169_2705 : Index := 169#32
  let c0_2706 : Index := 0#32
  ![v2722.toNat, 169, 0]

def k0_chk170 (v2721 : BitVec 32) : Prop :=
  (∀ a, (k0_off356 v2721) a + S1x1x128.size a ≤ S128x256x128.size a)
theorem k0_off356_inb : ∀ (v2721 : BitVec 32) (k0_hw170 : k0_chk170 v2721), ∀ a, (k0_off356 v2721) a + S1x1x128.size a ≤ S128x256x128.size a := fun v2721 k0_hw170 => k0_hw170

def k0_off357 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2732 : Index := Scalar.indexCast arg18
  let c170 : Index := 170#32
  ![v2732.toNat, 170]
def k0_off358 (v2733 : BitVec 32) : Fin 3 → Nat :=
  let v2734 : Index := Scalar.indexCast v2733
  let c170_2715 : Index := 170#32
  let c0_2716 : Index := 0#32
  ![v2734.toNat, 170, 0]

def k0_chk171 (v2733 : BitVec 32) : Prop :=
  (∀ a, (k0_off358 v2733) a + S1x1x128.size a ≤ S128x256x128.size a)
theorem k0_off358_inb : ∀ (v2733 : BitVec 32) (k0_hw171 : k0_chk171 v2733), ∀ a, (k0_off358 v2733) a + S1x1x128.size a ≤ S128x256x128.size a := fun v2733 k0_hw171 => k0_hw171

def k0_off359 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2744 : Index := Scalar.indexCast arg18
  let c171 : Index := 171#32
  ![v2744.toNat, 171]
def k0_off360 (v2745 : BitVec 32) : Fin 3 → Nat :=
  let v2746 : Index := Scalar.indexCast v2745
  let c171_2725 : Index := 171#32
  let c0_2726 : Index := 0#32
  ![v2746.toNat, 171, 0]

def k0_chk172 (v2745 : BitVec 32) : Prop :=
  (∀ a, (k0_off360 v2745) a + S1x1x128.size a ≤ S128x256x128.size a)
theorem k0_off360_inb : ∀ (v2745 : BitVec 32) (k0_hw172 : k0_chk172 v2745), ∀ a, (k0_off360 v2745) a + S1x1x128.size a ≤ S128x256x128.size a := fun v2745 k0_hw172 => k0_hw172

def k0_off361 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2756 : Index := Scalar.indexCast arg18
  let c172 : Index := 172#32
  ![v2756.toNat, 172]
def k0_off362 (v2757 : BitVec 32) : Fin 3 → Nat :=
  let v2758 : Index := Scalar.indexCast v2757
  let c172_2735 : Index := 172#32
  let c0_2736 : Index := 0#32
  ![v2758.toNat, 172, 0]

def k0_chk173 (v2757 : BitVec 32) : Prop :=
  (∀ a, (k0_off362 v2757) a + S1x1x128.size a ≤ S128x256x128.size a)
theorem k0_off362_inb : ∀ (v2757 : BitVec 32) (k0_hw173 : k0_chk173 v2757), ∀ a, (k0_off362 v2757) a + S1x1x128.size a ≤ S128x256x128.size a := fun v2757 k0_hw173 => k0_hw173

def k0_off363 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2768 : Index := Scalar.indexCast arg18
  let c173 : Index := 173#32
  ![v2768.toNat, 173]
def k0_off364 (v2769 : BitVec 32) : Fin 3 → Nat :=
  let v2770 : Index := Scalar.indexCast v2769
  let c173_2745 : Index := 173#32
  let c0_2746 : Index := 0#32
  ![v2770.toNat, 173, 0]

def k0_chk174 (v2769 : BitVec 32) : Prop :=
  (∀ a, (k0_off364 v2769) a + S1x1x128.size a ≤ S128x256x128.size a)
theorem k0_off364_inb : ∀ (v2769 : BitVec 32) (k0_hw174 : k0_chk174 v2769), ∀ a, (k0_off364 v2769) a + S1x1x128.size a ≤ S128x256x128.size a := fun v2769 k0_hw174 => k0_hw174

def k0_off365 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2780 : Index := Scalar.indexCast arg18
  let c174 : Index := 174#32
  ![v2780.toNat, 174]
def k0_off366 (v2781 : BitVec 32) : Fin 3 → Nat :=
  let v2782 : Index := Scalar.indexCast v2781
  let c174_2755 : Index := 174#32
  let c0_2756 : Index := 0#32
  ![v2782.toNat, 174, 0]

def k0_chk175 (v2781 : BitVec 32) : Prop :=
  (∀ a, (k0_off366 v2781) a + S1x1x128.size a ≤ S128x256x128.size a)
theorem k0_off366_inb : ∀ (v2781 : BitVec 32) (k0_hw175 : k0_chk175 v2781), ∀ a, (k0_off366 v2781) a + S1x1x128.size a ≤ S128x256x128.size a := fun v2781 k0_hw175 => k0_hw175

def k0_off367 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2792 : Index := Scalar.indexCast arg18
  let c175 : Index := 175#32
  ![v2792.toNat, 175]
def k0_off368 (v2793 : BitVec 32) : Fin 3 → Nat :=
  let v2794 : Index := Scalar.indexCast v2793
  let c175_2765 : Index := 175#32
  let c0_2766 : Index := 0#32
  ![v2794.toNat, 175, 0]

def k0_chk176 (v2793 : BitVec 32) : Prop :=
  (∀ a, (k0_off368 v2793) a + S1x1x128.size a ≤ S128x256x128.size a)
theorem k0_off368_inb : ∀ (v2793 : BitVec 32) (k0_hw176 : k0_chk176 v2793), ∀ a, (k0_off368 v2793) a + S1x1x128.size a ≤ S128x256x128.size a := fun v2793 k0_hw176 => k0_hw176

def k0_off369 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2804 : Index := Scalar.indexCast arg18
  let c176 : Index := 176#32
  ![v2804.toNat, 176]
def k0_off370 (v2805 : BitVec 32) : Fin 3 → Nat :=
  let v2806 : Index := Scalar.indexCast v2805
  let c176_2775 : Index := 176#32
  let c0_2776 : Index := 0#32
  ![v2806.toNat, 176, 0]

def k0_chk177 (v2805 : BitVec 32) : Prop :=
  (∀ a, (k0_off370 v2805) a + S1x1x128.size a ≤ S128x256x128.size a)
theorem k0_off370_inb : ∀ (v2805 : BitVec 32) (k0_hw177 : k0_chk177 v2805), ∀ a, (k0_off370 v2805) a + S1x1x128.size a ≤ S128x256x128.size a := fun v2805 k0_hw177 => k0_hw177

def k0_off371 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2816 : Index := Scalar.indexCast arg18
  let c177 : Index := 177#32
  ![v2816.toNat, 177]
def k0_off372 (v2817 : BitVec 32) : Fin 3 → Nat :=
  let v2818 : Index := Scalar.indexCast v2817
  let c177_2785 : Index := 177#32
  let c0_2786 : Index := 0#32
  ![v2818.toNat, 177, 0]

def k0_chk178 (v2817 : BitVec 32) : Prop :=
  (∀ a, (k0_off372 v2817) a + S1x1x128.size a ≤ S128x256x128.size a)
theorem k0_off372_inb : ∀ (v2817 : BitVec 32) (k0_hw178 : k0_chk178 v2817), ∀ a, (k0_off372 v2817) a + S1x1x128.size a ≤ S128x256x128.size a := fun v2817 k0_hw178 => k0_hw178

def k0_off373 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2828 : Index := Scalar.indexCast arg18
  let c178 : Index := 178#32
  ![v2828.toNat, 178]
def k0_off374 (v2829 : BitVec 32) : Fin 3 → Nat :=
  let v2830 : Index := Scalar.indexCast v2829
  let c178_2795 : Index := 178#32
  let c0_2796 : Index := 0#32
  ![v2830.toNat, 178, 0]

def k0_chk179 (v2829 : BitVec 32) : Prop :=
  (∀ a, (k0_off374 v2829) a + S1x1x128.size a ≤ S128x256x128.size a)
theorem k0_off374_inb : ∀ (v2829 : BitVec 32) (k0_hw179 : k0_chk179 v2829), ∀ a, (k0_off374 v2829) a + S1x1x128.size a ≤ S128x256x128.size a := fun v2829 k0_hw179 => k0_hw179

def k0_off375 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2840 : Index := Scalar.indexCast arg18
  let c179 : Index := 179#32
  ![v2840.toNat, 179]
def k0_off376 (v2841 : BitVec 32) : Fin 3 → Nat :=
  let v2842 : Index := Scalar.indexCast v2841
  let c179_2805 : Index := 179#32
  let c0_2806 : Index := 0#32
  ![v2842.toNat, 179, 0]

def k0_chk180 (v2841 : BitVec 32) : Prop :=
  (∀ a, (k0_off376 v2841) a + S1x1x128.size a ≤ S128x256x128.size a)
theorem k0_off376_inb : ∀ (v2841 : BitVec 32) (k0_hw180 : k0_chk180 v2841), ∀ a, (k0_off376 v2841) a + S1x1x128.size a ≤ S128x256x128.size a := fun v2841 k0_hw180 => k0_hw180

def k0_off377 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2852 : Index := Scalar.indexCast arg18
  let c180 : Index := 180#32
  ![v2852.toNat, 180]
def k0_off378 (v2853 : BitVec 32) : Fin 3 → Nat :=
  let v2854 : Index := Scalar.indexCast v2853
  let c180_2815 : Index := 180#32
  let c0_2816 : Index := 0#32
  ![v2854.toNat, 180, 0]

def k0_chk181 (v2853 : BitVec 32) : Prop :=
  (∀ a, (k0_off378 v2853) a + S1x1x128.size a ≤ S128x256x128.size a)
theorem k0_off378_inb : ∀ (v2853 : BitVec 32) (k0_hw181 : k0_chk181 v2853), ∀ a, (k0_off378 v2853) a + S1x1x128.size a ≤ S128x256x128.size a := fun v2853 k0_hw181 => k0_hw181

def k0_off379 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2864 : Index := Scalar.indexCast arg18
  let c181 : Index := 181#32
  ![v2864.toNat, 181]
def k0_off380 (v2865 : BitVec 32) : Fin 3 → Nat :=
  let v2866 : Index := Scalar.indexCast v2865
  let c181_2825 : Index := 181#32
  let c0_2826 : Index := 0#32
  ![v2866.toNat, 181, 0]

def k0_chk182 (v2865 : BitVec 32) : Prop :=
  (∀ a, (k0_off380 v2865) a + S1x1x128.size a ≤ S128x256x128.size a)
theorem k0_off380_inb : ∀ (v2865 : BitVec 32) (k0_hw182 : k0_chk182 v2865), ∀ a, (k0_off380 v2865) a + S1x1x128.size a ≤ S128x256x128.size a := fun v2865 k0_hw182 => k0_hw182

def k0_off381 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2876 : Index := Scalar.indexCast arg18
  let c182 : Index := 182#32
  ![v2876.toNat, 182]
def k0_off382 (v2877 : BitVec 32) : Fin 3 → Nat :=
  let v2878 : Index := Scalar.indexCast v2877
  let c182_2835 : Index := 182#32
  let c0_2836 : Index := 0#32
  ![v2878.toNat, 182, 0]

def k0_chk183 (v2877 : BitVec 32) : Prop :=
  (∀ a, (k0_off382 v2877) a + S1x1x128.size a ≤ S128x256x128.size a)
theorem k0_off382_inb : ∀ (v2877 : BitVec 32) (k0_hw183 : k0_chk183 v2877), ∀ a, (k0_off382 v2877) a + S1x1x128.size a ≤ S128x256x128.size a := fun v2877 k0_hw183 => k0_hw183

def k0_off383 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2888 : Index := Scalar.indexCast arg18
  let c183 : Index := 183#32
  ![v2888.toNat, 183]
def k0_off384 (v2889 : BitVec 32) : Fin 3 → Nat :=
  let v2890 : Index := Scalar.indexCast v2889
  let c183_2845 : Index := 183#32
  let c0_2846 : Index := 0#32
  ![v2890.toNat, 183, 0]

def k0_chk184 (v2889 : BitVec 32) : Prop :=
  (∀ a, (k0_off384 v2889) a + S1x1x128.size a ≤ S128x256x128.size a)
theorem k0_off384_inb : ∀ (v2889 : BitVec 32) (k0_hw184 : k0_chk184 v2889), ∀ a, (k0_off384 v2889) a + S1x1x128.size a ≤ S128x256x128.size a := fun v2889 k0_hw184 => k0_hw184

def k0_off385 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2900 : Index := Scalar.indexCast arg18
  let c184 : Index := 184#32
  ![v2900.toNat, 184]
def k0_off386 (v2901 : BitVec 32) : Fin 3 → Nat :=
  let v2902 : Index := Scalar.indexCast v2901
  let c184_2855 : Index := 184#32
  let c0_2856 : Index := 0#32
  ![v2902.toNat, 184, 0]

def k0_chk185 (v2901 : BitVec 32) : Prop :=
  (∀ a, (k0_off386 v2901) a + S1x1x128.size a ≤ S128x256x128.size a)
theorem k0_off386_inb : ∀ (v2901 : BitVec 32) (k0_hw185 : k0_chk185 v2901), ∀ a, (k0_off386 v2901) a + S1x1x128.size a ≤ S128x256x128.size a := fun v2901 k0_hw185 => k0_hw185

def k0_off387 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2912 : Index := Scalar.indexCast arg18
  let c185 : Index := 185#32
  ![v2912.toNat, 185]
def k0_off388 (v2913 : BitVec 32) : Fin 3 → Nat :=
  let v2914 : Index := Scalar.indexCast v2913
  let c185_2865 : Index := 185#32
  let c0_2866 : Index := 0#32
  ![v2914.toNat, 185, 0]

def k0_chk186 (v2913 : BitVec 32) : Prop :=
  (∀ a, (k0_off388 v2913) a + S1x1x128.size a ≤ S128x256x128.size a)
theorem k0_off388_inb : ∀ (v2913 : BitVec 32) (k0_hw186 : k0_chk186 v2913), ∀ a, (k0_off388 v2913) a + S1x1x128.size a ≤ S128x256x128.size a := fun v2913 k0_hw186 => k0_hw186

def k0_off389 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2924 : Index := Scalar.indexCast arg18
  let c186 : Index := 186#32
  ![v2924.toNat, 186]
def k0_off390 (v2925 : BitVec 32) : Fin 3 → Nat :=
  let v2926 : Index := Scalar.indexCast v2925
  let c186_2875 : Index := 186#32
  let c0_2876 : Index := 0#32
  ![v2926.toNat, 186, 0]

def k0_chk187 (v2925 : BitVec 32) : Prop :=
  (∀ a, (k0_off390 v2925) a + S1x1x128.size a ≤ S128x256x128.size a)
theorem k0_off390_inb : ∀ (v2925 : BitVec 32) (k0_hw187 : k0_chk187 v2925), ∀ a, (k0_off390 v2925) a + S1x1x128.size a ≤ S128x256x128.size a := fun v2925 k0_hw187 => k0_hw187

def k0_off391 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2936 : Index := Scalar.indexCast arg18
  let c187 : Index := 187#32
  ![v2936.toNat, 187]
def k0_off392 (v2937 : BitVec 32) : Fin 3 → Nat :=
  let v2938 : Index := Scalar.indexCast v2937
  let c187_2885 : Index := 187#32
  let c0_2886 : Index := 0#32
  ![v2938.toNat, 187, 0]

def k0_chk188 (v2937 : BitVec 32) : Prop :=
  (∀ a, (k0_off392 v2937) a + S1x1x128.size a ≤ S128x256x128.size a)
theorem k0_off392_inb : ∀ (v2937 : BitVec 32) (k0_hw188 : k0_chk188 v2937), ∀ a, (k0_off392 v2937) a + S1x1x128.size a ≤ S128x256x128.size a := fun v2937 k0_hw188 => k0_hw188

def k0_off393 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2948 : Index := Scalar.indexCast arg18
  let c188 : Index := 188#32
  ![v2948.toNat, 188]
def k0_off394 (v2949 : BitVec 32) : Fin 3 → Nat :=
  let v2950 : Index := Scalar.indexCast v2949
  let c188_2895 : Index := 188#32
  let c0_2896 : Index := 0#32
  ![v2950.toNat, 188, 0]

def k0_chk189 (v2949 : BitVec 32) : Prop :=
  (∀ a, (k0_off394 v2949) a + S1x1x128.size a ≤ S128x256x128.size a)
theorem k0_off394_inb : ∀ (v2949 : BitVec 32) (k0_hw189 : k0_chk189 v2949), ∀ a, (k0_off394 v2949) a + S1x1x128.size a ≤ S128x256x128.size a := fun v2949 k0_hw189 => k0_hw189

def k0_off395 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2960 : Index := Scalar.indexCast arg18
  let c189 : Index := 189#32
  ![v2960.toNat, 189]
def k0_off396 (v2961 : BitVec 32) : Fin 3 → Nat :=
  let v2962 : Index := Scalar.indexCast v2961
  let c189_2905 : Index := 189#32
  let c0_2906 : Index := 0#32
  ![v2962.toNat, 189, 0]

def k0_chk190 (v2961 : BitVec 32) : Prop :=
  (∀ a, (k0_off396 v2961) a + S1x1x128.size a ≤ S128x256x128.size a)
theorem k0_off396_inb : ∀ (v2961 : BitVec 32) (k0_hw190 : k0_chk190 v2961), ∀ a, (k0_off396 v2961) a + S1x1x128.size a ≤ S128x256x128.size a := fun v2961 k0_hw190 => k0_hw190

def k0_off397 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2972 : Index := Scalar.indexCast arg18
  let c190 : Index := 190#32
  ![v2972.toNat, 190]
def k0_off398 (v2973 : BitVec 32) : Fin 3 → Nat :=
  let v2974 : Index := Scalar.indexCast v2973
  let c190_2915 : Index := 190#32
  let c0_2916 : Index := 0#32
  ![v2974.toNat, 190, 0]

def k0_chk191 (v2973 : BitVec 32) : Prop :=
  (∀ a, (k0_off398 v2973) a + S1x1x128.size a ≤ S128x256x128.size a)
theorem k0_off398_inb : ∀ (v2973 : BitVec 32) (k0_hw191 : k0_chk191 v2973), ∀ a, (k0_off398 v2973) a + S1x1x128.size a ≤ S128x256x128.size a := fun v2973 k0_hw191 => k0_hw191

def k0_off399 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2984 : Index := Scalar.indexCast arg18
  let c191 : Index := 191#32
  ![v2984.toNat, 191]
def k0_off400 (v2985 : BitVec 32) : Fin 3 → Nat :=
  let v2986 : Index := Scalar.indexCast v2985
  let c191_2925 : Index := 191#32
  let c0_2926 : Index := 0#32
  ![v2986.toNat, 191, 0]

def k0_chk192 (v2985 : BitVec 32) : Prop :=
  (∀ a, (k0_off400 v2985) a + S1x1x128.size a ≤ S128x256x128.size a)
theorem k0_off400_inb : ∀ (v2985 : BitVec 32) (k0_hw192 : k0_chk192 v2985), ∀ a, (k0_off400 v2985) a + S1x1x128.size a ≤ S128x256x128.size a := fun v2985 k0_hw192 => k0_hw192

def k0_off401 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v2996 : Index := Scalar.indexCast arg18
  let c192 : Index := 192#32
  ![v2996.toNat, 192]
def k0_off402 (v2997 : BitVec 32) : Fin 3 → Nat :=
  let v2998 : Index := Scalar.indexCast v2997
  let c192_2935 : Index := 192#32
  let c0_2936 : Index := 0#32
  ![v2998.toNat, 192, 0]

def k0_chk193 (v2997 : BitVec 32) : Prop :=
  (∀ a, (k0_off402 v2997) a + S1x1x128.size a ≤ S128x256x128.size a)
theorem k0_off402_inb : ∀ (v2997 : BitVec 32) (k0_hw193 : k0_chk193 v2997), ∀ a, (k0_off402 v2997) a + S1x1x128.size a ≤ S128x256x128.size a := fun v2997 k0_hw193 => k0_hw193

def k0_off403 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3008 : Index := Scalar.indexCast arg18
  let c193 : Index := 193#32
  ![v3008.toNat, 193]
def k0_off404 (v3009 : BitVec 32) : Fin 3 → Nat :=
  let v3010 : Index := Scalar.indexCast v3009
  let c193_2945 : Index := 193#32
  let c0_2946 : Index := 0#32
  ![v3010.toNat, 193, 0]

def k0_chk194 (v3009 : BitVec 32) : Prop :=
  (∀ a, (k0_off404 v3009) a + S1x1x128.size a ≤ S128x256x128.size a)
theorem k0_off404_inb : ∀ (v3009 : BitVec 32) (k0_hw194 : k0_chk194 v3009), ∀ a, (k0_off404 v3009) a + S1x1x128.size a ≤ S128x256x128.size a := fun v3009 k0_hw194 => k0_hw194

def k0_off405 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3020 : Index := Scalar.indexCast arg18
  let c194 : Index := 194#32
  ![v3020.toNat, 194]
def k0_off406 (v3021 : BitVec 32) : Fin 3 → Nat :=
  let v3022 : Index := Scalar.indexCast v3021
  let c194_2955 : Index := 194#32
  let c0_2956 : Index := 0#32
  ![v3022.toNat, 194, 0]

def k0_chk195 (v3021 : BitVec 32) : Prop :=
  (∀ a, (k0_off406 v3021) a + S1x1x128.size a ≤ S128x256x128.size a)
theorem k0_off406_inb : ∀ (v3021 : BitVec 32) (k0_hw195 : k0_chk195 v3021), ∀ a, (k0_off406 v3021) a + S1x1x128.size a ≤ S128x256x128.size a := fun v3021 k0_hw195 => k0_hw195

def k0_off407 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3032 : Index := Scalar.indexCast arg18
  let c195 : Index := 195#32
  ![v3032.toNat, 195]
def k0_off408 (v3033 : BitVec 32) : Fin 3 → Nat :=
  let v3034 : Index := Scalar.indexCast v3033
  let c195_2965 : Index := 195#32
  let c0_2966 : Index := 0#32
  ![v3034.toNat, 195, 0]

def k0_chk196 (v3033 : BitVec 32) : Prop :=
  (∀ a, (k0_off408 v3033) a + S1x1x128.size a ≤ S128x256x128.size a)
theorem k0_off408_inb : ∀ (v3033 : BitVec 32) (k0_hw196 : k0_chk196 v3033), ∀ a, (k0_off408 v3033) a + S1x1x128.size a ≤ S128x256x128.size a := fun v3033 k0_hw196 => k0_hw196

def k0_off409 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3044 : Index := Scalar.indexCast arg18
  let c196 : Index := 196#32
  ![v3044.toNat, 196]
def k0_off410 (v3045 : BitVec 32) : Fin 3 → Nat :=
  let v3046 : Index := Scalar.indexCast v3045
  let c196_2975 : Index := 196#32
  let c0_2976 : Index := 0#32
  ![v3046.toNat, 196, 0]

def k0_chk197 (v3045 : BitVec 32) : Prop :=
  (∀ a, (k0_off410 v3045) a + S1x1x128.size a ≤ S128x256x128.size a)
theorem k0_off410_inb : ∀ (v3045 : BitVec 32) (k0_hw197 : k0_chk197 v3045), ∀ a, (k0_off410 v3045) a + S1x1x128.size a ≤ S128x256x128.size a := fun v3045 k0_hw197 => k0_hw197

def k0_off411 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3056 : Index := Scalar.indexCast arg18
  let c197 : Index := 197#32
  ![v3056.toNat, 197]
def k0_off412 (v3057 : BitVec 32) : Fin 3 → Nat :=
  let v3058 : Index := Scalar.indexCast v3057
  let c197_2985 : Index := 197#32
  let c0_2986 : Index := 0#32
  ![v3058.toNat, 197, 0]

def k0_chk198 (v3057 : BitVec 32) : Prop :=
  (∀ a, (k0_off412 v3057) a + S1x1x128.size a ≤ S128x256x128.size a)
theorem k0_off412_inb : ∀ (v3057 : BitVec 32) (k0_hw198 : k0_chk198 v3057), ∀ a, (k0_off412 v3057) a + S1x1x128.size a ≤ S128x256x128.size a := fun v3057 k0_hw198 => k0_hw198

def k0_off413 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3068 : Index := Scalar.indexCast arg18
  let c198 : Index := 198#32
  ![v3068.toNat, 198]
def k0_off414 (v3069 : BitVec 32) : Fin 3 → Nat :=
  let v3070 : Index := Scalar.indexCast v3069
  let c198_2995 : Index := 198#32
  let c0_2996 : Index := 0#32
  ![v3070.toNat, 198, 0]

def k0_chk199 (v3069 : BitVec 32) : Prop :=
  (∀ a, (k0_off414 v3069) a + S1x1x128.size a ≤ S128x256x128.size a)
theorem k0_off414_inb : ∀ (v3069 : BitVec 32) (k0_hw199 : k0_chk199 v3069), ∀ a, (k0_off414 v3069) a + S1x1x128.size a ≤ S128x256x128.size a := fun v3069 k0_hw199 => k0_hw199

def k0_off415 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3080 : Index := Scalar.indexCast arg18
  let c199 : Index := 199#32
  ![v3080.toNat, 199]
def k0_off416 (v3081 : BitVec 32) : Fin 3 → Nat :=
  let v3082 : Index := Scalar.indexCast v3081
  let c199_3005 : Index := 199#32
  let c0_3006 : Index := 0#32
  ![v3082.toNat, 199, 0]

def k0_chk200 (v3081 : BitVec 32) : Prop :=
  (∀ a, (k0_off416 v3081) a + S1x1x128.size a ≤ S128x256x128.size a)
theorem k0_off416_inb : ∀ (v3081 : BitVec 32) (k0_hw200 : k0_chk200 v3081), ∀ a, (k0_off416 v3081) a + S1x1x128.size a ≤ S128x256x128.size a := fun v3081 k0_hw200 => k0_hw200

def k0_off417 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3092 : Index := Scalar.indexCast arg18
  let c200 : Index := 200#32
  ![v3092.toNat, 200]
def k0_off418 (v3093 : BitVec 32) : Fin 3 → Nat :=
  let v3094 : Index := Scalar.indexCast v3093
  let c200_3015 : Index := 200#32
  let c0_3016 : Index := 0#32
  ![v3094.toNat, 200, 0]

def k0_chk201 (v3093 : BitVec 32) : Prop :=
  (∀ a, (k0_off418 v3093) a + S1x1x128.size a ≤ S128x256x128.size a)
theorem k0_off418_inb : ∀ (v3093 : BitVec 32) (k0_hw201 : k0_chk201 v3093), ∀ a, (k0_off418 v3093) a + S1x1x128.size a ≤ S128x256x128.size a := fun v3093 k0_hw201 => k0_hw201

def k0_off419 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3104 : Index := Scalar.indexCast arg18
  let c201 : Index := 201#32
  ![v3104.toNat, 201]
def k0_off420 (v3105 : BitVec 32) : Fin 3 → Nat :=
  let v3106 : Index := Scalar.indexCast v3105
  let c201_3025 : Index := 201#32
  let c0_3026 : Index := 0#32
  ![v3106.toNat, 201, 0]

def k0_chk202 (v3105 : BitVec 32) : Prop :=
  (∀ a, (k0_off420 v3105) a + S1x1x128.size a ≤ S128x256x128.size a)
theorem k0_off420_inb : ∀ (v3105 : BitVec 32) (k0_hw202 : k0_chk202 v3105), ∀ a, (k0_off420 v3105) a + S1x1x128.size a ≤ S128x256x128.size a := fun v3105 k0_hw202 => k0_hw202

def k0_off421 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3116 : Index := Scalar.indexCast arg18
  let c202 : Index := 202#32
  ![v3116.toNat, 202]
def k0_off422 (v3117 : BitVec 32) : Fin 3 → Nat :=
  let v3118 : Index := Scalar.indexCast v3117
  let c202_3035 : Index := 202#32
  let c0_3036 : Index := 0#32
  ![v3118.toNat, 202, 0]

def k0_chk203 (v3117 : BitVec 32) : Prop :=
  (∀ a, (k0_off422 v3117) a + S1x1x128.size a ≤ S128x256x128.size a)
theorem k0_off422_inb : ∀ (v3117 : BitVec 32) (k0_hw203 : k0_chk203 v3117), ∀ a, (k0_off422 v3117) a + S1x1x128.size a ≤ S128x256x128.size a := fun v3117 k0_hw203 => k0_hw203

def k0_off423 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3128 : Index := Scalar.indexCast arg18
  let c203 : Index := 203#32
  ![v3128.toNat, 203]
def k0_off424 (v3129 : BitVec 32) : Fin 3 → Nat :=
  let v3130 : Index := Scalar.indexCast v3129
  let c203_3045 : Index := 203#32
  let c0_3046 : Index := 0#32
  ![v3130.toNat, 203, 0]

def k0_chk204 (v3129 : BitVec 32) : Prop :=
  (∀ a, (k0_off424 v3129) a + S1x1x128.size a ≤ S128x256x128.size a)
theorem k0_off424_inb : ∀ (v3129 : BitVec 32) (k0_hw204 : k0_chk204 v3129), ∀ a, (k0_off424 v3129) a + S1x1x128.size a ≤ S128x256x128.size a := fun v3129 k0_hw204 => k0_hw204

def k0_off425 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3140 : Index := Scalar.indexCast arg18
  let c204 : Index := 204#32
  ![v3140.toNat, 204]
def k0_off426 (v3141 : BitVec 32) : Fin 3 → Nat :=
  let v3142 : Index := Scalar.indexCast v3141
  let c204_3055 : Index := 204#32
  let c0_3056 : Index := 0#32
  ![v3142.toNat, 204, 0]

def k0_chk205 (v3141 : BitVec 32) : Prop :=
  (∀ a, (k0_off426 v3141) a + S1x1x128.size a ≤ S128x256x128.size a)
theorem k0_off426_inb : ∀ (v3141 : BitVec 32) (k0_hw205 : k0_chk205 v3141), ∀ a, (k0_off426 v3141) a + S1x1x128.size a ≤ S128x256x128.size a := fun v3141 k0_hw205 => k0_hw205

def k0_off427 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3152 : Index := Scalar.indexCast arg18
  let c205 : Index := 205#32
  ![v3152.toNat, 205]
def k0_off428 (v3153 : BitVec 32) : Fin 3 → Nat :=
  let v3154 : Index := Scalar.indexCast v3153
  let c205_3065 : Index := 205#32
  let c0_3066 : Index := 0#32
  ![v3154.toNat, 205, 0]

def k0_chk206 (v3153 : BitVec 32) : Prop :=
  (∀ a, (k0_off428 v3153) a + S1x1x128.size a ≤ S128x256x128.size a)
theorem k0_off428_inb : ∀ (v3153 : BitVec 32) (k0_hw206 : k0_chk206 v3153), ∀ a, (k0_off428 v3153) a + S1x1x128.size a ≤ S128x256x128.size a := fun v3153 k0_hw206 => k0_hw206

def k0_off429 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3164 : Index := Scalar.indexCast arg18
  let c206 : Index := 206#32
  ![v3164.toNat, 206]
def k0_off430 (v3165 : BitVec 32) : Fin 3 → Nat :=
  let v3166 : Index := Scalar.indexCast v3165
  let c206_3075 : Index := 206#32
  let c0_3076 : Index := 0#32
  ![v3166.toNat, 206, 0]

def k0_chk207 (v3165 : BitVec 32) : Prop :=
  (∀ a, (k0_off430 v3165) a + S1x1x128.size a ≤ S128x256x128.size a)
theorem k0_off430_inb : ∀ (v3165 : BitVec 32) (k0_hw207 : k0_chk207 v3165), ∀ a, (k0_off430 v3165) a + S1x1x128.size a ≤ S128x256x128.size a := fun v3165 k0_hw207 => k0_hw207

def k0_off431 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3176 : Index := Scalar.indexCast arg18
  let c207 : Index := 207#32
  ![v3176.toNat, 207]
def k0_off432 (v3177 : BitVec 32) : Fin 3 → Nat :=
  let v3178 : Index := Scalar.indexCast v3177
  let c207_3085 : Index := 207#32
  let c0_3086 : Index := 0#32
  ![v3178.toNat, 207, 0]

def k0_chk208 (v3177 : BitVec 32) : Prop :=
  (∀ a, (k0_off432 v3177) a + S1x1x128.size a ≤ S128x256x128.size a)
theorem k0_off432_inb : ∀ (v3177 : BitVec 32) (k0_hw208 : k0_chk208 v3177), ∀ a, (k0_off432 v3177) a + S1x1x128.size a ≤ S128x256x128.size a := fun v3177 k0_hw208 => k0_hw208

def k0_off433 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3188 : Index := Scalar.indexCast arg18
  let c208 : Index := 208#32
  ![v3188.toNat, 208]
def k0_off434 (v3189 : BitVec 32) : Fin 3 → Nat :=
  let v3190 : Index := Scalar.indexCast v3189
  let c208_3095 : Index := 208#32
  let c0_3096 : Index := 0#32
  ![v3190.toNat, 208, 0]

def k0_chk209 (v3189 : BitVec 32) : Prop :=
  (∀ a, (k0_off434 v3189) a + S1x1x128.size a ≤ S128x256x128.size a)
theorem k0_off434_inb : ∀ (v3189 : BitVec 32) (k0_hw209 : k0_chk209 v3189), ∀ a, (k0_off434 v3189) a + S1x1x128.size a ≤ S128x256x128.size a := fun v3189 k0_hw209 => k0_hw209

def k0_off435 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3200 : Index := Scalar.indexCast arg18
  let c209 : Index := 209#32
  ![v3200.toNat, 209]
def k0_off436 (v3201 : BitVec 32) : Fin 3 → Nat :=
  let v3202 : Index := Scalar.indexCast v3201
  let c209_3105 : Index := 209#32
  let c0_3106 : Index := 0#32
  ![v3202.toNat, 209, 0]

def k0_chk210 (v3201 : BitVec 32) : Prop :=
  (∀ a, (k0_off436 v3201) a + S1x1x128.size a ≤ S128x256x128.size a)
theorem k0_off436_inb : ∀ (v3201 : BitVec 32) (k0_hw210 : k0_chk210 v3201), ∀ a, (k0_off436 v3201) a + S1x1x128.size a ≤ S128x256x128.size a := fun v3201 k0_hw210 => k0_hw210

def k0_off437 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3212 : Index := Scalar.indexCast arg18
  let c210 : Index := 210#32
  ![v3212.toNat, 210]
def k0_off438 (v3213 : BitVec 32) : Fin 3 → Nat :=
  let v3214 : Index := Scalar.indexCast v3213
  let c210_3115 : Index := 210#32
  let c0_3116 : Index := 0#32
  ![v3214.toNat, 210, 0]

def k0_chk211 (v3213 : BitVec 32) : Prop :=
  (∀ a, (k0_off438 v3213) a + S1x1x128.size a ≤ S128x256x128.size a)
theorem k0_off438_inb : ∀ (v3213 : BitVec 32) (k0_hw211 : k0_chk211 v3213), ∀ a, (k0_off438 v3213) a + S1x1x128.size a ≤ S128x256x128.size a := fun v3213 k0_hw211 => k0_hw211

def k0_off439 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3224 : Index := Scalar.indexCast arg18
  let c211 : Index := 211#32
  ![v3224.toNat, 211]
def k0_off440 (v3225 : BitVec 32) : Fin 3 → Nat :=
  let v3226 : Index := Scalar.indexCast v3225
  let c211_3125 : Index := 211#32
  let c0_3126 : Index := 0#32
  ![v3226.toNat, 211, 0]

def k0_chk212 (v3225 : BitVec 32) : Prop :=
  (∀ a, (k0_off440 v3225) a + S1x1x128.size a ≤ S128x256x128.size a)
theorem k0_off440_inb : ∀ (v3225 : BitVec 32) (k0_hw212 : k0_chk212 v3225), ∀ a, (k0_off440 v3225) a + S1x1x128.size a ≤ S128x256x128.size a := fun v3225 k0_hw212 => k0_hw212

def k0_off441 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3236 : Index := Scalar.indexCast arg18
  let c212 : Index := 212#32
  ![v3236.toNat, 212]
def k0_off442 (v3237 : BitVec 32) : Fin 3 → Nat :=
  let v3238 : Index := Scalar.indexCast v3237
  let c212_3135 : Index := 212#32
  let c0_3136 : Index := 0#32
  ![v3238.toNat, 212, 0]

def k0_chk213 (v3237 : BitVec 32) : Prop :=
  (∀ a, (k0_off442 v3237) a + S1x1x128.size a ≤ S128x256x128.size a)
theorem k0_off442_inb : ∀ (v3237 : BitVec 32) (k0_hw213 : k0_chk213 v3237), ∀ a, (k0_off442 v3237) a + S1x1x128.size a ≤ S128x256x128.size a := fun v3237 k0_hw213 => k0_hw213

def k0_off443 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3248 : Index := Scalar.indexCast arg18
  let c213 : Index := 213#32
  ![v3248.toNat, 213]
def k0_off444 (v3249 : BitVec 32) : Fin 3 → Nat :=
  let v3250 : Index := Scalar.indexCast v3249
  let c213_3145 : Index := 213#32
  let c0_3146 : Index := 0#32
  ![v3250.toNat, 213, 0]

def k0_chk214 (v3249 : BitVec 32) : Prop :=
  (∀ a, (k0_off444 v3249) a + S1x1x128.size a ≤ S128x256x128.size a)
theorem k0_off444_inb : ∀ (v3249 : BitVec 32) (k0_hw214 : k0_chk214 v3249), ∀ a, (k0_off444 v3249) a + S1x1x128.size a ≤ S128x256x128.size a := fun v3249 k0_hw214 => k0_hw214

def k0_off445 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3260 : Index := Scalar.indexCast arg18
  let c214 : Index := 214#32
  ![v3260.toNat, 214]
def k0_off446 (v3261 : BitVec 32) : Fin 3 → Nat :=
  let v3262 : Index := Scalar.indexCast v3261
  let c214_3155 : Index := 214#32
  let c0_3156 : Index := 0#32
  ![v3262.toNat, 214, 0]

def k0_chk215 (v3261 : BitVec 32) : Prop :=
  (∀ a, (k0_off446 v3261) a + S1x1x128.size a ≤ S128x256x128.size a)
theorem k0_off446_inb : ∀ (v3261 : BitVec 32) (k0_hw215 : k0_chk215 v3261), ∀ a, (k0_off446 v3261) a + S1x1x128.size a ≤ S128x256x128.size a := fun v3261 k0_hw215 => k0_hw215

def k0_off447 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3272 : Index := Scalar.indexCast arg18
  let c215 : Index := 215#32
  ![v3272.toNat, 215]
def k0_off448 (v3273 : BitVec 32) : Fin 3 → Nat :=
  let v3274 : Index := Scalar.indexCast v3273
  let c215_3165 : Index := 215#32
  let c0_3166 : Index := 0#32
  ![v3274.toNat, 215, 0]

def k0_chk216 (v3273 : BitVec 32) : Prop :=
  (∀ a, (k0_off448 v3273) a + S1x1x128.size a ≤ S128x256x128.size a)
theorem k0_off448_inb : ∀ (v3273 : BitVec 32) (k0_hw216 : k0_chk216 v3273), ∀ a, (k0_off448 v3273) a + S1x1x128.size a ≤ S128x256x128.size a := fun v3273 k0_hw216 => k0_hw216

def k0_off449 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3284 : Index := Scalar.indexCast arg18
  let c216 : Index := 216#32
  ![v3284.toNat, 216]
def k0_off450 (v3285 : BitVec 32) : Fin 3 → Nat :=
  let v3286 : Index := Scalar.indexCast v3285
  let c216_3175 : Index := 216#32
  let c0_3176 : Index := 0#32
  ![v3286.toNat, 216, 0]

def k0_chk217 (v3285 : BitVec 32) : Prop :=
  (∀ a, (k0_off450 v3285) a + S1x1x128.size a ≤ S128x256x128.size a)
theorem k0_off450_inb : ∀ (v3285 : BitVec 32) (k0_hw217 : k0_chk217 v3285), ∀ a, (k0_off450 v3285) a + S1x1x128.size a ≤ S128x256x128.size a := fun v3285 k0_hw217 => k0_hw217

def k0_off451 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3296 : Index := Scalar.indexCast arg18
  let c217 : Index := 217#32
  ![v3296.toNat, 217]
def k0_off452 (v3297 : BitVec 32) : Fin 3 → Nat :=
  let v3298 : Index := Scalar.indexCast v3297
  let c217_3185 : Index := 217#32
  let c0_3186 : Index := 0#32
  ![v3298.toNat, 217, 0]

def k0_chk218 (v3297 : BitVec 32) : Prop :=
  (∀ a, (k0_off452 v3297) a + S1x1x128.size a ≤ S128x256x128.size a)
theorem k0_off452_inb : ∀ (v3297 : BitVec 32) (k0_hw218 : k0_chk218 v3297), ∀ a, (k0_off452 v3297) a + S1x1x128.size a ≤ S128x256x128.size a := fun v3297 k0_hw218 => k0_hw218

def k0_off453 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3308 : Index := Scalar.indexCast arg18
  let c218 : Index := 218#32
  ![v3308.toNat, 218]
def k0_off454 (v3309 : BitVec 32) : Fin 3 → Nat :=
  let v3310 : Index := Scalar.indexCast v3309
  let c218_3195 : Index := 218#32
  let c0_3196 : Index := 0#32
  ![v3310.toNat, 218, 0]

def k0_chk219 (v3309 : BitVec 32) : Prop :=
  (∀ a, (k0_off454 v3309) a + S1x1x128.size a ≤ S128x256x128.size a)
theorem k0_off454_inb : ∀ (v3309 : BitVec 32) (k0_hw219 : k0_chk219 v3309), ∀ a, (k0_off454 v3309) a + S1x1x128.size a ≤ S128x256x128.size a := fun v3309 k0_hw219 => k0_hw219

def k0_off455 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3320 : Index := Scalar.indexCast arg18
  let c219 : Index := 219#32
  ![v3320.toNat, 219]
def k0_off456 (v3321 : BitVec 32) : Fin 3 → Nat :=
  let v3322 : Index := Scalar.indexCast v3321
  let c219_3205 : Index := 219#32
  let c0_3206 : Index := 0#32
  ![v3322.toNat, 219, 0]

def k0_chk220 (v3321 : BitVec 32) : Prop :=
  (∀ a, (k0_off456 v3321) a + S1x1x128.size a ≤ S128x256x128.size a)
theorem k0_off456_inb : ∀ (v3321 : BitVec 32) (k0_hw220 : k0_chk220 v3321), ∀ a, (k0_off456 v3321) a + S1x1x128.size a ≤ S128x256x128.size a := fun v3321 k0_hw220 => k0_hw220

def k0_off457 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3332 : Index := Scalar.indexCast arg18
  let c220 : Index := 220#32
  ![v3332.toNat, 220]
def k0_off458 (v3333 : BitVec 32) : Fin 3 → Nat :=
  let v3334 : Index := Scalar.indexCast v3333
  let c220_3215 : Index := 220#32
  let c0_3216 : Index := 0#32
  ![v3334.toNat, 220, 0]

def k0_chk221 (v3333 : BitVec 32) : Prop :=
  (∀ a, (k0_off458 v3333) a + S1x1x128.size a ≤ S128x256x128.size a)
theorem k0_off458_inb : ∀ (v3333 : BitVec 32) (k0_hw221 : k0_chk221 v3333), ∀ a, (k0_off458 v3333) a + S1x1x128.size a ≤ S128x256x128.size a := fun v3333 k0_hw221 => k0_hw221

def k0_off459 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3344 : Index := Scalar.indexCast arg18
  let c221 : Index := 221#32
  ![v3344.toNat, 221]
def k0_off460 (v3345 : BitVec 32) : Fin 3 → Nat :=
  let v3346 : Index := Scalar.indexCast v3345
  let c221_3225 : Index := 221#32
  let c0_3226 : Index := 0#32
  ![v3346.toNat, 221, 0]

def k0_chk222 (v3345 : BitVec 32) : Prop :=
  (∀ a, (k0_off460 v3345) a + S1x1x128.size a ≤ S128x256x128.size a)
theorem k0_off460_inb : ∀ (v3345 : BitVec 32) (k0_hw222 : k0_chk222 v3345), ∀ a, (k0_off460 v3345) a + S1x1x128.size a ≤ S128x256x128.size a := fun v3345 k0_hw222 => k0_hw222

def k0_off461 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3356 : Index := Scalar.indexCast arg18
  let c222 : Index := 222#32
  ![v3356.toNat, 222]
def k0_off462 (v3357 : BitVec 32) : Fin 3 → Nat :=
  let v3358 : Index := Scalar.indexCast v3357
  let c222_3235 : Index := 222#32
  let c0_3236 : Index := 0#32
  ![v3358.toNat, 222, 0]

def k0_chk223 (v3357 : BitVec 32) : Prop :=
  (∀ a, (k0_off462 v3357) a + S1x1x128.size a ≤ S128x256x128.size a)
theorem k0_off462_inb : ∀ (v3357 : BitVec 32) (k0_hw223 : k0_chk223 v3357), ∀ a, (k0_off462 v3357) a + S1x1x128.size a ≤ S128x256x128.size a := fun v3357 k0_hw223 => k0_hw223

def k0_off463 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3368 : Index := Scalar.indexCast arg18
  let c223 : Index := 223#32
  ![v3368.toNat, 223]
def k0_off464 (v3369 : BitVec 32) : Fin 3 → Nat :=
  let v3370 : Index := Scalar.indexCast v3369
  let c223_3245 : Index := 223#32
  let c0_3246 : Index := 0#32
  ![v3370.toNat, 223, 0]

def k0_chk224 (v3369 : BitVec 32) : Prop :=
  (∀ a, (k0_off464 v3369) a + S1x1x128.size a ≤ S128x256x128.size a)
theorem k0_off464_inb : ∀ (v3369 : BitVec 32) (k0_hw224 : k0_chk224 v3369), ∀ a, (k0_off464 v3369) a + S1x1x128.size a ≤ S128x256x128.size a := fun v3369 k0_hw224 => k0_hw224

def k0_off465 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3380 : Index := Scalar.indexCast arg18
  let c224 : Index := 224#32
  ![v3380.toNat, 224]
def k0_off466 (v3381 : BitVec 32) : Fin 3 → Nat :=
  let v3382 : Index := Scalar.indexCast v3381
  let c224_3255 : Index := 224#32
  let c0_3256 : Index := 0#32
  ![v3382.toNat, 224, 0]

def k0_chk225 (v3381 : BitVec 32) : Prop :=
  (∀ a, (k0_off466 v3381) a + S1x1x128.size a ≤ S128x256x128.size a)
theorem k0_off466_inb : ∀ (v3381 : BitVec 32) (k0_hw225 : k0_chk225 v3381), ∀ a, (k0_off466 v3381) a + S1x1x128.size a ≤ S128x256x128.size a := fun v3381 k0_hw225 => k0_hw225

def k0_off467 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3392 : Index := Scalar.indexCast arg18
  let c225 : Index := 225#32
  ![v3392.toNat, 225]
def k0_off468 (v3393 : BitVec 32) : Fin 3 → Nat :=
  let v3394 : Index := Scalar.indexCast v3393
  let c225_3265 : Index := 225#32
  let c0_3266 : Index := 0#32
  ![v3394.toNat, 225, 0]

def k0_chk226 (v3393 : BitVec 32) : Prop :=
  (∀ a, (k0_off468 v3393) a + S1x1x128.size a ≤ S128x256x128.size a)
theorem k0_off468_inb : ∀ (v3393 : BitVec 32) (k0_hw226 : k0_chk226 v3393), ∀ a, (k0_off468 v3393) a + S1x1x128.size a ≤ S128x256x128.size a := fun v3393 k0_hw226 => k0_hw226

def k0_off469 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3404 : Index := Scalar.indexCast arg18
  let c226 : Index := 226#32
  ![v3404.toNat, 226]
def k0_off470 (v3405 : BitVec 32) : Fin 3 → Nat :=
  let v3406 : Index := Scalar.indexCast v3405
  let c226_3275 : Index := 226#32
  let c0_3276 : Index := 0#32
  ![v3406.toNat, 226, 0]

def k0_chk227 (v3405 : BitVec 32) : Prop :=
  (∀ a, (k0_off470 v3405) a + S1x1x128.size a ≤ S128x256x128.size a)
theorem k0_off470_inb : ∀ (v3405 : BitVec 32) (k0_hw227 : k0_chk227 v3405), ∀ a, (k0_off470 v3405) a + S1x1x128.size a ≤ S128x256x128.size a := fun v3405 k0_hw227 => k0_hw227

def k0_off471 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3416 : Index := Scalar.indexCast arg18
  let c227 : Index := 227#32
  ![v3416.toNat, 227]
def k0_off472 (v3417 : BitVec 32) : Fin 3 → Nat :=
  let v3418 : Index := Scalar.indexCast v3417
  let c227_3285 : Index := 227#32
  let c0_3286 : Index := 0#32
  ![v3418.toNat, 227, 0]

def k0_chk228 (v3417 : BitVec 32) : Prop :=
  (∀ a, (k0_off472 v3417) a + S1x1x128.size a ≤ S128x256x128.size a)
theorem k0_off472_inb : ∀ (v3417 : BitVec 32) (k0_hw228 : k0_chk228 v3417), ∀ a, (k0_off472 v3417) a + S1x1x128.size a ≤ S128x256x128.size a := fun v3417 k0_hw228 => k0_hw228

def k0_off473 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3428 : Index := Scalar.indexCast arg18
  let c228 : Index := 228#32
  ![v3428.toNat, 228]
def k0_off474 (v3429 : BitVec 32) : Fin 3 → Nat :=
  let v3430 : Index := Scalar.indexCast v3429
  let c228_3295 : Index := 228#32
  let c0_3296 : Index := 0#32
  ![v3430.toNat, 228, 0]

def k0_chk229 (v3429 : BitVec 32) : Prop :=
  (∀ a, (k0_off474 v3429) a + S1x1x128.size a ≤ S128x256x128.size a)
theorem k0_off474_inb : ∀ (v3429 : BitVec 32) (k0_hw229 : k0_chk229 v3429), ∀ a, (k0_off474 v3429) a + S1x1x128.size a ≤ S128x256x128.size a := fun v3429 k0_hw229 => k0_hw229

def k0_off475 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3440 : Index := Scalar.indexCast arg18
  let c229 : Index := 229#32
  ![v3440.toNat, 229]
def k0_off476 (v3441 : BitVec 32) : Fin 3 → Nat :=
  let v3442 : Index := Scalar.indexCast v3441
  let c229_3305 : Index := 229#32
  let c0_3306 : Index := 0#32
  ![v3442.toNat, 229, 0]

def k0_chk230 (v3441 : BitVec 32) : Prop :=
  (∀ a, (k0_off476 v3441) a + S1x1x128.size a ≤ S128x256x128.size a)
theorem k0_off476_inb : ∀ (v3441 : BitVec 32) (k0_hw230 : k0_chk230 v3441), ∀ a, (k0_off476 v3441) a + S1x1x128.size a ≤ S128x256x128.size a := fun v3441 k0_hw230 => k0_hw230

def k0_off477 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3452 : Index := Scalar.indexCast arg18
  let c230 : Index := 230#32
  ![v3452.toNat, 230]
def k0_off478 (v3453 : BitVec 32) : Fin 3 → Nat :=
  let v3454 : Index := Scalar.indexCast v3453
  let c230_3315 : Index := 230#32
  let c0_3316 : Index := 0#32
  ![v3454.toNat, 230, 0]

def k0_chk231 (v3453 : BitVec 32) : Prop :=
  (∀ a, (k0_off478 v3453) a + S1x1x128.size a ≤ S128x256x128.size a)
theorem k0_off478_inb : ∀ (v3453 : BitVec 32) (k0_hw231 : k0_chk231 v3453), ∀ a, (k0_off478 v3453) a + S1x1x128.size a ≤ S128x256x128.size a := fun v3453 k0_hw231 => k0_hw231

def k0_off479 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3464 : Index := Scalar.indexCast arg18
  let c231 : Index := 231#32
  ![v3464.toNat, 231]
def k0_off480 (v3465 : BitVec 32) : Fin 3 → Nat :=
  let v3466 : Index := Scalar.indexCast v3465
  let c231_3325 : Index := 231#32
  let c0_3326 : Index := 0#32
  ![v3466.toNat, 231, 0]

def k0_chk232 (v3465 : BitVec 32) : Prop :=
  (∀ a, (k0_off480 v3465) a + S1x1x128.size a ≤ S128x256x128.size a)
theorem k0_off480_inb : ∀ (v3465 : BitVec 32) (k0_hw232 : k0_chk232 v3465), ∀ a, (k0_off480 v3465) a + S1x1x128.size a ≤ S128x256x128.size a := fun v3465 k0_hw232 => k0_hw232

def k0_off481 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3476 : Index := Scalar.indexCast arg18
  let c232 : Index := 232#32
  ![v3476.toNat, 232]
def k0_off482 (v3477 : BitVec 32) : Fin 3 → Nat :=
  let v3478 : Index := Scalar.indexCast v3477
  let c232_3335 : Index := 232#32
  let c0_3336 : Index := 0#32
  ![v3478.toNat, 232, 0]

def k0_chk233 (v3477 : BitVec 32) : Prop :=
  (∀ a, (k0_off482 v3477) a + S1x1x128.size a ≤ S128x256x128.size a)
theorem k0_off482_inb : ∀ (v3477 : BitVec 32) (k0_hw233 : k0_chk233 v3477), ∀ a, (k0_off482 v3477) a + S1x1x128.size a ≤ S128x256x128.size a := fun v3477 k0_hw233 => k0_hw233

def k0_off483 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3488 : Index := Scalar.indexCast arg18
  let c233 : Index := 233#32
  ![v3488.toNat, 233]
def k0_off484 (v3489 : BitVec 32) : Fin 3 → Nat :=
  let v3490 : Index := Scalar.indexCast v3489
  let c233_3345 : Index := 233#32
  let c0_3346 : Index := 0#32
  ![v3490.toNat, 233, 0]

def k0_chk234 (v3489 : BitVec 32) : Prop :=
  (∀ a, (k0_off484 v3489) a + S1x1x128.size a ≤ S128x256x128.size a)
theorem k0_off484_inb : ∀ (v3489 : BitVec 32) (k0_hw234 : k0_chk234 v3489), ∀ a, (k0_off484 v3489) a + S1x1x128.size a ≤ S128x256x128.size a := fun v3489 k0_hw234 => k0_hw234

def k0_off485 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3500 : Index := Scalar.indexCast arg18
  let c234 : Index := 234#32
  ![v3500.toNat, 234]
def k0_off486 (v3501 : BitVec 32) : Fin 3 → Nat :=
  let v3502 : Index := Scalar.indexCast v3501
  let c234_3355 : Index := 234#32
  let c0_3356 : Index := 0#32
  ![v3502.toNat, 234, 0]

def k0_chk235 (v3501 : BitVec 32) : Prop :=
  (∀ a, (k0_off486 v3501) a + S1x1x128.size a ≤ S128x256x128.size a)
theorem k0_off486_inb : ∀ (v3501 : BitVec 32) (k0_hw235 : k0_chk235 v3501), ∀ a, (k0_off486 v3501) a + S1x1x128.size a ≤ S128x256x128.size a := fun v3501 k0_hw235 => k0_hw235

def k0_off487 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3512 : Index := Scalar.indexCast arg18
  let c235 : Index := 235#32
  ![v3512.toNat, 235]
def k0_off488 (v3513 : BitVec 32) : Fin 3 → Nat :=
  let v3514 : Index := Scalar.indexCast v3513
  let c235_3365 : Index := 235#32
  let c0_3366 : Index := 0#32
  ![v3514.toNat, 235, 0]

def k0_chk236 (v3513 : BitVec 32) : Prop :=
  (∀ a, (k0_off488 v3513) a + S1x1x128.size a ≤ S128x256x128.size a)
theorem k0_off488_inb : ∀ (v3513 : BitVec 32) (k0_hw236 : k0_chk236 v3513), ∀ a, (k0_off488 v3513) a + S1x1x128.size a ≤ S128x256x128.size a := fun v3513 k0_hw236 => k0_hw236

def k0_off489 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3524 : Index := Scalar.indexCast arg18
  let c236 : Index := 236#32
  ![v3524.toNat, 236]
def k0_off490 (v3525 : BitVec 32) : Fin 3 → Nat :=
  let v3526 : Index := Scalar.indexCast v3525
  let c236_3375 : Index := 236#32
  let c0_3376 : Index := 0#32
  ![v3526.toNat, 236, 0]

def k0_chk237 (v3525 : BitVec 32) : Prop :=
  (∀ a, (k0_off490 v3525) a + S1x1x128.size a ≤ S128x256x128.size a)
theorem k0_off490_inb : ∀ (v3525 : BitVec 32) (k0_hw237 : k0_chk237 v3525), ∀ a, (k0_off490 v3525) a + S1x1x128.size a ≤ S128x256x128.size a := fun v3525 k0_hw237 => k0_hw237

def k0_off491 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3536 : Index := Scalar.indexCast arg18
  let c237 : Index := 237#32
  ![v3536.toNat, 237]
def k0_off492 (v3537 : BitVec 32) : Fin 3 → Nat :=
  let v3538 : Index := Scalar.indexCast v3537
  let c237_3385 : Index := 237#32
  let c0_3386 : Index := 0#32
  ![v3538.toNat, 237, 0]

def k0_chk238 (v3537 : BitVec 32) : Prop :=
  (∀ a, (k0_off492 v3537) a + S1x1x128.size a ≤ S128x256x128.size a)
theorem k0_off492_inb : ∀ (v3537 : BitVec 32) (k0_hw238 : k0_chk238 v3537), ∀ a, (k0_off492 v3537) a + S1x1x128.size a ≤ S128x256x128.size a := fun v3537 k0_hw238 => k0_hw238

def k0_off493 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3548 : Index := Scalar.indexCast arg18
  let c238 : Index := 238#32
  ![v3548.toNat, 238]
def k0_off494 (v3549 : BitVec 32) : Fin 3 → Nat :=
  let v3550 : Index := Scalar.indexCast v3549
  let c238_3395 : Index := 238#32
  let c0_3396 : Index := 0#32
  ![v3550.toNat, 238, 0]

def k0_chk239 (v3549 : BitVec 32) : Prop :=
  (∀ a, (k0_off494 v3549) a + S1x1x128.size a ≤ S128x256x128.size a)
theorem k0_off494_inb : ∀ (v3549 : BitVec 32) (k0_hw239 : k0_chk239 v3549), ∀ a, (k0_off494 v3549) a + S1x1x128.size a ≤ S128x256x128.size a := fun v3549 k0_hw239 => k0_hw239

def k0_off495 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3560 : Index := Scalar.indexCast arg18
  let c239 : Index := 239#32
  ![v3560.toNat, 239]
def k0_off496 (v3561 : BitVec 32) : Fin 3 → Nat :=
  let v3562 : Index := Scalar.indexCast v3561
  let c239_3405 : Index := 239#32
  let c0_3406 : Index := 0#32
  ![v3562.toNat, 239, 0]

def k0_chk240 (v3561 : BitVec 32) : Prop :=
  (∀ a, (k0_off496 v3561) a + S1x1x128.size a ≤ S128x256x128.size a)
theorem k0_off496_inb : ∀ (v3561 : BitVec 32) (k0_hw240 : k0_chk240 v3561), ∀ a, (k0_off496 v3561) a + S1x1x128.size a ≤ S128x256x128.size a := fun v3561 k0_hw240 => k0_hw240

def k0_off497 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3572 : Index := Scalar.indexCast arg18
  let c240 : Index := 240#32
  ![v3572.toNat, 240]
def k0_off498 (v3573 : BitVec 32) : Fin 3 → Nat :=
  let v3574 : Index := Scalar.indexCast v3573
  let c240_3415 : Index := 240#32
  let c0_3416 : Index := 0#32
  ![v3574.toNat, 240, 0]

def k0_chk241 (v3573 : BitVec 32) : Prop :=
  (∀ a, (k0_off498 v3573) a + S1x1x128.size a ≤ S128x256x128.size a)
theorem k0_off498_inb : ∀ (v3573 : BitVec 32) (k0_hw241 : k0_chk241 v3573), ∀ a, (k0_off498 v3573) a + S1x1x128.size a ≤ S128x256x128.size a := fun v3573 k0_hw241 => k0_hw241

def k0_off499 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3584 : Index := Scalar.indexCast arg18
  let c241 : Index := 241#32
  ![v3584.toNat, 241]
def k0_off500 (v3585 : BitVec 32) : Fin 3 → Nat :=
  let v3586 : Index := Scalar.indexCast v3585
  let c241_3425 : Index := 241#32
  let c0_3426 : Index := 0#32
  ![v3586.toNat, 241, 0]

def k0_chk242 (v3585 : BitVec 32) : Prop :=
  (∀ a, (k0_off500 v3585) a + S1x1x128.size a ≤ S128x256x128.size a)
theorem k0_off500_inb : ∀ (v3585 : BitVec 32) (k0_hw242 : k0_chk242 v3585), ∀ a, (k0_off500 v3585) a + S1x1x128.size a ≤ S128x256x128.size a := fun v3585 k0_hw242 => k0_hw242

def k0_off501 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3596 : Index := Scalar.indexCast arg18
  let c242 : Index := 242#32
  ![v3596.toNat, 242]
def k0_off502 (v3597 : BitVec 32) : Fin 3 → Nat :=
  let v3598 : Index := Scalar.indexCast v3597
  let c242_3435 : Index := 242#32
  let c0_3436 : Index := 0#32
  ![v3598.toNat, 242, 0]

def k0_chk243 (v3597 : BitVec 32) : Prop :=
  (∀ a, (k0_off502 v3597) a + S1x1x128.size a ≤ S128x256x128.size a)
theorem k0_off502_inb : ∀ (v3597 : BitVec 32) (k0_hw243 : k0_chk243 v3597), ∀ a, (k0_off502 v3597) a + S1x1x128.size a ≤ S128x256x128.size a := fun v3597 k0_hw243 => k0_hw243

def k0_off503 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3608 : Index := Scalar.indexCast arg18
  let c243 : Index := 243#32
  ![v3608.toNat, 243]
def k0_off504 (v3609 : BitVec 32) : Fin 3 → Nat :=
  let v3610 : Index := Scalar.indexCast v3609
  let c243_3445 : Index := 243#32
  let c0_3446 : Index := 0#32
  ![v3610.toNat, 243, 0]

def k0_chk244 (v3609 : BitVec 32) : Prop :=
  (∀ a, (k0_off504 v3609) a + S1x1x128.size a ≤ S128x256x128.size a)
theorem k0_off504_inb : ∀ (v3609 : BitVec 32) (k0_hw244 : k0_chk244 v3609), ∀ a, (k0_off504 v3609) a + S1x1x128.size a ≤ S128x256x128.size a := fun v3609 k0_hw244 => k0_hw244

def k0_off505 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3620 : Index := Scalar.indexCast arg18
  let c244 : Index := 244#32
  ![v3620.toNat, 244]
def k0_off506 (v3621 : BitVec 32) : Fin 3 → Nat :=
  let v3622 : Index := Scalar.indexCast v3621
  let c244_3455 : Index := 244#32
  let c0_3456 : Index := 0#32
  ![v3622.toNat, 244, 0]

def k0_chk245 (v3621 : BitVec 32) : Prop :=
  (∀ a, (k0_off506 v3621) a + S1x1x128.size a ≤ S128x256x128.size a)
theorem k0_off506_inb : ∀ (v3621 : BitVec 32) (k0_hw245 : k0_chk245 v3621), ∀ a, (k0_off506 v3621) a + S1x1x128.size a ≤ S128x256x128.size a := fun v3621 k0_hw245 => k0_hw245

def k0_off507 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3632 : Index := Scalar.indexCast arg18
  let c245 : Index := 245#32
  ![v3632.toNat, 245]
def k0_off508 (v3633 : BitVec 32) : Fin 3 → Nat :=
  let v3634 : Index := Scalar.indexCast v3633
  let c245_3465 : Index := 245#32
  let c0_3466 : Index := 0#32
  ![v3634.toNat, 245, 0]

def k0_chk246 (v3633 : BitVec 32) : Prop :=
  (∀ a, (k0_off508 v3633) a + S1x1x128.size a ≤ S128x256x128.size a)
theorem k0_off508_inb : ∀ (v3633 : BitVec 32) (k0_hw246 : k0_chk246 v3633), ∀ a, (k0_off508 v3633) a + S1x1x128.size a ≤ S128x256x128.size a := fun v3633 k0_hw246 => k0_hw246

def k0_off509 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3644 : Index := Scalar.indexCast arg18
  let c246 : Index := 246#32
  ![v3644.toNat, 246]
def k0_off510 (v3645 : BitVec 32) : Fin 3 → Nat :=
  let v3646 : Index := Scalar.indexCast v3645
  let c246_3475 : Index := 246#32
  let c0_3476 : Index := 0#32
  ![v3646.toNat, 246, 0]

def k0_chk247 (v3645 : BitVec 32) : Prop :=
  (∀ a, (k0_off510 v3645) a + S1x1x128.size a ≤ S128x256x128.size a)
theorem k0_off510_inb : ∀ (v3645 : BitVec 32) (k0_hw247 : k0_chk247 v3645), ∀ a, (k0_off510 v3645) a + S1x1x128.size a ≤ S128x256x128.size a := fun v3645 k0_hw247 => k0_hw247

def k0_off511 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3656 : Index := Scalar.indexCast arg18
  let c247 : Index := 247#32
  ![v3656.toNat, 247]
def k0_off512 (v3657 : BitVec 32) : Fin 3 → Nat :=
  let v3658 : Index := Scalar.indexCast v3657
  let c247_3485 : Index := 247#32
  let c0_3486 : Index := 0#32
  ![v3658.toNat, 247, 0]

def k0_chk248 (v3657 : BitVec 32) : Prop :=
  (∀ a, (k0_off512 v3657) a + S1x1x128.size a ≤ S128x256x128.size a)
theorem k0_off512_inb : ∀ (v3657 : BitVec 32) (k0_hw248 : k0_chk248 v3657), ∀ a, (k0_off512 v3657) a + S1x1x128.size a ≤ S128x256x128.size a := fun v3657 k0_hw248 => k0_hw248

def k0_off513 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3668 : Index := Scalar.indexCast arg18
  let c248 : Index := 248#32
  ![v3668.toNat, 248]
def k0_off514 (v3669 : BitVec 32) : Fin 3 → Nat :=
  let v3670 : Index := Scalar.indexCast v3669
  let c248_3495 : Index := 248#32
  let c0_3496 : Index := 0#32
  ![v3670.toNat, 248, 0]

def k0_chk249 (v3669 : BitVec 32) : Prop :=
  (∀ a, (k0_off514 v3669) a + S1x1x128.size a ≤ S128x256x128.size a)
theorem k0_off514_inb : ∀ (v3669 : BitVec 32) (k0_hw249 : k0_chk249 v3669), ∀ a, (k0_off514 v3669) a + S1x1x128.size a ≤ S128x256x128.size a := fun v3669 k0_hw249 => k0_hw249

def k0_off515 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3680 : Index := Scalar.indexCast arg18
  let c249 : Index := 249#32
  ![v3680.toNat, 249]
def k0_off516 (v3681 : BitVec 32) : Fin 3 → Nat :=
  let v3682 : Index := Scalar.indexCast v3681
  let c249_3505 : Index := 249#32
  let c0_3506 : Index := 0#32
  ![v3682.toNat, 249, 0]

def k0_chk250 (v3681 : BitVec 32) : Prop :=
  (∀ a, (k0_off516 v3681) a + S1x1x128.size a ≤ S128x256x128.size a)
theorem k0_off516_inb : ∀ (v3681 : BitVec 32) (k0_hw250 : k0_chk250 v3681), ∀ a, (k0_off516 v3681) a + S1x1x128.size a ≤ S128x256x128.size a := fun v3681 k0_hw250 => k0_hw250

def k0_off517 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3692 : Index := Scalar.indexCast arg18
  let c250 : Index := 250#32
  ![v3692.toNat, 250]
def k0_off518 (v3693 : BitVec 32) : Fin 3 → Nat :=
  let v3694 : Index := Scalar.indexCast v3693
  let c250_3515 : Index := 250#32
  let c0_3516 : Index := 0#32
  ![v3694.toNat, 250, 0]

def k0_chk251 (v3693 : BitVec 32) : Prop :=
  (∀ a, (k0_off518 v3693) a + S1x1x128.size a ≤ S128x256x128.size a)
theorem k0_off518_inb : ∀ (v3693 : BitVec 32) (k0_hw251 : k0_chk251 v3693), ∀ a, (k0_off518 v3693) a + S1x1x128.size a ≤ S128x256x128.size a := fun v3693 k0_hw251 => k0_hw251

def k0_off519 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3704 : Index := Scalar.indexCast arg18
  let c251 : Index := 251#32
  ![v3704.toNat, 251]
def k0_off520 (v3705 : BitVec 32) : Fin 3 → Nat :=
  let v3706 : Index := Scalar.indexCast v3705
  let c251_3525 : Index := 251#32
  let c0_3526 : Index := 0#32
  ![v3706.toNat, 251, 0]

def k0_chk252 (v3705 : BitVec 32) : Prop :=
  (∀ a, (k0_off520 v3705) a + S1x1x128.size a ≤ S128x256x128.size a)
theorem k0_off520_inb : ∀ (v3705 : BitVec 32) (k0_hw252 : k0_chk252 v3705), ∀ a, (k0_off520 v3705) a + S1x1x128.size a ≤ S128x256x128.size a := fun v3705 k0_hw252 => k0_hw252

def k0_off521 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3716 : Index := Scalar.indexCast arg18
  let c252 : Index := 252#32
  ![v3716.toNat, 252]
def k0_off522 (v3717 : BitVec 32) : Fin 3 → Nat :=
  let v3718 : Index := Scalar.indexCast v3717
  let c252_3535 : Index := 252#32
  let c0_3536 : Index := 0#32
  ![v3718.toNat, 252, 0]

def k0_chk253 (v3717 : BitVec 32) : Prop :=
  (∀ a, (k0_off522 v3717) a + S1x1x128.size a ≤ S128x256x128.size a)
theorem k0_off522_inb : ∀ (v3717 : BitVec 32) (k0_hw253 : k0_chk253 v3717), ∀ a, (k0_off522 v3717) a + S1x1x128.size a ≤ S128x256x128.size a := fun v3717 k0_hw253 => k0_hw253

def k0_off523 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3728 : Index := Scalar.indexCast arg18
  let c253 : Index := 253#32
  ![v3728.toNat, 253]
def k0_off524 (v3729 : BitVec 32) : Fin 3 → Nat :=
  let v3730 : Index := Scalar.indexCast v3729
  let c253_3545 : Index := 253#32
  let c0_3546 : Index := 0#32
  ![v3730.toNat, 253, 0]

def k0_chk254 (v3729 : BitVec 32) : Prop :=
  (∀ a, (k0_off524 v3729) a + S1x1x128.size a ≤ S128x256x128.size a)
theorem k0_off524_inb : ∀ (v3729 : BitVec 32) (k0_hw254 : k0_chk254 v3729), ∀ a, (k0_off524 v3729) a + S1x1x128.size a ≤ S128x256x128.size a := fun v3729 k0_hw254 => k0_hw254

def k0_off525 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3740 : Index := Scalar.indexCast arg18
  let c254 : Index := 254#32
  ![v3740.toNat, 254]
def k0_off526 (v3741 : BitVec 32) : Fin 3 → Nat :=
  let v3742 : Index := Scalar.indexCast v3741
  let c254_3555 : Index := 254#32
  let c0_3556 : Index := 0#32
  ![v3742.toNat, 254, 0]

def k0_chk255 (v3741 : BitVec 32) : Prop :=
  (∀ a, (k0_off526 v3741) a + S1x1x128.size a ≤ S128x256x128.size a)
theorem k0_off526_inb : ∀ (v3741 : BitVec 32) (k0_hw255 : k0_chk255 v3741), ∀ a, (k0_off526 v3741) a + S1x1x128.size a ≤ S128x256x128.size a := fun v3741 k0_hw255 => k0_hw255

def k0_off527 (k0_t1 : Fin k0_t1_loop.trips) : Fin 2 → Nat :=
  let c1_i32_659 : BitVec 32 := 1#32
  let c1_i32_660 : BitVec 32 := 1#32
  let arg18 : BitVec 32 := Scf.iv c1_i32_659 c1_i32_660 k0_t1
  let v3752 : Index := Scalar.indexCast arg18
  let c255 : Index := 255#32
  ![v3752.toNat, 255]
def k0_off528 (v3753 : BitVec 32) : Fin 3 → Nat :=
  let v3754 : Index := Scalar.indexCast v3753
  let c255_3565 : Index := 255#32
  let c0_3566 : Index := 0#32
  ![v3754.toNat, 255, 0]

def k0_chk256 (v3753 : BitVec 32) : Prop :=
  (∀ a, (k0_off528 v3753) a + S1x1x128.size a ≤ S128x256x128.size a)
theorem k0_off528_inb : ∀ (v3753 : BitVec 32) (k0_hw256 : k0_chk256 v3753), ∀ a, (k0_off528 v3753) a + S1x1x128.size a ≤ S128x256x128.size a := fun v3753 k0_hw256 => k0_hw256

def k0_off529 (k0_t1 : Fin k0_t1_loop.trips) : Fin 3 → Nat :=
  let c1_i32_659 : BitVec 32 := 1#32
  let c1_i32_660 : BitVec 32 := 1#32
  let arg18 : BitVec 32 := Scf.iv c1_i32_659 c1_i32_660 k0_t1
  let v3784 : Index := Scalar.indexCast arg18
  let c0_3583 : Index := 0#32
  let c0_3584 : Index := 0#32
  ![v3784.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S128x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S1024x128x128 : Shape := ⟨3, ![1024, 128, 128]⟩
abbrev S1024x128 : Shape := ⟨2, ![1024, 128]⟩
abbrev S128x128 : Shape := ⟨2, ![128, 128]⟩
abbrev S128 : Shape := ⟨1, ![128]⟩
abbrev S1024 : Shape := ⟨1, ![1024]⟩
abbrev S1x1x128 : Shape := ⟨3, ![1, 1, 128]⟩
abbrev S1024x1x128 : Shape := ⟨3, ![1024, 1, 128]⟩
abbrev S_ : Shape := ⟨0, ![]⟩
abbrev S1 : Shape := ⟨1, ![1]⟩
abbrev S128x1024 : Shape := ⟨2, ![128, 1024]⟩
abbrev S127 : Shape := ⟨1, ![127]⟩
abbrev S127x1024 : Shape := ⟨2, ![127, 1024]⟩
abbrev S1x1024 : Shape := ⟨2, ![1, 1024]⟩
abbrev S1024x1 : Shape := ⟨2, ![1024, 1]⟩
abbrev S1024x2 : Shape := ⟨2, ![1024, 2]⟩

abbrev nBuf : Space → Nat
  | .hbm => 184
  | .vmem => 0
  | .smem => 0
  | _ => 0

abbrev hbmTy0_0 (i : Nat) : BufTy := match i % 128 with
  | 0 => ⟨S1024x128x128, .f32⟩
  | 1 => ⟨S1024x128, .i32⟩
  | 2 => ⟨S1024x128, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128x128, .f32⟩
  | 11 => ⟨S128x128, .f32⟩
  | 12 => ⟨S1024x128x128, .f32⟩
  | 13 => ⟨S1024x128x128, .f32⟩
  | 14 => ⟨S1024, .i32⟩
  | 15 => ⟨S128x128, .f32⟩
  | 16 => ⟨S1024x128x128, .f32⟩
  | 17 => ⟨S1x1x128, .f32⟩
  | 18 => ⟨S1024x128x128, .f32⟩
  | 19 => ⟨S1024x128x128, .f32⟩
  | 20 => ⟨S128x128, .f32⟩
  | 21 => ⟨S1024x128x128, .f32⟩
  | 22 => ⟨S1x1x128, .f32⟩
  | 23 => ⟨S1024x128x128, .f32⟩
  | 24 => ⟨S1024x128x128, .f32⟩
  | 25 => ⟨S128x128, .f32⟩
  | 26 => ⟨S1024x128x128, .f32⟩
  | 27 => ⟨S1x1x128, .f32⟩
  | 28 => ⟨S1024x128x128, .f32⟩
  | 29 => ⟨S1024x128x128, .f32⟩
  | 30 => ⟨S128x128, .f32⟩
  | 31 => ⟨S128x128, .f32⟩
  | 32 => ⟨S128x128, .f32⟩
  | 33 => ⟨S128x128, .f32⟩
  | 34 => ⟨S128x128, .f32⟩
  | 35 => ⟨S128x128, .f32⟩
  | 36 => ⟨S1024x1x128, .f32⟩
  | 37 => ⟨S1024x128, .f32⟩
  | 38 => ⟨S1024x1x128, .f32⟩
  | 39 => ⟨S1024x128, .f32⟩
  | 40 => ⟨S1024x1x128, .f32⟩
  | 41 => ⟨S1024x128, .f32⟩
  | 42 => ⟨S1024x128, .f32⟩
  | 43 => ⟨S1024x128, .f32⟩
  | 44 => ⟨S_, .f32⟩
  | 45 => ⟨S1024x128, .f32⟩
  | 46 => ⟨S1024x128, .f32⟩
  | 47 => ⟨S_, .f32⟩
  | 48 => ⟨S1024x128, .f32⟩
  | 49 => ⟨S1024x128, .f32⟩
  | 50 => ⟨S1024x128, .f32⟩
  | 51 => ⟨S1024x128, .f32⟩
  | 52 => ⟨S_, .f32⟩
  | 53 => ⟨S1024x128, .f32⟩
  | 54 => ⟨S1024x128, .f32⟩
  | 55 => ⟨S_, .f32⟩
  | 56 => ⟨S1024x128, .f32⟩
  | 57 => ⟨S1024x128, .f32⟩
  | 58 => ⟨S1024x128, .f32⟩
  | 59 => ⟨S_, .f32⟩
  | 60 => ⟨S1024x128, .f32⟩
  | 61 => ⟨S1024x128, .f32⟩
  | 62 => ⟨S1024x128, .f32⟩
  | 63 => ⟨S1024x128, .f32⟩
  | 64 => ⟨S1024x128, .f32⟩
  | 65 => ⟨S_, .i32⟩
  | 66 => ⟨S1, .i32⟩
  | 67 => ⟨S1024x128x128, .f32⟩
  | 68 => ⟨S_, .i32⟩
  | 69 => ⟨S1, .i32⟩
  | 70 => ⟨S1024x128x128, .f32⟩
  | 71 => ⟨S128x1024, .i32⟩
  | 72 => ⟨S127, .i32⟩
  | 73 => ⟨S_, .i32⟩
  | 74 => ⟨S127, .i32⟩
  | 75 => ⟨S127, .i32⟩
  | 76 => ⟨S127x1024, .i32⟩
  | 77 => ⟨S_, .i32⟩
  | 78 => ⟨S127, .i32⟩
  | 79 => ⟨S127x1024, .i32⟩
  | 80 => ⟨S1024, .i32⟩
  | 81 => ⟨S128x128, .f32⟩
  | 82 => ⟨S1024x128, .f32⟩
  | 83 => ⟨S128x128, .f32⟩
  | 84 => ⟨S1024x128, .f32⟩
  | 85 => ⟨S128x128, .f32⟩
  | 86 => ⟨S1024x128, .f32⟩
  | 87 => ⟨S_, .i32⟩
  | 88 => ⟨S1024x128x128, .f32⟩
  | 89 => ⟨S1024x128x128, .f32⟩
  | 90 => ⟨S_, .i32⟩
  | 91 => ⟨S_, .i1⟩
  | 92 => ⟨S1, .i32⟩
  | 93 => ⟨S_, .i32⟩
  | 94 => ⟨S_, .i32⟩
  | 95 => ⟨S1x1024, .i32⟩
  | 96 => ⟨S1024, .i32⟩
  | 97 => ⟨S_, .i32⟩
  | 98 => ⟨S1024, .i32⟩
  | 99 => ⟨S1024, .i1⟩
  | 100 => ⟨S_, .i32⟩
  | 101 => ⟨S1024, .i32⟩
  | 102 => ⟨S1024, .i32⟩
  | 103 => ⟨S1024, .i32⟩
  | 104 => ⟨S_, .i32⟩
  | 105 => ⟨S1024, .i32⟩
  | 106 => ⟨S1024, .i1⟩
  | 107 => ⟨S_, .i32⟩
  | 108 => ⟨S1024, .i32⟩
  | 109 => ⟨S1024, .i32⟩
  | 110 => ⟨S1024, .i32⟩
  | 111 => ⟨S1024x1, .i32⟩
  | 112 => ⟨S1024x1, .i32⟩
  | 113 => ⟨S1024x2, .i32⟩
  | 114 => ⟨S1024x128, .f32⟩
  | 115 => ⟨S_, .i32⟩
  | 116 => ⟨S1024, .i32⟩
  | 117 => ⟨S1024, .i1⟩
  | 118 => ⟨S_, .i32⟩
  | 119 => ⟨S1024, .i32⟩
  | 120 => ⟨S1024, .i32⟩
  | 121 => ⟨S1024, .i32⟩
  | 122 => ⟨S_, .i32⟩
  | 123 => ⟨S1024, .i32⟩
  | 124 => ⟨S1024, .i1⟩
  | 125 => ⟨S_, .i32⟩
  | 126 => ⟨S1024, .i32⟩
  | 127 => ⟨S1024, .i32⟩
  | _ => ⟨S1024x128x128, .f32⟩

abbrev hbmTy0_1 (i : Nat) : BufTy := match i % 128 with
  | 0 => ⟨S1024, .i32⟩
  | 1 => ⟨S1024x1, .i32⟩
  | 2 => ⟨S1024x1, .i32⟩
  | 3 => ⟨S1024x2, .i32⟩
  | 4 => ⟨S1024x128, .f32⟩
  | 5 => ⟨S1024x128, .f32⟩
  | 6 => ⟨S1024x128, .f32⟩
  | 7 => ⟨S1024x128, .f32⟩
  | 8 => ⟨S1024x128, .f32⟩
  | 9 => ⟨S_, .f32⟩
  | 10 => ⟨S1024x128, .f32⟩
  | 11 => ⟨S1024x128, .f32⟩
  | 12 => ⟨S_, .f32⟩
  | 13 => ⟨S1024x128, .f32⟩
  | 14 => ⟨S1024x128, .f32⟩
  | 15 => ⟨S1024x128, .f32⟩
  | 16 => ⟨S1024x128, .f32⟩
  | 17 => ⟨S1024x128, .f32⟩
  | 18 => ⟨S1024x128, .f32⟩
  | 19 => ⟨S_, .f32⟩
  | 20 => ⟨S1024x128, .f32⟩
  | 21 => ⟨S1024x128, .f32⟩
  | 22 => ⟨S_, .f32⟩
  | 23 => ⟨S1024x128, .f32⟩
  | 24 => ⟨S1024x128, .f32⟩
  | 25 => ⟨S1024x128, .f32⟩
  | 26 => ⟨S1024x128, .f32⟩
  | 27 => ⟨S1024x128, .f32⟩
  | 28 => ⟨S1024x128, .f32⟩
  | 29 => ⟨S_, .f32⟩
  | 30 => ⟨S1024x128, .f32⟩
  | 31 => ⟨S1024x128, .f32⟩
  | 32 => ⟨S1024x128, .f32⟩
  | 33 => ⟨S1024x128, .f32⟩
  | 34 => ⟨S1024x128, .f32⟩
  | 35 => ⟨S1024x128, .f32⟩
  | 36 => ⟨S1024x1x128, .f32⟩
  | 37 => ⟨S_, .i32⟩
  | 38 => ⟨S_, .i1⟩
  | 39 => ⟨S_, .i32⟩
  | 40 => ⟨S_, .i32⟩
  | 41 => ⟨S_, .i32⟩
  | 42 => ⟨S_, .i32⟩
  | 43 => ⟨S_, .i32⟩
  | 44 => ⟨S1024x128x128, .f32⟩
  | 45 => ⟨S1024x1x128, .f32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S_, .i32⟩
  | 53 => ⟨S1024x128x128, .f32⟩
  | 54 => ⟨S_, .i32⟩
  | 55 => ⟨S_, .i32⟩
  | _ => ⟨S1024x128x128, .f32⟩

abbrev hbmTy (i : Nat) : BufTy := match i / 128 with
  | 0 => hbmTy0_0 i
  | 1 => hbmTy0_1 i
  | _ => ⟨S1024x128x128, .f32⟩

abbrev bufTy : (tb : Table) → Fin (tcTables nBuf tb) → BufTy
  | .hbm, ⟨i, _⟩ => hbmTy i
  | _, _ => ⟨S1024x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst : Ref sig .tc := ⟨.hbm, 44, rfl⟩
abbrev main_v30 : Ref sig .tc := ⟨.hbm, 45, rfl⟩
abbrev main_v31 : Ref sig .tc := ⟨.hbm, 46, rfl⟩
abbrev main_cst_0 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_1 : Ref sig .tc := ⟨.hbm, 52, rfl⟩
abbrev main_v36 : Ref sig .tc := ⟨.hbm, 53, rfl⟩
abbrev main_v37 : Ref sig .tc := ⟨.hbm, 54, rfl⟩
abbrev main_cst_2 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_3 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c : Ref sig .tc := ⟨.hbm, 65, rfl⟩
abbrev main_v46 : Ref sig .tc := ⟨.hbm, 66, rfl⟩
abbrev main_v47 : Ref sig .tc := ⟨.hbm, 67, rfl⟩
abbrev main_c_4 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_5 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_6 : Ref sig .tc := ⟨.hbm, 77, rfl⟩
abbrev main_v55_0 : Ref sig .tc := ⟨.hbm, 78, rfl⟩
abbrev main_v55_1 : Ref sig .tc := ⟨.hbm, 79, rfl⟩
abbrev main_v55_2 : Ref sig .tc := ⟨.hbm, 80, rfl⟩
abbrev main_v55_3 : Ref sig .tc := ⟨.hbm, 81, rfl⟩
abbrev main_v55_4 : Ref sig .tc := ⟨.hbm, 82, rfl⟩
abbrev main_v55_5 : Ref sig .tc := ⟨.hbm, 83, rfl⟩
abbrev main_v55_6 : Ref sig .tc := ⟨.hbm, 84, rfl⟩
abbrev main_v55_7 : Ref sig .tc := ⟨.hbm, 85, rfl⟩
abbrev main_v55_8 : Ref sig .tc := ⟨.hbm, 86, rfl⟩
abbrev main_v55_9 : Ref sig .tc := ⟨.hbm, 87, rfl⟩
abbrev main_v55_10 : Ref sig .tc := ⟨.hbm, 88, rfl⟩
abbrev main_v55_11 : Ref sig .tc := ⟨.hbm, 89, rfl⟩
abbrev main_while0c_c_18 : Ref sig .tc := ⟨.hbm, 90, rfl⟩
abbrev main_while0c_v56 : Ref sig .tc := ⟨.hbm, 91, rfl⟩
abbrev main_while0b_call0_v0 : Ref sig .tc := ⟨.hbm, 92, rfl⟩
abbrev main_while0b_v56 : Ref sig .tc := ⟨.hbm, 93, rfl⟩
abbrev main_while0b_call1_c : Ref sig .tc := ⟨.hbm, 94, rfl⟩
abbrev main_while0b_call1_v0 : Ref sig .tc := ⟨.hbm, 95, rfl⟩
abbrev main_while0b_v57 : Ref sig .tc := ⟨.hbm, 96, rfl⟩
abbrev main_while0b_c_18 : Ref sig .tc := ⟨.hbm, 97, rfl⟩
abbrev main_while0b_v58 : Ref sig .tc := ⟨.hbm, 98, rfl⟩
abbrev main_while0b_v59 : Ref sig .tc := ⟨.hbm, 99, rfl⟩
abbrev main_while0b_c_19 : Ref sig .tc := ⟨.hbm, 100, rfl⟩
abbrev main_while0b_v60 : Ref sig .tc := ⟨.hbm, 101, rfl⟩
abbrev main_while0b_v61 : Ref sig .tc := ⟨.hbm, 102, rfl⟩
abbrev main_while0b_v62 : Ref sig .tc := ⟨.hbm, 103, rfl⟩
abbrev main_while0b_c_20 : Ref sig .tc := ⟨.hbm, 104, rfl⟩
abbrev main_while0b_v63 : Ref sig .tc := ⟨.hbm, 105, rfl⟩
abbrev main_while0b_v64 : Ref sig .tc := ⟨.hbm, 106, rfl⟩
abbrev main_while0b_c_21 : Ref sig .tc := ⟨.hbm, 107, rfl⟩
abbrev main_while0b_v65 : Ref sig .tc := ⟨.hbm, 108, rfl⟩
abbrev main_while0b_v66 : Ref sig .tc := ⟨.hbm, 109, rfl⟩
abbrev main_while0b_v67 : Ref sig .tc := ⟨.hbm, 110, rfl⟩
abbrev main_while0b_v68 : Ref sig .tc := ⟨.hbm, 111, rfl⟩
abbrev main_while0b_v69 : Ref sig .tc := ⟨.hbm, 112, rfl⟩
abbrev main_while0b_v70 : Ref sig .tc := ⟨.hbm, 113, rfl⟩
abbrev main_while0b_v71 : Ref sig .tc := ⟨.hbm, 114, rfl⟩
abbrev main_while0b_c_22 : Ref sig .tc := ⟨.hbm, 115, rfl⟩
abbrev main_while0b_v72 : Ref sig .tc := ⟨.hbm, 116, rfl⟩
abbrev main_while0b_v73 : Ref sig .tc := ⟨.hbm, 117, rfl⟩
abbrev main_while0b_c_23 : Ref sig .tc := ⟨.hbm, 118, rfl⟩
abbrev main_while0b_v74 : Ref sig .tc := ⟨.hbm, 119, rfl⟩
abbrev main_while0b_v75 : Ref sig .tc := ⟨.hbm, 120, rfl⟩
abbrev main_while0b_v76 : Ref sig .tc := ⟨.hbm, 121, rfl⟩
abbrev main_while0b_c_24 : Ref sig .tc := ⟨.hbm, 122, rfl⟩
abbrev main_while0b_v77 : Ref sig .tc := ⟨.hbm, 123, rfl⟩
abbrev main_while0b_v78 : Ref sig .tc := ⟨.hbm, 124, rfl⟩
abbrev main_while0b_c_25 : Ref sig .tc := ⟨.hbm, 125, rfl⟩
abbrev main_while0b_v79 : Ref sig .tc := ⟨.hbm, 126, rfl⟩
abbrev main_while0b_v80 : Ref sig .tc := ⟨.hbm, 127, rfl⟩
abbrev main_while0b_v81 : Ref sig .tc := ⟨.hbm, 128, rfl⟩
abbrev main_while0b_v82 : Ref sig .tc := ⟨.hbm, 129, rfl⟩
abbrev main_while0b_v83 : Ref sig .tc := ⟨.hbm, 130, rfl⟩
abbrev main_while0b_v84 : Ref sig .tc := ⟨.hbm, 131, rfl⟩
abbrev main_while0b_v85 : Ref sig .tc := ⟨.hbm, 132, rfl⟩
abbrev main_while0b_v86 : Ref sig .tc := ⟨.hbm, 133, rfl⟩
abbrev main_while0b_v87 : Ref sig .tc := ⟨.hbm, 134, rfl⟩
abbrev main_while0b_v88 : Ref sig .tc := ⟨.hbm, 135, rfl⟩
abbrev main_while0b_v89 : Ref sig .tc := ⟨.hbm, 136, rfl⟩
abbrev main_while0b_cst_26 : Ref sig .tc := ⟨.hbm, 137, rfl⟩
abbrev main_while0b_v90 : Ref sig .tc := ⟨.hbm, 138, rfl⟩
abbrev main_while0b_v91 : Ref sig .tc := ⟨.hbm, 139, rfl⟩
abbrev main_while0b_cst_27 : Ref sig .tc := ⟨.hbm, 140, rfl⟩
abbrev main_while0b_v92 : Ref sig .tc := ⟨.hbm, 141, rfl⟩
abbrev main_while0b_v93 : Ref sig .tc := ⟨.hbm, 142, rfl⟩
abbrev main_while0b_v94 : Ref sig .tc := ⟨.hbm, 143, rfl⟩
abbrev main_while0b_v95 : Ref sig .tc := ⟨.hbm, 144, rfl⟩
abbrev main_while0b_v96 : Ref sig .tc := ⟨.hbm, 145, rfl⟩
abbrev main_while0b_v97 : Ref sig .tc := ⟨.hbm, 146, rfl⟩
abbrev main_while0b_cst_28 : Ref sig .tc := ⟨.hbm, 147, rfl⟩
abbrev main_while0b_v98 : Ref sig .tc := ⟨.hbm, 148, rfl⟩
abbrev main_while0b_v99 : Ref sig .tc := ⟨.hbm, 149, rfl⟩
abbrev main_while0b_cst_29 : Ref sig .tc := ⟨.hbm, 150, rfl⟩
abbrev main_while0b_v100 : Ref sig .tc := ⟨.hbm, 151, rfl⟩
abbrev main_while0b_v101 : Ref sig .tc := ⟨.hbm, 152, rfl⟩
abbrev main_while0b_v102 : Ref sig .tc := ⟨.hbm, 153, rfl⟩
abbrev main_while0b_v103 : Ref sig .tc := ⟨.hbm, 154, rfl⟩
abbrev main_while0b_v104 : Ref sig .tc := ⟨.hbm, 155, rfl⟩
abbrev main_while0b_v105 : Ref sig .tc := ⟨.hbm, 156, rfl⟩
abbrev main_while0b_cst_30 : Ref sig .tc := ⟨.hbm, 157, rfl⟩
abbrev main_while0b_v106 : Ref sig .tc := ⟨.hbm, 158, rfl⟩
abbrev main_while0b_v107 : Ref sig .tc := ⟨.hbm, 159, rfl⟩
abbrev main_while0b_v108 : Ref sig .tc := ⟨.hbm, 160, rfl⟩
abbrev main_while0b_v109 : Ref sig .tc := ⟨.hbm, 161, rfl⟩
abbrev main_while0b_v110 : Ref sig .tc := ⟨.hbm, 162, rfl⟩
abbrev main_while0b_v111 : Ref sig .tc := ⟨.hbm, 163, rfl⟩
abbrev main_while0b_v112 : Ref sig .tc := ⟨.hbm, 164, rfl⟩
abbrev main_while0b_c_31 : Ref sig .tc := ⟨.hbm, 165, rfl⟩
abbrev main_while0b_v113 : Ref sig .tc := ⟨.hbm, 166, rfl⟩
abbrev main_while0b_c_32 : Ref sig .tc := ⟨.hbm, 167, rfl⟩
abbrev main_while0b_v114 : Ref sig .tc := ⟨.hbm, 168, rfl⟩
abbrev main_while0b_v115 : Ref sig .tc := ⟨.hbm, 169, rfl⟩
abbrev main_while0b_c_33 : Ref sig .tc := ⟨.hbm, 170, rfl⟩
abbrev main_while0b_c_34 : Ref sig .tc := ⟨.hbm, 171, rfl⟩
abbrev main_while0b_v116 : Ref sig .tc := ⟨.hbm, 172, rfl⟩
abbrev main_while0b_v117 : Ref sig .tc := ⟨.hbm, 173, rfl⟩
abbrev main_while0b_c_35 : Ref sig .tc := ⟨.hbm, 174, rfl⟩
abbrev main_while0b_v118 : Ref sig .tc := ⟨.hbm, 175, rfl⟩
abbrev main_while0b_c_36 : Ref sig .tc := ⟨.hbm, 176, rfl⟩
abbrev main_while0b_v119 : Ref sig .tc := ⟨.hbm, 177, rfl⟩
abbrev main_while0b_v120 : Ref sig .tc := ⟨.hbm, 178, rfl⟩
abbrev main_while0b_c_37 : Ref sig .tc := ⟨.hbm, 179, rfl⟩
abbrev main_while0b_c_38 : Ref sig .tc := ⟨.hbm, 180, rfl⟩
abbrev main_while0b_v121 : Ref sig .tc := ⟨.hbm, 181, rfl⟩
abbrev main_while0b_c_39 : Ref sig .tc := ⟨.hbm, 182, rfl⟩
abbrev main_while0b_v122 : Ref sig .tc := ⟨.hbm, 183, rfl⟩

abbrev nD : Nat := 1
abbrev τ : Topo := Topo.v7x

variable {F : FTy → Type} [FloatOps F]

abbrev main_while0_count : Scf.Loop 32 := ⟨0#32, 127#32, 1#32⟩
-- ==== Proof.Words.lean ====
module

public import proofs.«01_k».proof.Proof.Gen.Pre_parents_are_nodes
public import Idealize.ShloMosaic.Lib.ReduceAll

/-!
What the precondition says: every word of the connection table is a node.
-/

@[expose] public section

noncomputable section

namespace Cert.TreeGather

open Idealize.ShloMosaic Cert.Pre_parents_are_nodes

variable {F : FTy → Type} [FloatOps F]

/-- Under the precondition every word of the connection table is below 128. -/
theorem words_lt [Cert.Pre_parents_are_nodes.Facts] {a0 : FVec F S1024x128x128 .f32} {a1 : IVec S1024x128 32} {a2 : FVec F S1024x128 .f32}
    {a3 : FVec F S128x128 .f32} {a4 : FVec F S128 .f32} {a5 : FVec F S128x128 .f32} {a6 : FVec F S128 .f32} {a7 : FVec F S128x128 .f32}
    {a8 : FVec F S128 .f32} {a9 a10 a11 : FVec F S128x128 .f32} {a12 a13 : FVec F S1024x128x128 .f32}
    (h : fn (F := F) a0 a1 a2 a3 a4 a5 a6 a7 a8 a9 a10 a11 a12 a13 = fun _ => 1#1) (y : S1024x128.Idx) : (a1 y).toNat < 128 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have one : Subsingleton S_.Idx := ⟨fun a b => funext fun i => i.elim0⟩
  have e := congrFun h (fun i => i.elim0)
  dsimp only [fn] at e
  have e := Host.reduce_andi_all _ _ _ _ _ e y
  simp only [andi, cmpi, broadcastInDim, constantI, IntOp.cmpi, andi_ofBool, ofBool_eq_one, Bool.and_eq_true] at e
  obtain ⟨hge, hlt⟩ := e
  simp only [BitVec.sle, BitVec.slt, decide_eq_true_eq, BitVec.toInt, BitVec.toNat_ofNat] at hge hlt
  omega

end Cert.TreeGather

end
-- ==== Proof.Steps.lean ====
module

public import Idealize.ShloMosaic.Lib.Tactic
public import Idealize.ShloMosaic.Lib.Memref
public import Idealize.ShloMosaic.Lib.WritesUnit
public import Idealize.ShloMosaic.Lib.Pipeline.Value

/-!
The gather of one trip, step by step. A trip of the node loop copies 256 rows, one for each batch
element: it reads a word of the connection table, and copies the row the word names from the two tree
buffers into the two gather buffers. `St` is what the core holds between two of these operations, with
the number of rows already copied into each gather buffer; there is one theorem for each operation.
-/

@[expose] public section

noncomputable section

namespace Cert.TreeGather

open Idealize.ShloMosaic
open Idealize.SL
open Idealize.SL.RA Idealize.SL.Sem Idealize.SL.ProofMode
open Idealize.SL.BI (sProp)
open scoped Idealize.SL.BI
open Idealize.SL.BI.BIBase Idealize.SL.BI.Laws

/-- The shape of the connection table's block. -/
abbrev SN : Shape := ⟨2, ![128, 256]⟩
/-- The shape of a tree buffer: node, batch element, lane. -/
abbrev SA : Shape := ⟨3, ![128, 256, 128]⟩
/-- The shape of a gather buffer. -/
abbrev SR : Shape := ⟨3, ![1, 256, 128]⟩
/-- The shape of one row. -/
abbrev S1 : Shape := ⟨3, ![1, 1, 128]⟩

variable {nD : Nat} {τ : Topo} {sig : RefSig} {F : FTy → Type}
variable {Name : Type} [DecidableEq Name] {U : Type} [URA U] {Lvl : Type} [Preorder Lvl] {Λ : Labels}

local notation "𝕄" => MT nD τ sig Unit (Elt F) Name U Lvl

section Owns

variable {defs : Defs nD τ sig (Elt F) Λ} {𝒱 : Variants} {c : Thread nD τ} {bd : Option 𝒱.V} {E : Set Name}
variable {α : Type} {Q : α → sProp (MT nD τ sig Unit (Elt F) Name U Lvl)} {s : Shape} {e : EltTy} {cs : CoreSpace}

/-- A load from an owned memref continues at the values under its rectangle. -/
theorem owns_load {m : Memref sig c.2.kind cs s e} {r : Rect s} {hl : m.view.LoadsAt r}
    {k : (r.shape.Idx → Elt F e) → Prog (TpuEff nD τ sig (Elt F) Λ c.2) α} {q : PosShare TreeShare} {X : s.Idx → Elt F e} :
    (owns c m q X : sProp 𝕄)
      ⊢ iprop((owns c m q X -∗ wp frame (wpE defs 𝒱 c bd) E (k fun x => X (r.emb x)) Q)
        -∗ wp frame (wpE defs 𝒱 c bd) E (.op (.load m r hl) k) Q) := by
  unfold owns
  iintro ⟨%f, %hf, H⟩ K
  iapply (wp_load_rect 𝒱 c bd E (m := m) (r := r) (S := m.view.set) (by rw [View.set_slice]; exact m.view.setOn_subset_set _)) $$ H
  iintro H
  have h : (m.access r).read (Elt F) f = fun x => X (r.emb x) := by subst hf; rfl
  rw [h]
  iapply K
  iexists f; isplitr
  · ipureintro; exact hf
  · iexact H

/-- A store of a unit-stride rectangle into an owned memref leaves it owned at values that are the
    payload under the rectangle and the former ones elsewhere. -/
theorem owns_store {m : Memref sig c.2.kind cs s e} {off size : Fin s.rank → ℕ} {inb : ∀ a, off a + size a ≤ s.size a}
    {w : (Rect.unit off size inb).shape.Idx → Elt F e}
    {hx : (m.access (Rect.unit off size inb)).Stores Finset.univ}
    {hm : Finset.univ = Finset.univ ∨ ∀ a, (Rect.unit off size inb).stride a = 1}
    {k : PUnit → Prog (TpuEff nD τ sig (Elt F) Λ c.2) α} {X : s.Idx → Elt F e} :
    (owns c m fullShare X : sProp 𝕄)
      ⊢ iprop((∀ Y, ⌜(∀ x, Y ((Rect.unit off size inb).emb x) = w x)
            ∧ ∀ y, (∃ a, (y a).val < off a ∨ off a + size a ≤ (y a).val) → Y y = X y⌝
          -∗ owns c m fullShare Y -∗ wp frame (wpE defs 𝒱 c bd) E (k ⟨⟩) Q)
        -∗ wp frame (wpE defs 𝒱 c bd) E (.op (.store m (Rect.unit off size inb) w Finset.univ hx hm) k) Q) := by
  unfold owns
  iintro ⟨%f, %hf, H⟩ K
  iapply (show (m.view.loc c ↦[m.view.set]{fullShare} f : sProp 𝕄) ⊢ _ from
    wp_store_writes 𝒱 c bd E (m := m) (r := Rect.unit off size inb) (w := w) (S := m.view.set) (f := f) (L := [])
    (k := k) (Q := Q) (hx := hx) (hm := hm) (by rw [View.set_slice]; exact m.view.setOn_subset_set _)) $$ H
  iintro H
  iapply K $$ %(m.view.read (Elt F) (m.view.writes (Elt F) f [⟨Rect.unit off size inb, w⟩])) [] [H]
  · ipureintro
    refine ⟨fun x => View.read_writes_cons_emb m.view f _ w [] x, fun y ⟨a, ha⟩ => ?_⟩
    rw [View.read_writes_cons_unit_of_not_mem m.view f inb w [] y rfl a ha, ← hf]; rfl
  · iexists _; isplitr
    · ipureintro; rfl
    · iexact H

end Owns

/-! ## The state between two operations of a trip -/

/-- The offsets of row `n` of the node the word `w` names. -/
def rowOff (w : BitVec 32) (n : ℕ) : Fin 3 → ℕ := ![(Scalar.indexCast w : Index).toNat, n, 0]

/-- The row `n` of node `w` in a tree buffer's values. -/
def rowAt (A : SA.Idx → Elt F .f32) (w : BitVec 32) (n : ℕ) (h : ∀ a, rowOff w n a + S1.size a ≤ SA.size a) :
    S1.Idx → Elt F .f32 := fun x => A ((Rect.unit (s := SA) (rowOff w n) S1.size h).emb x)

/-- The first `n` rows of the gather buffer's values `g` are the rows of `A` that the words name. -/
def RowsOK (A : SA.Idx → Elt F .f32) (W : ℕ → BitVec 32) (n : ℕ) (g : SR.Idx → Elt F .f32) : Prop :=
  ∀ m < n, ∀ h x (y : SR.Idx), (y 1).val = m → (y 2).val = (x 2).val → g y = rowAt A (W m) m h x

theorem RowsOK.zero (A : SA.Idx → Elt F .f32) (W : ℕ → BitVec 32) (g : SR.Idx → Elt F .f32) : RowsOK A W 0 g :=
  fun _ h => absurd h (Nat.not_lt_zero _)

/-- What the core holds within a trip: the connection table at `N`, the tree buffers at `A` and `B`, and the
    gather buffers with `n` and `n'` rows copied. -/
def St (c : Thread nD τ) (m2 : Memref sig c.2.kind .smem SN .i32) (m11 m12 : Memref sig c.2.kind .vmem SA .f32)
    (m13 m14 : Memref sig c.2.kind .vmem SR .f32) (N : SN.Idx → Elt F .i32) (A B : SA.Idx → Elt F .f32)
    (W : ℕ → BitVec 32) (n n' : ℕ) : sProp 𝕄 :=
  iprop(owns c m2 fullShare N ∗ owns c m11 fullShare A ∗ owns c m12 fullShare B
    ∗ (∃ g, ⌜RowsOK A W n g⌝ ∗ owns c m13 fullShare g) ∗ (∃ g, ⌜RowsOK B W n' g⌝ ∗ owns c m14 fullShare g))

section Steps

variable {defs : Defs nD τ sig (Elt F) Λ} {𝒱 : Variants} {c : Thread nD τ} {bd : Option 𝒱.V} {E : Set Name}
variable {α β : Type} {Q : α → sProp (MT nD τ sig Unit (Elt F) Name U Lvl)}
variable {m2 : Memref sig c.2.kind .smem SN .i32} {m11 m12 : Memref sig c.2.kind .vmem SA .f32}
variable {m13 m14 : Memref sig c.2.kind .vmem SR .f32} {N : SN.Idx → Elt F .i32} {A B : SA.Idx → Elt F .f32}
variable {W : ℕ → BitVec 32} {n n' : ℕ}

/-- A part followed by the rest. -/
theorem step_bind {P : sProp 𝕄} {p : Prog (TpuEff nD τ sig (Elt F) Λ c.2) β} {k : β → Prog (TpuEff nD τ sig (Elt F) Λ c.2) α}
    (h : P ⊢ wp frame (wpE defs 𝒱 c bd) E p fun a => wp frame (wpE defs 𝒱 c bd) E (k a) Q) :
    P ⊢ wp frame (wpE defs 𝒱 c bd) E (p >>= k) Q := by
  rw [wp_bind]; exact h

/-- The program is a statement followed by the rest. -/
theorem step_isBind {P : sProp 𝕄} {p : Prog (TpuEff nD τ sig (Elt F) Λ c.2) β} {k : β → Prog (TpuEff nD τ sig (Elt F) Λ c.2) α}
    (h : P ⊢ wp frame (wpE defs 𝒱 c bd) E (p >>= k) Q) : P ⊢ wp frame (wpE defs 𝒱 c bd) E (p >>= k) Q := h

/-- The end of a part. -/
theorem step_pure {P : sProp 𝕄} {a : α} (h : P ⊢ Q a) :
    P ⊢ wp frame (wpE defs 𝒱 c bd) E (pure a) Q := h.trans (le_wp_ret _ _ _ a Q)

/-- A part whose last statement gives its result. -/
theorem step_tail {P : sProp 𝕄} {p : Prog (TpuEff nD τ sig (Elt F) Λ c.2) α}
    (h : P ⊢ wp frame (wpE defs 𝒱 c bd) E (p >>= pure) Q) : P ⊢ wp frame (wpE defs 𝒱 c bd) E p Q := by
  rw [bind_pure] at h; exact h

/-- Reading word `a` of row `i` of the connection table gives `W a`. -/
theorem step_word {i a : ℕ} (hW : ∀ y : SN.Idx, (y 0).val = i → N y = W (y 1).val)
    {off size : Fin 2 → ℕ} {inb : ∀ a, off a + size a ≤ SN.size a} {h1 : (Rect.unit (s := SN) off size inb).shape.numel = 1} {hp : EltTy.i32.packing = 1}
    {R : Elt F .i32 → sProp (MT nD τ sig Unit (Elt F) Name U Lvl)} (hoff : off = ![i, a])
    (hsize : size = ![1, 1])
    (h : (St c m2 m11 m12 m13 m14 N A B W n n' : sProp 𝕄) ⊢ R (W a)) :
    (St c m2 m11 m12 m13 m14 N A B W n n' : sProp 𝕄)
      ⊢ wp frame (wpE defs 𝒱 c bd) E (smemLoad m2 (Rect.unit (s := SN) off size inb) h1 hp) R := by
  subst hoff hsize
  change _ ⊢ wp frame (wpE defs 𝒱 c bd) E
    (.op (.load m2 (Rect.unit (s := SN) ![i, a] ![1, 1] inb).toLoadRect (View.loadsAt_rect (View.loads_smem_one hp h1)))
      (fun f => .ret (f (Shape.Idx.first (h1.symm ▸ Nat.one_pos))))) R
  unfold St at h ⊢
  iintro ⟨H2, H⟩
  iapply (owns_load (m := m2) (r := Rect.unit ![i, a] ![1, 1] inb)) $$ H2
  iintro H2
  have e : (fun x => N ((Rect.unit (s := SN) ![i, a] ![1, 1] inb).emb x)) = fun _ => W a := by
    funext x
    have h0 : (x 0).val < 1 := (x 0).isLt
    have h1 : (x 1).val < 1 := (x 1).isLt
    have e0 : (((Rect.unit (s := SN) ![i, a] ![1, 1] inb).emb x) 0).val = i := by
      show i + 1 * (x 0).val = i; omega
    have e1 : (((Rect.unit (s := SN) ![i, a] ![1, 1] inb).emb x) 1).val = a := by
      show a + 1 * (x 1).val = a; omega
    rw [hW _ e0, e1]
  rw [e]
  iapply (le_wp_ret _ _ _ _ R)
  iapply h
  isplitl [H2]; · iexact H2
  iexact H

/-- A condition that holds is assumed. -/
theorem step_assume {P : sProp 𝕄} {C : Prop} {d : Decidable C} {k : PLift C → Prog (TpuEff nD τ sig (Elt F) Λ c.2) α} (hC : C)
    (h : P ⊢ wp frame (wpE defs 𝒱 c bd) E (k ⟨hC⟩) Q) :
    P ⊢ wp frame (wpE defs 𝒱 c bd) E ((Prog.lift (TpuEff.assume C d) : Prog (TpuEff nD τ sig (Elt F) Λ c.2) _) >>= k) Q :=
  h.trans (wp_assume 𝒱 c bd E hC)

/-- Loading a row of the first tree buffer. -/
theorem step_rowA {w : BitVec 32} {a : ℕ} {off : Fin 3 → ℕ} {inb : ∀ a, off a + S1.size a ≤ SA.size a}
    {hl : m11.view.LoadsAt (Rect.unit (s := SA) off S1.size inb).toLoadRect}
    {k : (S1.Idx → Elt F .f32) → Prog (TpuEff nD τ sig (Elt F) Λ c.2) α} (hoff : off = rowOff w a)
    (h : (St c m2 m11 m12 m13 m14 N A B W n n' : sProp 𝕄)
      ⊢ wp frame (wpE defs 𝒱 c bd) E (k (rowAt A w a (hoff ▸ inb))) Q) :
    (St c m2 m11 m12 m13 m14 N A B W n n' : sProp 𝕄)
      ⊢ wp frame (wpE defs 𝒱 c bd) E
        (Prog.lift (.load m11 (Rect.unit (s := SA) off S1.size inb).toLoadRect hl) >>= k) Q := by
  subst hoff
  change _ ⊢ wp frame (wpE defs 𝒱 c bd) E (.op (.load m11 (Rect.unit (s := SA) (rowOff w a) S1.size inb).toLoadRect hl) k) Q
  unfold St at h ⊢
  iintro ⟨H2, HM, H⟩
  iapply (owns_load (m := m11) (r := Rect.unit (s := SA) (rowOff w a) S1.size inb)) $$ HM
  iintro HM
  iapply h
  isplitl [H2]; · iexact H2
  isplitl [HM]; · iexact HM
  iexact H

/-- Loading a row of the second tree buffer. -/
theorem step_rowB {w : BitVec 32} {a : ℕ} {off : Fin 3 → ℕ} {inb : ∀ a, off a + S1.size a ≤ SA.size a}
    {hl : m12.view.LoadsAt (Rect.unit (s := SA) off S1.size inb).toLoadRect}
    {k : (S1.Idx → Elt F .f32) → Prog (TpuEff nD τ sig (Elt F) Λ c.2) α} (hoff : off = rowOff w a)
    (h : (St c m2 m11 m12 m13 m14 N A B W n n' : sProp 𝕄)
      ⊢ wp frame (wpE defs 𝒱 c bd) E (k (rowAt B w a (hoff ▸ inb))) Q) :
    (St c m2 m11 m12 m13 m14 N A B W n n' : sProp 𝕄)
      ⊢ wp frame (wpE defs 𝒱 c bd) E
        (Prog.lift (.load m12 (Rect.unit (s := SA) off S1.size inb).toLoadRect hl) >>= k) Q := by
  subst hoff
  change _ ⊢ wp frame (wpE defs 𝒱 c bd) E (.op (.load m12 (Rect.unit (s := SA) (rowOff w a) S1.size inb).toLoadRect hl) k) Q
  unfold St at h ⊢
  iintro ⟨H2, H11, HM, H⟩
  iapply (owns_load (m := m12) (r := Rect.unit (s := SA) (rowOff w a) S1.size inb)) $$ HM
  iintro HM
  iapply h
  isplitl [H2]; · iexact H2
  isplitl [H11]; · iexact H11
  isplitl [HM]; · iexact HM
  iexact H

/-- A load of the first gather buffer reads what the rows copied so far say. -/
theorem step_deadA {r : Rect SR} {hl : m13.view.LoadsAt r.toLoadRect}
    {k : _ → Prog (TpuEff nD τ sig (Elt F) Λ c.2) α}
    (h : ∀ v, (∃ g, RowsOK A W n g ∧ v = fun x => g (r.emb x)) → (St c m2 m11 m12 m13 m14 N A B W n n' : sProp 𝕄) ⊢ wp frame (wpE defs 𝒱 c bd) E (k v) Q) :
    (St c m2 m11 m12 m13 m14 N A B W n n' : sProp 𝕄)
      ⊢ wp frame (wpE defs 𝒱 c bd) E (Prog.lift (.load m13 r.toLoadRect hl) >>= k) Q := by
  change _ ⊢ wp frame (wpE defs 𝒱 c bd) E (.op (.load m13 r.toLoadRect hl) k) Q
  unfold St at h ⊢
  iintro ⟨H2, H11, H12, ⟨%g, %hg, HM⟩, H⟩
  iapply (owns_load (m := m13) (r := r)) $$ HM
  iintro HM
  iapply h _ ⟨g, hg, rfl⟩
  isplitl [H2]; · iexact H2
  isplitl [H11]; · iexact H11
  isplitl [H12]; · iexact H12
  isplitl [HM]
  · iexists g; isplitr; · ipureintro; exact hg
    iexact HM
  iexact H

/-- A load of the second gather buffer reads what the rows copied so far say. -/
theorem step_deadB {r : Rect SR} {hl : m14.view.LoadsAt r.toLoadRect}
    {k : _ → Prog (TpuEff nD τ sig (Elt F) Λ c.2) α}
    (h : ∀ v, (∃ g, RowsOK B W n' g ∧ v = fun x => g (r.emb x)) → (St c m2 m11 m12 m13 m14 N A B W n n' : sProp 𝕄) ⊢ wp frame (wpE defs 𝒱 c bd) E (k v) Q) :
    (St c m2 m11 m12 m13 m14 N A B W n n' : sProp 𝕄)
      ⊢ wp frame (wpE defs 𝒱 c bd) E (Prog.lift (.load m14 r.toLoadRect hl) >>= k) Q := by
  change _ ⊢ wp frame (wpE defs 𝒱 c bd) E (.op (.load m14 r.toLoadRect hl) k) Q
  unfold St at h ⊢
  iintro ⟨H2, H11, H12, H13, %g, %hg, HM⟩
  iapply (owns_load (m := m14) (r := r)) $$ HM
  iintro HM
  iapply h _ ⟨g, hg, rfl⟩
  isplitl [H2]; · iexact H2
  isplitl [H11]; · iexact H11
  isplitl [H12]; · iexact H12
  isplitl [H13]; · iexact H13
  iexists g; isplitr; · ipureintro; exact hg
  iexact HM

omit [DecidableEq Name] [URA U] [Preorder Lvl] in
/-- Storing the named row over row `n` of a gather buffer with `n` rows copied leaves `n + 1` rows copied. -/
theorem RowsOK.succ {inb : ∀ a, (![0, n, 0] : Fin 3 → ℕ) a + S1.size a ≤ SR.size a} {g Y : SR.Idx → Elt F .f32}
    {hr : ∀ a, rowOff (W n) n a + S1.size a ≤ SA.size a} (hg : RowsOK A W n g)
    (hY : ∀ x, Y ((Rect.unit (s := SR) ![0, n, 0] S1.size inb).emb x) = rowAt A (W n) n hr x)
    (hY' : ∀ y, (∃ a, (y a).val < (![0, n, 0] : Fin 3 → ℕ) a ∨ (![0, n, 0] : Fin 3 → ℕ) a + S1.size a ≤ (y a).val) → Y y = g y) :
    RowsOK A W (n + 1) Y := by
  intro m hm h x y h1 h2
  by_cases hmn : m < n
  · rw [hY' y ⟨1, Or.inl (by rw [h1]; exact hmn)⟩]; exact hg m hmn h x y h1 h2
  · obtain rfl : m = n := by omega
    have hy : y = (Rect.unit (s := SR) ![0, m, 0] S1.size inb).emb x := by
      funext a
      apply Fin.ext
      match a with
      | 0 =>
        have hx : (x 0).val < 1 := (x 0).isLt
        have hy : (y 0).val < 1 := (y 0).isLt
        show (y 0).val = 0 + 1 * (x 0).val; omega
      | 1 =>
        have hx : (x 1).val < 1 := (x 1).isLt
        show (y 1).val = m + 1 * (x 1).val; omega
      | 2 => show (y 2).val = 0 + 1 * (x 2).val; omega
    rw [hy, hY]

/-- Storing row `n` into the first gather buffer. -/
theorem step_storeA {off : Fin 3 → ℕ} {inb : ∀ a, off a + S1.size a ≤ SR.size a}
    {w : S1.Idx → Elt F .f32} {hx : (m13.access (Rect.unit (s := SR) off S1.size inb)).Stores Finset.univ}
    {hm : Finset.univ = Finset.univ ∨ ∀ a, (Rect.unit (s := SR) off S1.size inb).stride a = 1}
    {k : PUnit → Prog (TpuEff nD τ sig (Elt F) Λ c.2) α} {m : ℕ} {hr : ∀ a, rowOff (W m) m a + S1.size a ≤ SA.size a}
    (hoff : off = ![0, m, 0]) (hm' : n = m) (hw : w = rowAt A (W m) m hr)
    (h : (St c m2 m11 m12 m13 m14 N A B W (m + 1) n' : sProp 𝕄) ⊢ wp frame (wpE defs 𝒱 c bd) E (k ⟨⟩) Q) :
    (St c m2 m11 m12 m13 m14 N A B W n n' : sProp 𝕄)
      ⊢ wp frame (wpE defs 𝒱 c bd) E
        (Prog.lift (.store m13 (Rect.unit (s := SR) off S1.size inb) w Finset.univ hx hm) >>= k) Q := by
  subst hoff hm' hw
  change _ ⊢ wp frame (wpE defs 𝒱 c bd) E (.op (.store m13 (Rect.unit (s := SR) ![0, n, 0] S1.size inb) _ Finset.univ hx hm) k) Q
  unfold St at h ⊢
  iintro ⟨H2, H11, H12, ⟨%g, %hg, HM⟩, H⟩
  iapply (owns_store (m := m13) (off := ![0, n, 0])) $$ HM
  iintro %Y %hY HM
  iapply h
  isplitl [H2]; · iexact H2
  isplitl [H11]; · iexact H11
  isplitl [H12]; · iexact H12
  isplitl [HM]
  · iexists Y; isplitr; · ipureintro; exact hg.succ hY.1 hY.2
    iexact HM
  iexact H

/-- Storing row `n'` into the second gather buffer. -/
theorem step_storeB {off : Fin 3 → ℕ} {inb : ∀ a, off a + S1.size a ≤ SR.size a}
    {w : S1.Idx → Elt F .f32} {hx : (m14.access (Rect.unit (s := SR) off S1.size inb)).Stores Finset.univ}
    {hm : Finset.univ = Finset.univ ∨ ∀ a, (Rect.unit (s := SR) off S1.size inb).stride a = 1}
    {k : PUnit → Prog (TpuEff nD τ sig (Elt F) Λ c.2) α} {m : ℕ} {hr : ∀ a, rowOff (W m) m a + S1.size a ≤ SA.size a}
    (hoff : off = ![0, m, 0]) (hm' : n' = m) (hw : w = rowAt B (W m) m hr)
    (h : (St c m2 m11 m12 m13 m14 N A B W n (m + 1) : sProp 𝕄) ⊢ wp frame (wpE defs 𝒱 c bd) E (k ⟨⟩) Q) :
    (St c m2 m11 m12 m13 m14 N A B W n n' : sProp 𝕄)
      ⊢ wp frame (wpE defs 𝒱 c bd) E
        (Prog.lift (.store m14 (Rect.unit (s := SR) off S1.size inb) w Finset.univ hx hm) >>= k) Q := by
  subst hoff hm' hw
  change _ ⊢ wp frame (wpE defs 𝒱 c bd) E (.op (.store m14 (Rect.unit (s := SR) ![0, n', 0] S1.size inb) _ Finset.univ hx hm) k) Q
  unfold St at h ⊢
  iintro ⟨H2, H11, H12, H13, %g, %hg, HM⟩
  iapply (owns_store (m := m14) (off := ![0, n', 0])) $$ HM
  iintro %Y %hY HM
  iapply h
  isplitl [H2]; · iexact H2
  isplitl [H11]; · iexact H11
  isplitl [H12]; · iexact H12
  isplitl [H13]; · iexact H13
  iexists Y; isplitr; · ipureintro; exact hg.succ hY.1 hY.2
  iexact HM

end Steps

/-- The row a word below 128 names lies in a tree buffer: what the kernel assumes of each word it reads. -/
theorem row_inb {w : BitVec 32} {n : ℕ} {off : Fin 3 → ℕ} (hoff : off = rowOff w n) (hw : w.toNat < 128) (hn : n < 256) :
    ∀ a, off a + S1.size a ≤ SA.size a := by
  subst hoff
  have h : (Scalar.indexCast w : Index).toNat = w.toNat := rfl
  intro a
  match a with
  | 0 => show (Scalar.indexCast w : Index).toNat + 1 ≤ 128; omega
  | 1 => show n + 1 ≤ 256; omega
  | 2 => show 0 + 128 ≤ 128; omega

/-- A condition that says so of a row holds. -/
theorem chk_of {C : Prop} {w : BitVec 32} {n : ℕ} (hC : C = ∀ a, rowOff w n a + S1.size a ≤ SA.size a)
    (hw : w.toNat < 128) (hn : n < 256) : C := hC ▸ row_inb rfl hw hn

end Cert.TreeGather
-- ==== Proof.RealRowsFirst.lean ====
module

public import proofs.«01_k».proof.Proof.Gen.KernelIdeal.Skeleton
public import proofs.«01_k».proof.Proof.Steps

/-!
The gather of one trip of the node loop, over the printed statements: 256 rows, one for each batch element,
in two halves as the program is printed.
-/

@[expose] public section

noncomputable section

namespace Cert.KernelIdeal.Hand

open Idealize.ShloMosaic Idealize.ShloMosaic.TcCoe Idealize.ShloMosaic.Tactic
open Idealize.SL
open Idealize.SL.RA Idealize.SL.Sem Idealize.SL.ProofMode
open Idealize.SL.BI (sProp)
open scoped Idealize.SL.BI
open Idealize.SL.BI.BIBase Idealize.SL.BI.Laws
open Cert.KernelIdeal Cert.KernelIdeal.Gen Cert.TreeGather

variable {F : FTy → Type} [FloatOps F]
variable {Name : Type} [DecidableEq Name] {U : Type} [URA U] {Lvl : Type} [Preorder Lvl]

variable (i : grid0.Coords) (arg1 : Memref sig .tc .vmem S256x128 .f32) (harg1 : arg1.IsWhole) (arg2 : Memref sig .tc .smem S128x256 .i32) (harg2 : arg2.IsWhole)
  (arg3 : Memref sig .tc .vmem S128x384 .f32) (harg3 : arg3.IsWhole) (arg4 : Memref sig .tc .vmem S1x384 .f32) (harg4 : arg4.IsWhole) (arg5 : Memref sig .tc .vmem S128x128 .f32) (harg5 : arg5.IsWhole)
  (arg6 : Memref sig .tc .vmem S128x128 .f32) (harg6 : arg6.IsWhole) (arg7 : Memref sig .tc .vmem S128x128 .f32) (harg7 : arg7.IsWhole) (arg8 : Memref sig .tc .hbm S1024x128x128 .f32) (harg8 : arg8.IsWhole)
  (arg9 : Memref sig .tc .hbm S1024x128x128 .f32) (harg9 : arg9.IsWhole) (arg10 : Memref sig .tc .hbm S1024x128x128 .f32) (harg10 : arg10.IsWhole) (arg11 : Memref sig .tc .vmem S128x256x128 .f32) (harg11 : arg11.IsWhole)
  (arg12 : Memref sig .tc .vmem S128x256x128 .f32) (harg12 : arg12.IsWhole) (arg13 : Memref sig .tc .vmem S1x256x128 .f32) (harg13 : arg13.IsWhole) (arg14 : Memref sig .tc .vmem S1x256x128 .f32) (harg14 : arg14.IsWhole)
  (arg15 : Memref sig .tc .vmem S2x256x8x128 .f32) (harg15 : arg15.IsWhole) (arg16 : DmaSems sig S_) (arg17 : DmaSems sig S_)

local notation "𝕄" => MT nD τ sig Unit (Elt F) Name U Lvl

set_option maxRecDepth 65536 in
set_option maxHeartbeats 40000000 in
/-- The first 138 rows of a trip are copied, and the word and the row of the next one are read. -/
theorem rows_first (c : Dev nD) (k0_t1 : Fin k0_t1_loop.trips)
    (N : SN.Idx → Elt F .i32) (A B : SA.Idx → Elt F .f32) (W : ℕ → BitVec 32)
    (hW : ∀ y : SN.Idx, (y 0).val = (Scalar.indexCast (Scf.iv 1#32 1#32 k0_t1) : Index).toNat → N y = W (y 1).val)
    (hlt : ∀ n, (W n).toNat < 128)
    (Q : _ → sProp (MT nD τ sig Unit (Elt F) Name U Lvl))
    (hQ : ∀ hw h, (St (c : Thread nD τ) arg2 arg11 arg12 arg13 arg14 N A B W 138 138 : sProp 𝕄)
      ⊢ Q ⟨Scf.iv 1#32 1#32 k0_t1, W 138, hw, rowAt A (W 138) 138 h⟩) :
    (St (c : Thread nD τ) arg2 arg11 arg12 arg13 arg14 N A B W 0 0 : sProp 𝕄)
      ⊢ wp frame (wpE (defs₀ (F := F)) Variants.none (c : Thread nD τ) none) Set.univ
          (k0_part112 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 1#32 1#32 k0_t1) Q := by
  rw [k0_part112_eq_skeleton]; unfold k0_part112_skel
  repeat (first
    | (with_reducible apply step_assume
       case hC =>
         with_reducible apply chk_of
         · exact rfl
         · exact hlt _
         · decide)
    | (with_reducible apply step_rowA
       case hoff => exact rfl)
    | (with_reducible apply step_rowB
       case hoff => exact rfl)
    | (with_reducible apply step_deadA
       intro v hv)
    | (with_reducible apply step_deadB
       intro v hv)
    | (with_reducible apply step_storeA
       · exact rfl
       · exact rfl
       · exact shapeCast_self _ _)
    | (with_reducible apply step_storeB
       · exact rfl
       · exact rfl
       · exact shapeCast_self _ _)
    | with_reducible apply step_pure
    | (with_reducible refine step_bind ?_
       first
         | (sl_open_parts
            with_reducible refine step_isBind ?_)
         | (apply step_word hW
            · exact rfl
            · exact rfl)
         | sl_open_parts)
    | (with_reducible refine step_tail ?_
       first
         | (with_reducible apply step_rowA
            case hoff => exact rfl)
         | (with_reducible apply step_rowB
            case hoff => exact rfl)
         | (with_reducible apply step_deadA
            intro v hv)
         | (with_reducible apply step_deadB
            intro v hv)
         | (with_reducible apply step_storeA
            · exact rfl
            · exact rfl
            · exact shapeCast_self _ _)
         | (with_reducible apply step_storeB
            · exact rfl
            · exact rfl
            · exact shapeCast_self _ _))
    | (apply step_word hW
       · exact rfl
       · exact rfl))
  exact hQ _ _

end Cert.KernelIdeal.Hand
-- ==== Proof.RealRowsSecond.lean ====
module

public import proofs.«01_k».proof.Proof.Gen.KernelIdeal.Skeleton
public import proofs.«01_k».proof.Proof.Steps

/-!
The gather of one trip of the node loop, over the printed statements: 256 rows, one for each batch element,
in two halves as the program is printed.
-/

@[expose] public section

noncomputable section

namespace Cert.KernelIdeal.Hand

open Idealize.ShloMosaic Idealize.ShloMosaic.TcCoe Idealize.ShloMosaic.Tactic
open Idealize.SL
open Idealize.SL.RA Idealize.SL.Sem Idealize.SL.ProofMode
open Idealize.SL.BI (sProp)
open scoped Idealize.SL.BI
open Idealize.SL.BI.BIBase Idealize.SL.BI.Laws
open Cert.KernelIdeal Cert.KernelIdeal.Gen Cert.TreeGather

variable {F : FTy → Type} [FloatOps F]
variable {Name : Type} [DecidableEq Name] {U : Type} [URA U] {Lvl : Type} [Preorder Lvl]

variable (i : grid0.Coords) (arg1 : Memref sig .tc .vmem S256x128 .f32) (harg1 : arg1.IsWhole) (arg2 : Memref sig .tc .smem S128x256 .i32) (harg2 : arg2.IsWhole)
  (arg3 : Memref sig .tc .vmem S128x384 .f32) (harg3 : arg3.IsWhole) (arg4 : Memref sig .tc .vmem S1x384 .f32) (harg4 : arg4.IsWhole) (arg5 : Memref sig .tc .vmem S128x128 .f32) (harg5 : arg5.IsWhole)
  (arg6 : Memref sig .tc .vmem S128x128 .f32) (harg6 : arg6.IsWhole) (arg7 : Memref sig .tc .vmem S128x128 .f32) (harg7 : arg7.IsWhole) (arg8 : Memref sig .tc .hbm S1024x128x128 .f32) (harg8 : arg8.IsWhole)
  (arg9 : Memref sig .tc .hbm S1024x128x128 .f32) (harg9 : arg9.IsWhole) (arg10 : Memref sig .tc .hbm S1024x128x128 .f32) (harg10 : arg10.IsWhole) (arg11 : Memref sig .tc .vmem S128x256x128 .f32) (harg11 : arg11.IsWhole)
  (arg12 : Memref sig .tc .vmem S128x256x128 .f32) (harg12 : arg12.IsWhole) (arg13 : Memref sig .tc .vmem S1x256x128 .f32) (harg13 : arg13.IsWhole) (arg14 : Memref sig .tc .vmem S1x256x128 .f32) (harg14 : arg14.IsWhole)
  (arg15 : Memref sig .tc .vmem S2x256x8x128 .f32) (harg15 : arg15.IsWhole) (arg16 : DmaSems sig S_) (arg17 : DmaSems sig S_)

local notation "𝕄" => MT nD τ sig Unit (Elt F) Name U Lvl

set_option maxRecDepth 65536 in
set_option maxHeartbeats 40000000 in
/-- The remaining rows of a trip are copied, and the three products of the gates are computed from what was gathered. -/
theorem rows_second (c : Dev nD) (k0_t1 : Fin k0_t1_loop.trips)
    (N : SN.Idx → Elt F .i32) (A B : SA.Idx → Elt F .f32) (W : ℕ → BitVec 32)
    (hW : ∀ y : SN.Idx, (y 0).val = (Scalar.indexCast (Scf.iv 1#32 1#32 k0_t1) : Index).toNat → N y = W (y 1).val)
    (hlt : ∀ n, (W n).toNat < 128)
    (v6 : FVec F S128x384 .f32) (v15 : FVec F S256x384 .f32) hw h
    (Q : _ → sProp (MT nD τ sig Unit (Elt F) Name U Lvl))
    (hQ : ∀ g (_ : ∃ g', RowsOK A W 256 g' ∧ g = fun x => g' ((Rect.unit (s := SR) ![0, 0, 0] SR.size inb_S1x256x128_S1x256x128_0_0_0).emb x)), (St (c : Thread nD τ) arg2 arg11 arg12 arg13 arg14 N A B W 256 256 : sProp 𝕄)
      ⊢ Q ⟨k0_pay513 v6 v15 g, k0_pay514 v6 v15 g, k0_pay515 v6 v15 g⟩) :
    (St (c : Thread nD τ) arg2 arg11 arg12 arg13 arg14 N A B W 138 138 : sProp 𝕄)
      ⊢ wp frame (wpE (defs₀ (F := F)) Variants.none (c : Thread nD τ) none) Set.univ
          (k0_part113 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v6 v15 k0_t1 (Scf.iv 1#32 1#32 k0_t1) (W 138) hw (rowAt A (W 138) 138 h)) Q := by
  rw [k0_part113_eq_skeleton]; unfold k0_part113_skel
  repeat (first
    | (with_reducible apply step_assume
       case hC =>
         with_reducible apply chk_of
         · exact rfl
         · exact hlt _
         · decide)
    | (with_reducible apply step_rowA
       case hoff => exact rfl)
    | (with_reducible apply step_rowB
       case hoff => exact rfl)
    | (with_reducible apply step_deadA
       intro v hv)
    | (with_reducible apply step_deadB
       intro v hv)
    | (with_reducible apply step_storeA
       · exact rfl
       · exact rfl
       · exact shapeCast_self _ _)
    | (with_reducible apply step_storeB
       · exact rfl
       · exact rfl
       · exact shapeCast_self _ _)
    | with_reducible apply step_pure
    | (with_reducible refine step_bind ?_
       first
         | (sl_open_parts
            with_reducible refine step_isBind ?_)
         | (apply step_word hW
            · exact rfl
            · exact rfl)
         | sl_open_parts)
    | (with_reducible refine step_tail ?_
       first
         | (with_reducible apply step_rowA
            case hoff => exact rfl)
         | (with_reducible apply step_rowB
            case hoff => exact rfl)
         | (with_reducible apply step_deadA
            intro v hv)
         | (with_reducible apply step_deadB
            intro v hv)
         | (with_reducible apply step_storeA
            · exact rfl
            · exact rfl
            · exact shapeCast_self _ _)
         | (with_reducible apply step_storeB
            · exact rfl
            · exact rfl
            · exact shapeCast_self _ _))
    | (apply step_word hW
       · exact rfl
       · exact rfl))
  exact hQ v hv

end Cert.KernelIdeal.Hand
-- ==== Proof.Staging.lean ====
module

public import proofs.«01_k».proof.Proof.Steps
public import Idealize.ShloMosaic.Lib.Transfers

/-!
The transfers through the two staging slots, step by step. Each slot has its semaphore and at most one
transfer in flight. A slot's holdings are the slot itself, half a share of each of the two initial arrays, and
the part of the result it writes: slot 0 writes the even groups of eight nodes of the current block, slot 1 the
odd ones. `Held` is a slot at rest with its holdings, `Fly` a slot whose transfer will give them back.
-/

@[expose] public section

noncomputable section

namespace Cert.TreeGather

open Idealize.ShloMosaic
open Idealize.SL
open Idealize.SL.RA Idealize.SL.Sem Idealize.SL.ProofMode
open Idealize.SL.BI (sProp)
open scoped Idealize.SL.BI
open Idealize.SL.BI.BIBase Idealize.SL.BI.Laws

/-- The shape of a staged group of nodes: batch element, node of the group, lane. -/
abbrev SV : Shape := ⟨3, ![256, 8, 128]⟩
/-- The shape of one slot as the staging buffer holds it. -/
abbrev SV1 : Shape := ⟨4, ![1, 256, 8, 128]⟩
/-- The shape of the staging buffer. -/
abbrev SX : Shape := ⟨4, ![2, 256, 8, 128]⟩
/-- The shape of an initial array and of the result: batch element, node, lane. -/
abbrev SH : Shape := ⟨3, ![1024, 128, 128]⟩
/-- The shape of a group of nodes of a tree buffer. -/
abbrev SG : Shape := ⟨3, ![8, 256, 128]⟩

variable {nD : Nat} {τ : Topo} {sig : RefSig} {F : FTy → Type}
variable {Name : Type} [DecidableEq Name] {U : Type} [URA U] [CountersIn U] {Lvl : Type} [Preorder Lvl] {Λ : Labels}

local notation "𝕄" => MT nD τ sig Unit (Elt F) Name U Lvl

/-- The values on the indices `M` of a memref, its elements there held whole. -/
def ownsOn (c : Thread nD τ) {sp : Space} {s : Shape} {e : EltTy} (m : Memref sig c.2.kind sp s e) (M : Finset s.Idx)
    (X : s.Idx → Elt F e) : sProp 𝕄 :=
  iprop(∃ f, ⌜∀ x ∈ M, m.view.read (Elt F) f x = X x⌝ ∗ (m.view.loc c ↦[m.view.setOn M]{fullShare} f))

/-- Only the values on the indices held matter. -/
theorem ownsOn_congr {c : Thread nD τ} {sp : Space} {s : Shape} {e : EltTy} {m : Memref sig c.2.kind sp s e} {M : Finset s.Idx}
    {X Y : s.Idx → Elt F e} (h : ∀ x ∈ M, X x = Y x) : (ownsOn c m M X : sProp 𝕄) ⊢ ownsOn c m M Y := by
  unfold ownsOn
  iintro ⟨%f, %hf, H⟩
  iexists f
  isplitr
  · ipureintro; exact fun x hx => (hf x hx).trans (h x hx)
  · iexact H

/-- What is held of a memref splits along its indices. -/
theorem owns_split {c : Thread nD τ} {sp : Space} {s : Shape} {e : EltTy} {m : Memref sig c.2.kind sp s e} {M M' : Finset s.Idx}
    {X : s.Idx → Elt F e} (hd : Disjoint M M') (hu : M ∪ M' = Finset.univ) :
    (owns c m fullShare X : sProp 𝕄) ⊢ iprop(ownsOn c m M X ∗ ownsOn c m M' X) := by
  unfold owns ownsOn
  have hd' : Disjoint (m.view.setOn M) (m.view.setOn M') := (Finset.disjoint_map _).mpr hd
  have hu' : m.view.set = m.view.setOn M ∪ m.view.setOn M' := by
    rw [← View.setOn_univ, ← hu]; exact Finset.map_union _ _
  iintro ⟨%f, %hf, H⟩
  rw [hu']
  ihave H := (pointsTo_union hd').1 $$ H
  icases H with ⟨H, H'⟩
  isplitl [H]
  · iexists f; isplitr
    · ipureintro; exact fun x _ => congrFun hf x
    · iexact H
  · iexists f; isplitr
    · ipureintro; exact fun x _ => congrFun hf x
    · iexact H'

/-- And joins again. -/
theorem owns_join {c : Thread nD τ} {sp : Space} {s : Shape} {e : EltTy} {m : Memref sig c.2.kind sp s e} {M M' : Finset s.Idx}
    {X : s.Idx → Elt F e} (hd : Disjoint M M') (hu : M ∪ M' = Finset.univ) :
    iprop(ownsOn c m M X ∗ ownsOn c m M' X) ⊢ (owns c m fullShare X : sProp 𝕄) := by
  unfold owns ownsOn
  have hd' : Disjoint (m.view.setOn M) (m.view.setOn M') := (Finset.disjoint_map _).mpr hd
  have hu' : m.view.set = m.view.setOn M ∪ m.view.setOn M' := by
    rw [← View.setOn_univ, ← hu]; exact Finset.map_union _ _
  rw [hu']
  iintro ⟨⟨%f, %hf, H⟩, ⟨%g, %hg, H'⟩⟩
  iexists (m.view.setOn M').piecewise g f
  isplitr
  · ipureintro
    funext x
    by_cases hx : x ∈ M'
    · rw [← hg x hx, View.read_apply, View.read_apply, Finset.piecewise_eq_of_mem _ _ _ (m.view.mem_setOn.mpr hx)]
    · have hx' : x ∈ M := by
        have := Finset.mem_univ x; rw [← hu, Finset.mem_union] at this; exact this.resolve_right hx
      rw [← hf x hx', View.read_apply, View.read_apply,
        Finset.piecewise_eq_of_notMem _ _ _ (fun h => hx (m.view.mem_setOn.mp h))]
  · iapply (pointsTo_join hd')
    isplitl [H]; · iexact H
    iexact H'

/-- A share of a memref splits in two halves. -/
theorem owns_halve {c : Thread nD τ} {sp : Space} {s : Shape} {e : EltTy} {m : Memref sig c.2.kind sp s e} {X : s.Idx → Elt F e} :
    (owns c m fullShare X : sProp 𝕄) ⊢ iprop(owns c m fullShare.left X ∗ owns c m fullShare.right X) := by
  unfold owns
  iintro ⟨%f, %hf, H⟩
  ihave H := (pointsTo_share (PosShare.mem_left_op_right fullShare)).1 $$ H
  icases H with ⟨H, H'⟩
  isplitl [H]
  · iexists f; isplitr
    · ipureintro; exact hf
    · iexact H
  · iexists f; isplitr
    · ipureintro; exact hf
    · iexact H'

/-- And the halves join again. -/
theorem owns_unhalve {c : Thread nD τ} {sp : Space} {s : Shape} {e : EltTy} {m : Memref sig c.2.kind sp s e} {X : s.Idx → Elt F e} :
    iprop(owns c m fullShare.left X ∗ owns c m fullShare.right X) ⊢ (owns c m fullShare X : sProp 𝕄) := by
  unfold owns
  iintro ⟨⟨%f, %hf, H⟩, ⟨%g, %hg, H'⟩⟩
  have e : (m.view.loc c ↦[m.view.set]{fullShare.right} g : sProp 𝕄) = m.view.loc c ↦[m.view.set]{fullShare.right} f := by
    refine pointsTo_congr fun i hi => ?_
    obtain ⟨x, -, rfl⟩ := Finset.mem_map.mp hi
    have := congrFun (hg.trans hf.symm) x
    rw [View.read_apply, View.read_apply] at this
    exact (cast_inj _).mp this
  ihave H' := (Entails.of_eq e) $$ H'
  iexists f
  isplitr
  · ipureintro; exact hf
  · iapply (pointsTo_share (PosShare.mem_left_op_right fullShare)).2
    isplitl [H]; · iexact H
    iexact H'

/-- A slot at rest: its semaphore's count is zero, and its holdings are `H`. -/
def Held (c : Thread nD τ) (s : DmaSem sig) (H : sProp 𝕄) : sProp 𝕄 := iprop(semVal (c, .dma s) 0 ∗ H)

/-- A slot in flight: the wait for its transfer of credit `N` gives the holdings `H`. -/
def Fly (c : Thread nD τ) (s : DmaSem sig) (N : ℕ) (H : sProp 𝕄) : sProp 𝕄 :=
  iprop(∃ D R : sProp 𝕄, ⌜iprop(D ∗ R) ⊢ H⌝
    ∗ Transfers.Flight (countersEmb (U := U)) c (.dma s) () N D ∗ R)

/-- The core owes nothing. -/
def Owes (c : Thread nD τ) : sProp 𝕄 := iprop(∃ W, owes c 0 W)

/-- A slot with values that satisfy `P`. -/
def Slot (c : Thread nD τ) {sp : Space} (sl : Memref sig c.2.kind sp SV .f32) (P : (SV.Idx → Elt F .f32) → Prop) : sProp 𝕄 :=
  iprop(∃ Z, ⌜P Z⌝ ∗ owns c sl fullShare Z)

/-- The group of eight nodes from `m` on, of the batch elements from `b` on, of an initial array. -/
def IsChunk (X : SH.Idx → Elt F .f32) (b m : ℕ) (Z : SV.Idx → Elt F .f32) : Prop :=
  ∀ x (y : SH.Idx), (y 0).val = b + (x 0).val → (y 1).val = m + (x 1).val → (y 2).val = (x 2).val → Z x = X y

/-- The group of eight nodes from `m` on of a tree buffer, batch element first. -/
def IsGroup (A : SA.Idx → Elt F .f32) (m : ℕ) (Z : SV.Idx → Elt F .f32) : Prop :=
  ∀ x (y : SA.Idx), (y 0).val = m + (x 1).val → (y 1).val = (x 0).val → (y 2).val = (x 2).val → Z x = A y

/-- An index of a tree buffer. -/
def ixA (n b l : ℕ) (hn : n < 128) (hb : b < 256) (hl : l < 128) : SA.Idx := fun a => match a with
  | 0 => ⟨n, hn⟩
  | 1 => ⟨b, hb⟩
  | 2 => ⟨l, hl⟩

/-- The result with the nodes below `m` of the block at `b` written from a tree buffer. -/
def prog (A : SA.Idx → Elt F .f32) (old : SH.Idx → Elt F .f32) (b m : ℕ) : SH.Idx → Elt F .f32 := fun y =>
  if h : b ≤ (y 0).val ∧ (y 0).val < b + 256 ∧ (y 1).val < m then
    A (ixA (y 1).val ((y 0).val - b) (y 2).val (y 1).isLt (by omega) (y 2).isLt)
  else old y

/-- The indices of the result that a slot writes. -/
def part (b p : ℕ) : Finset SH.Idx :=
  Finset.univ.filter fun y => (b ≤ (y 0).val ∧ (y 0).val < b + 256 ∧ (y 1).val / 8 % 2 = 1) ↔ p = 1

/-- The holdings of a slot. -/
def Hs (c : Thread nD τ) (m8 m9 m10 : Memref sig c.2.kind .hbm SH .f32) (q : PosShare TreeShare) (X8 X9 : SH.Idx → Elt F .f32)
    (b p : ℕ) (Y : SH.Idx → Elt F .f32) {sp : Space} (sl : Memref sig c.2.kind sp SV .f32) (P : (SV.Idx → Elt F .f32) → Prop) : sProp 𝕄 :=
  iprop(owns c m8 q X8 ∗ owns c m9 q X9 ∗ ownsOn c m10 (part b p) Y ∗ Slot c sl P)

section Rules

variable [Infinite Name]
variable {defs : Defs nD τ sig (Elt F) Λ} {𝒱 : Variants} {c : Thread nD τ} {bd : Option 𝒱.V}
variable {α : Type} {Q : α → sProp (MT nD τ sig Unit (Elt F) Name U Lvl)}

/-- What starting a transfer from a part of an array into a slot asks for and gives. -/
theorem dma_in {sp : Space} {src : Memref sig c.2.kind .hbm SH .f32} {sl : Memref sig c.2.kind sp SV .f32} {s : DmaSem sig}
    {off : Fin 3 → ℕ} {inb : ∀ a, off a + SV.size a ≤ SH.size a} {hr : ∀ a, (Rect.unit (s := SH) off SV.size inb).stride a = 1}
    {hsrc hdst hsem} {k : PUnit → Prog (TpuEff nD τ sig (Elt F) Λ c.2) α}
    {q : PosShare TreeShare} {X : SH.Idx → Elt F .f32} {b m : ℕ} {P : (SV.Idx → Elt F .f32) → Prop} (hoff : off = ![b, m, 0])
    (H : sProp 𝕄) :
    iprop(semVal (c, .dma s) 0 ∗ owns c src q X ∗ Slot c sl P ∗ H)
      ⊢ iprop((Fly c s sl.view.dmaCredit iprop(owns c src q X ∗ Slot c sl (IsChunk X b m) ∗ H)
            -∗ wp frame (wpE defs 𝒱 c bd) Set.univ (k ⟨⟩) Q)
        -∗ wp frame (wpE defs 𝒱 c bd) Set.univ
          (.op (.enqueueDma (src.slice (Rect.unit (s := SH) off SV.size inb) hr : Memref sig c.2.kind .hbm SV .f32)
            (.here sl) (.dma s) hsrc hdst hsem) k) Q) := by
  unfold owns Slot
  iintro ⟨Hv, ⟨%f, %hf, Hs⟩, ⟨%Z, -, Hd⟩, HH⟩ K
  unfold owns
  icases Hd with ⟨%fd, -, Hd⟩
  have hsub : (src.slice (Rect.unit (s := SH) off SV.size inb) hr : Memref sig c.2.kind .hbm SV .f32).view.set ⊆ src.view.set :=
    src.view.set_slice_subset _
  ihave Hs := (pointsTo_split_subset hsub).1 $$ Hs
  icases Hs with ⟨Hs, Hs'⟩
  iapply (Transfers.wp_dmaLocal (countersEmb (U := U)) 𝒱 c bd
    (src := (src.slice (Rect.unit (s := SH) off SV.size inb) hr : Memref sig c.2.kind .hbm SV .f32)) (dst := sl) (via := .same) (sm := .dma s)
    () sl.view.dmaCredit rfl (sl.view.dmaCredit_pos (by decide)) (Finset.Subset.refl _)) $$ [Hs Hd Hv]
  · isplitl [Hs]; · iexact Hs
    isplitl [Hd]; · iexact Hd
    iexact Hv
  iintro HF
  iapply K
  unfold Fly
  iexists _, iprop((src.view.loc c ↦[src.view.set \ (src.slice (Rect.unit (s := SH) off SV.size inb) hr : Memref sig c.2.kind .hbm SV .f32).view.set]{q} f) ∗ H)
  isplitr
  rotate_left
  · isplitl [HF]; · iexact HF
    isplitl [Hs']; · iexact Hs'
    iexact HH
  ipureintro
  iintro ⟨⟨Hd, Hs⟩, Hs', HH⟩
  isplitl [Hs Hs']
  · iexists f; isplitr
    · ipureintro; exact hf
    · iapply (pointsTo_split_subset hsub).2
      isplitl [Hs]; · iexact Hs
      iexact Hs'
  isplitr [HH]
  · iexists ((src.slice (Rect.unit (s := SH) off SV.size inb) hr : Memref sig c.2.kind .hbm SV .f32).view.read (Elt F) f)
    isplitr
    rotate_left
    · iexists _
      isplitr
      rotate_left
      · iexact Hd
      · ipureintro
        exact View.read_write_univ _ _
    · ipureintro
      intro x y h0 h1 h2
      subst hf hoff
      show src.view.read (Elt F) f ((Rect.unit (s := SH) ![b, m, 0] SV.size inb).emb x) = src.view.read (Elt F) f y
      congr 1
      funext a
      apply Fin.ext
      match a with
      | 0 => show b + 1 * (x 0).val = _; omega
      | 1 => show m + 1 * (x 1).val = _; omega
      | 2 => show 0 + 1 * (x 2).val = _; omega
  · iexact HH

/-- What starting a transfer from a slot into a part of the result asks for and gives. -/
theorem dma_out {sp : Space} {dst : Memref sig c.2.kind .hbm SH .f32} {sl : Memref sig c.2.kind sp SV .f32} {s : DmaSem sig}
    {off : Fin 3 → ℕ} {inb : ∀ a, off a + SV.size a ≤ SH.size a} {hr : ∀ a, (Rect.unit (s := SH) off SV.size inb).stride a = 1}
    {hsrc hdst hsem} {k : PUnit → Prog (TpuEff nD τ sig (Elt F) Λ c.2) α}
    {A : SA.Idx → Elt F .f32} {old : SH.Idx → Elt F .f32} {b m p : ℕ} (hoff : off = ![b, m, 0]) (hm : m % 8 = 0 ∧ m / 8 % 2 = p)
    (hm' : m + 8 ≤ 128) (H : sProp 𝕄) :
    iprop(semVal (c, .dma s) 0 ∗ ownsOn c dst (part b p) (prog A old b m) ∗ Slot c sl (IsGroup A m) ∗ H)
      ⊢ iprop((Fly c s (dst.slice (Rect.unit (s := SH) off SV.size inb) hr : Memref sig c.2.kind .hbm SV .f32).view.dmaCredit
            iprop(ownsOn c dst (part b p) (prog A old b (m + 16)) ∗ Slot c sl (fun _ => True) ∗ H)
            -∗ wp frame (wpE defs 𝒱 c bd) Set.univ (k ⟨⟩) Q)
        -∗ wp frame (wpE defs 𝒱 c bd) Set.univ
          (.op (.enqueueDma sl (.here (dst.slice (Rect.unit (s := SH) off SV.size inb) hr : Memref sig c.2.kind .hbm SV .f32))
            (.dma s) hsrc hdst hsem) k) Q) := by
  unfold ownsOn Slot
  iintro ⟨Hv, ⟨%f, %hf, Hd⟩, ⟨%Z, %hZ, Hs⟩, HH⟩ K
  unfold owns
  icases Hs with ⟨%fs, %hfs, Hs⟩
  subst hoff
  have h1 : ∀ x, (Rect.unit (s := SH) ![b, m, 0] SV.size inb).emb x ∈ part b p := by
    intro x
    have hx0 : (x 0).val < 256 := (x 0).isLt
    have hx1 : (x 1).val < 8 := (x 1).isLt
    have e0 : (((Rect.unit (s := SH) ![b, m, 0] SV.size inb).emb x) 0).val = b + 1 * (x 0).val := rfl
    have e1 : (((Rect.unit (s := SH) ![b, m, 0] SV.size inb).emb x) 1).val = m + 1 * (x 1).val := rfl
    unfold part
    rw [Finset.mem_filter]
    refine ⟨Finset.mem_univ _, ?_⟩
    rw [e0, e1]
    omega
  have hsub : (dst.slice (Rect.unit (s := SH) ![b, m, 0] SV.size inb) hr : Memref sig c.2.kind .hbm SV .f32).view.set
      ⊆ dst.view.setOn (part b p) := by
    intro i hi
    obtain ⟨x, -, rfl⟩ := Finset.mem_map.mp hi
    exact dst.view.mem_setOn.mpr (h1 x)
  iapply (Transfers.wp_dmaLocal (countersEmb (U := U)) 𝒱 c bd (src := sl)
    (dst := (dst.slice (Rect.unit (s := SH) ![b, m, 0] SV.size inb) hr : Memref sig c.2.kind .hbm SV .f32)) (via := .same) (sm := .dma s)
    () _ rfl (View.dmaCredit_pos _ (by decide)) hsub) $$ [Hs Hd Hv]
  · isplitl [Hs]; · iexact Hs
    isplitl [Hd]; · iexact Hd
    iexact Hv
  iintro HF
  iapply K
  unfold Fly
  iexists _, H
  isplitr
  rotate_left
  · isplitl [HF]; · iexact HF
    iexact HH
  ipureintro
  iintro ⟨⟨Hd, Hs⟩, HH⟩
  isplitl [Hd]
  · iexists _; isplitr
    rotate_left
    · iexact Hd
    · ipureintro
      intro y hy
      unfold part at hy
      rw [Finset.mem_filter] at hy
      by_cases hin : b ≤ (y 0).val ∧ (y 0).val < b + 256 ∧ m ≤ (y 1).val ∧ (y 1).val < m + 8
      · let x : SV.Idx := fun a => match a with
          | 0 => ⟨(y 0).val - b, by show _ < 256; omega⟩
          | 1 => ⟨(y 1).val - m, by show _ < 8; omega⟩
          | 2 => ⟨(y 2).val, (y 2).isLt⟩
        have hxy : (Rect.unit (s := SH) ![b, m, 0] SV.size inb).emb x = y := by
          funext a
          apply Fin.ext
          match a with
          | 0 => show b + 1 * ((y 0).val - b) = _; omega
          | 1 => show m + 1 * ((y 1).val - m) = _; omega
          | 2 => show 0 + 1 * (y 2).val = _; omega
        have e := congrFun (View.read_write_univ (Val := Elt F) (v := (dst.slice (Rect.unit (s := SH) ![b, m, 0] SV.size inb) hr : Memref sig c.2.kind .hbm SV .f32).view)
          f (ReadAs.same.apply (sl.view.read (Elt F) fs))) x
        have e' : dst.view.read (Elt F) ((dst.slice (Rect.unit (s := SH) ![b, m, 0] SV.size inb) hr : Memref sig c.2.kind .hbm SV .f32).view.write (Elt F)
          f (ReadAs.same.apply (sl.view.read (Elt F) fs)) Finset.univ) ((Rect.unit (s := SH) ![b, m, 0] SV.size inb).emb x)
            = sl.view.read (Elt F) fs x := e
        rw [← hxy, e', hfs, hxy]
        unfold prog
        rw [dif_pos ⟨hin.1, hin.2.1, by omega⟩]
        refine hZ _ _ ?_ ?_ ?_
        · show (y 1).val = m + ((y 1).val - m); omega
        · rfl
        · rfl
      · have e : dst.view.read (Elt F) ((dst.slice (Rect.unit (s := SH) ![b, m, 0] SV.size inb) hr : Memref sig c.2.kind .hbm SV .f32).view.write (Elt F)
          f (ReadAs.same.apply (sl.view.read (Elt F) fs)) Finset.univ) y = dst.view.read (Elt F) f y := by
          rw [View.read_apply, View.read_apply]
          congr 1
          refine View.write_of_not_mem _ _ _ ?_
          intro hmem
          obtain ⟨x, -, hx⟩ := Finset.mem_map.mp hmem
          have hx' : (Rect.unit (s := SH) ![b, m, 0] SV.size inb).emb x = y := dst.view.emb.injective hx
          apply hin
          have hx0 : (x 0).val < 256 := (x 0).isLt
          have hx1 : (x 1).val < 8 := (x 1).isLt
          have e0 : (y 0).val = b + 1 * (x 0).val := by rw [← hx']; rfl
          have e1 : (y 1).val = m + 1 * (x 1).val := by rw [← hx']; rfl
          omega
        rw [e, hf y (by unfold part; rw [Finset.mem_filter]; exact hy)]
        unfold prog
        by_cases h : b ≤ (y 0).val ∧ (y 0).val < b + 256 ∧ (y 1).val < m
        · rw [dif_pos h, dif_pos ⟨h.1, h.2.1, by omega⟩]
        · rw [dif_neg h, dif_neg]
          rintro ⟨g0, g1, g2⟩
          have := hy.2
          omega
  isplitr [HH]
  · iexists Z
    isplitr
    · ipureintro; trivial
    · iexists fs
      isplitr
      · ipureintro; exact hfs
      · iexact Hs
  · iexact HH

/-- Waiting for a slot's transfer gives its holdings. -/
theorem wait_fly {sp sp' : Space} {e' : EltTy} {s' s'' : Shape} {e : EltTy} {s : DmaSem sig} {srcw : Memref sig c.2.kind sp s' e'}
    {dstw : Memref sig c.2.kind sp' s'' e} {hsrc hdst} {k : PUnit → Prog (TpuEff nD τ sig (Elt F) Λ c.2) α} {N : ℕ}
    (hN : dstw.view.dmaCredit = N) {H : sProp 𝕄} :
    iprop(Fly c s N H ∗ Owes c)
      ⊢ iprop((iprop(Held c s H ∗ Owes c) -∗ wp frame (wpE defs 𝒱 c bd) Set.univ (k ⟨⟩) Q)
        -∗ wp frame (wpE defs 𝒱 c bd) Set.univ (.op (.waitDma2 s srcw dstw hsrc hdst) k) Q) := by
  unfold Fly Owes Held
  iintro ⟨⟨%D, %R, %hH, HF, HR⟩, %W, HW⟩ K
  iapply (Transfers.wp_waitLocal (countersEmb (U := U)) 𝒱 c bd (srcw := srcw) (dstw := dstw) () hN) $$ [HF HW]
  · isplitl [HF]; · iexact HF
    iexact HW
  iintro ⟨HD, Hv, HW⟩
  iapply K
  isplitr [HW]
  · isplitl [Hv]; · iexact Hv
    iapply hH
    isplitl [HD]; · iexact HD
    iexact HR
  · iexists _; iexact HW

end Rules

section SlotAccess

variable {defs : Defs nD τ sig (Elt F) Λ} {𝒱 : Variants} {c : Thread nD τ} {bd : Option 𝒱.V} {E : Set Name}
variable {α : Type} {Q : α → sProp (MT nD τ sig Unit (Elt F) Name U Lvl)}

/-- A load of a slot through the staging buffer. -/
theorem slot_load {m15 : Memref sig c.2.kind .vmem SX .f32} {off : Fin 4 → ℕ} {inb : ∀ a, off a + SV1.size a ≤ SX.size a}
    {hr : ∀ a, (Rect.unit (s := SX) off SV1.size inb).stride a = 1} {hq : (Rect.unit (s := SX) off SV1.size inb).shape.Squeezes SV}
    {hc : SV1.ShapeCasts SV}
    {hl : m15.view.LoadsAt (Rect.unit (s := SX) off SV1.size inb).toLoadRect}
    {k : (SV1.Idx → Elt F .f32) → Prog (TpuEff nD τ sig (Elt F) Λ c.2) α} {P : (SV.Idx → Elt F .f32) → Prop} :
    (Slot c ((m15.slice (Rect.unit (s := SX) off SV1.size inb) hr).squeeze SV hq) P : sProp 𝕄)
      ⊢ iprop((∀ v, ⌜P (shapeCast SV v hc)⌝ -∗ Slot c ((m15.slice (Rect.unit (s := SX) off SV1.size inb) hr).squeeze SV hq) P
            -∗ wp frame (wpE defs 𝒱 c bd) E (k v) Q)
        -∗ wp frame (wpE defs 𝒱 c bd) E (.op (.load m15 (Rect.unit (s := SX) off SV1.size inb).toLoadRect hl) k) Q) := by
  unfold Slot owns
  iintro ⟨%Z, %hZ, %f, %hf, H⟩ K
  iapply (wp_load_rect 𝒱 c bd E (m := m15) (r := Rect.unit (s := SX) off SV1.size inb)
    (S := ((m15.slice (Rect.unit (s := SX) off SV1.size inb) hr).squeeze SV hq).view.set)
    (by exact (View.set_reshape _ _).symm.subset)) $$ H
  iintro H
  iapply K $$ %((m15.access (Rect.unit (s := SX) off SV1.size inb)).read (Elt F) f) [] [H]
  · ipureintro
    rw [← hf] at hZ
    exact hZ
  · iexists Z
    isplitr
    · ipureintro; exact hZ
    · iexists f
      isplitr
      · ipureintro; exact hf
      · iexact H

/-- A store of a slot through the staging buffer. -/
theorem slot_store {m15 : Memref sig c.2.kind .vmem SX .f32} {off : Fin 4 → ℕ} {inb : ∀ a, off a + SV1.size a ≤ SX.size a}
    {hr : ∀ a, (Rect.unit (s := SX) off SV1.size inb).stride a = 1} {hq : (Rect.unit (s := SX) off SV1.size inb).shape.Squeezes SV}
    {hc : SV1.ShapeCasts SV} {w : SV1.Idx → Elt F .f32}
    {hx : (m15.access (Rect.unit (s := SX) off SV1.size inb)).Stores Finset.univ}
    {hm : Finset.univ = Finset.univ ∨ ∀ a, (Rect.unit (s := SX) off SV1.size inb).stride a = 1}
    {k : PUnit → Prog (TpuEff nD τ sig (Elt F) Λ c.2) α} {P P' : (SV.Idx → Elt F .f32) → Prop} (hP : P' (shapeCast SV w hc)) :
    (Slot c ((m15.slice (Rect.unit (s := SX) off SV1.size inb) hr).squeeze SV hq) P : sProp 𝕄)
      ⊢ iprop((Slot c ((m15.slice (Rect.unit (s := SX) off SV1.size inb) hr).squeeze SV hq) P'
            -∗ wp frame (wpE defs 𝒱 c bd) E (k ⟨⟩) Q)
        -∗ wp frame (wpE defs 𝒱 c bd) E (.op (.store m15 (Rect.unit (s := SX) off SV1.size inb) w Finset.univ hx hm) k) Q) := by
  unfold Slot owns
  iintro ⟨%Z, %hZ, %f, %hf, H⟩ K
  iapply (wp_store 𝒱 c bd E (m := m15) (r := Rect.unit (s := SX) off SV1.size inb) (w := w) (hx := hx) (hm := hm) (k := k) (Q := Q)
    (S := ((m15.slice (Rect.unit (s := SX) off SV1.size inb) hr).squeeze SV hq).view.set) (f := f)
    (by exact (View.set_reshape _ _).symm.subset)) $$ H
  iintro H
  iapply K
  iexists (shapeCast SV w hc)
  isplitr
  · ipureintro; exact hP
  · iexists _
    isplitr
    rotate_left
    · iexact H
    · ipureintro
      have e := View.read_write_univ (v := m15.access (Rect.unit (s := SX) off SV1.size inb)) (Val := Elt F) f w
      funext x
      exact congrFun e (Shape.reshapeEquiv hc x)

end SlotAccess

/-! ## The two transposes -/

omit [DecidableEq Name] [URA U] [CountersIn U] [Preorder Lvl] in
/-- A staged group, transposed, is the group node first. -/
theorem chunk_rows {X : SH.Idx → Elt F .f32} {b m : ℕ} {Z : SV.Idx → Elt F .f32} (h : IsChunk X b m Z)
    (ht : SV.Transposes [1, 0, 2] SG) (x : SG.Idx) (z : SH.Idx) (h0 : (z 0).val = b + (x 1).val) (h1 : (z 1).val = m + (x 0).val)
    (h2 : (z 2).val = (x 2).val) : transpose SG [1, 0, 2] Z ht x = X z := by
  let y : SV.Idx := fun a => match a with
    | 0 => x 1
    | 1 => x 0
    | 2 => x 2
  rw [transpose_apply [1, 0, 2] Z ht x y (by intro a; match a with | 0 => rfl | 1 => rfl | 2 => rfl)]
  exact h y z h0 h1 h2

omit [DecidableEq Name] [URA U] [CountersIn U] [Preorder Lvl] in
/-- A group of a tree buffer's nodes, transposed, is the group batch element first. -/
theorem rows_group {A : SA.Idx → Elt F .f32} {m : ℕ} {v : SG.Idx → Elt F .f32}
    (h : ∀ x (y : SA.Idx), (y 0).val = m + (x 0).val → (y 1).val = (x 1).val → (y 2).val = (x 2).val → v x = A y)
    (ht : SG.Transposes [1, 0, 2] SV) : IsGroup A m (transpose SV [1, 0, 2] v ht) := by
  intro x z h0 h1 h2
  let y : SG.Idx := fun a => match a with
    | 0 => x 1
    | 1 => x 0
    | 2 => x 2
  rw [transpose_apply [1, 0, 2] v ht x y (by intro a; match a with | 0 => rfl | 1 => rfl | 2 => rfl)]
  exact h y z h0 h1 h2

end Cert.TreeGather
-- ==== Proof.Trees.lean ====
module

public import proofs.«01_k».proof.Proof.Staging

/-!
The trees, node by node, and the steps of a block's run around the node loop. `trees` is the recursion the loop
carries out: node `k + 1` of every batch element is computed from the rows its connection word names. `Bx` is what
the core holds between two operations of the staging: the two slots, that nothing is owed, the two tree buffers and
the rest.
-/

@[expose] public section

noncomputable section

namespace Cert.TreeGather

open Idealize.ShloMosaic
open Idealize.SL
open Idealize.SL.RA Idealize.SL.Sem Idealize.SL.ProofMode
open Idealize.SL.BI (sProp)
open scoped Idealize.SL.BI
open Idealize.SL.BI.BIBase Idealize.SL.BI.Laws

section Values

variable {F : FTy → Type}

/-- An index of a gather buffer. -/
def ixR (b l : ℕ) (hb : b < 256) (hl : l < 128) : SR.Idx := fun a => match a with
  | 0 => ⟨0, Nat.one_pos⟩
  | 1 => ⟨b, hb⟩
  | 2 => ⟨l, hl⟩

/-- An index of the connection table. -/
def ixN (n b : ℕ) (hn : n < 128) (hb : b < 256) : SN.Idx := fun a => match a with
  | 0 => ⟨n, hn⟩
  | 1 => ⟨b, hb⟩

/-- The connection word of node `n` for batch element `b`. -/
def wordAt (N : SN.Idx → BitVec 32) (n b : ℕ) : BitVec 32 :=
  if h : n < 128 ∧ b < 256 then N (ixN n b h.1 h.2) else 0#32

theorem wordAt_lt {N : SN.Idx → BitVec 32} (h : ∀ y, (N y).toNat < 128) (n b : ℕ) : (wordAt N n b).toNat < 128 := by
  unfold wordAt; split
  · exact h _
  · decide

theorem wordAt_eq (N : SN.Idx → BitVec 32) (n : ℕ) (y : SN.Idx) (h : (y 0).val = n) : N y = wordAt N n (y 1).val := by
  subst h
  unfold wordAt
  rw [dif_pos ⟨(y 0).isLt, (y 1).isLt⟩]
  congr 1
  funext a
  match a with
  | 0 => rfl
  | 1 => rfl

/-- The rows of a tree buffer that the words name. -/
def gat (A : SA.Idx → Elt F .f32) (W : ℕ → BitVec 32) : SR.Idx → Elt F .f32 := fun y =>
  A (ixA ((W (y 1).val).toNat % 128) (y 1).val (y 2).val (Nat.mod_lt _ (by decide)) (y 1).isLt (y 2).isLt)

/-- With all 256 rows copied a gather buffer holds the rows the words name. -/
theorem RowsOK.gat {A : SA.Idx → Elt F .f32} {W : ℕ → BitVec 32} {g : SR.Idx → Elt F .f32} (h : RowsOK A W 256 g)
    (hlt : ∀ n, (W n).toNat < 128) : g = gat A W := by
  funext y
  let x : S1.Idx := fun a => match a with
    | 0 => ⟨0, Nat.one_pos⟩
    | 1 => ⟨0, Nat.one_pos⟩
    | 2 => y 2
  rw [h (y 1).val (y 1).isLt (row_inb rfl (hlt _) (y 1).isLt) x y rfl rfl]
  unfold TreeGather.gat rowAt
  congr 1
  funext a
  apply Fin.ext
  match a with
  | 0 =>
    show (W (y 1).val).toNat + 1 * 0 = (W (y 1).val).toNat % 128
    rw [Nat.mod_eq_of_lt (hlt _)]; omega
  | 1 => show (y 1).val + 1 * 0 = (y 1).val; omega
  | 2 => show 0 + 1 * (y 2).val = (y 2).val; omega

/-- A tree buffer with node `n` replaced. -/
def upd (A : SA.Idx → Elt F .f32) (n : ℕ) (v : SR.Idx → Elt F .f32) : SA.Idx → Elt F .f32 := fun y =>
  if (y 0).val = n then v (ixR (y 1).val (y 2).val (y 1).isLt (y 2).isLt) else A y

/-- The two tree buffers after `k` trips of the node loop. -/
def trees (hf cf : (SR.Idx → Elt F .f32) → (SR.Idx → Elt F .f32) → (SR.Idx → Elt F .f32)) (N : SN.Idx → BitVec 32)
    (A B : SA.Idx → Elt F .f32) : ℕ → (SA.Idx → Elt F .f32) × (SA.Idx → Elt F .f32)
  | 0 => (A, B)
  | k + 1 =>
    let T := trees hf cf N A B k
    let gh := gat T.1 (wordAt N (k + 1))
    let gc := gat T.2 (wordAt N (k + 1))
    (upd T.1 (k + 1) (hf gh gc), upd T.2 (k + 1) (cf gh gc))

/-- A store of node `n` leaves the buffer with the node replaced. -/
theorem upd_of_store {A Y : SA.Idx → Elt F .f32} {n : ℕ} {off : Fin 3 → ℕ} {inb : ∀ a, off a + SR.size a ≤ SA.size a}
    {w : SR.Idx → Elt F .f32} (hoff : off = ![n, 0, 0])
    (h : (∀ x, Y ((Rect.unit (s := SA) off SR.size inb).emb x) = w x)
      ∧ ∀ y, (∃ a, (y a).val < off a ∨ off a + SR.size a ≤ (y a).val) → Y y = A y) : Y = upd A n w := by
  subst hoff
  funext y
  unfold upd
  by_cases hy : (y 0).val = n
  · rw [if_pos hy, ← h.1]
    congr 1
    funext a
    apply Fin.ext
    match a with
    | 0 => show (y 0).val = n + 1 * 0; omega
    | 1 => show (y 1).val = 0 + 1 * (y 1).val; omega
    | 2 => show (y 2).val = 0 + 1 * (y 2).val; omega
  · rw [if_neg hy]
    refine h.2 y ⟨0, ?_⟩
    show (y 0).val < n ∨ n + 1 ≤ (y 0).val
    omega

/-- Reading a whole buffer through the rectangle that covers it. -/
theorem whole_rect {g : SR.Idx → Elt F .f32} {off : Fin 3 → ℕ} {inb : ∀ a, off a + SR.size a ≤ SR.size a} (hoff : off = ![0, 0, 0]) :
    (fun x => g ((Rect.unit (s := SR) off SR.size inb).emb x)) = g := by
  subst hoff
  funext x
  congr 1
  funext a
  apply Fin.ext
  match a with
  | 0 => show 0 + 1 * (x 0).val = (x 0).val; omega
  | 1 => show 0 + 1 * (x 1).val = (x 1).val; omega
  | 2 => show 0 + 1 * (x 2).val = (x 2).val; omega

/-- The first `n` nodes of a tree buffer are those of an initial array's block. -/
def TreeOK (X : SH.Idx → Elt F .f32) (b n : ℕ) (A : SA.Idx → Elt F .f32) : Prop :=
  ∀ (y : SA.Idx) (z : SH.Idx), (y 0).val < n → (z 0).val = b + (y 1).val → (z 1).val = (y 0).val → (z 2).val = (y 2).val → A y = X z

/-- The tree buffer a block's initial array gives, node first. -/
def block (X : SH.Idx → Elt F .f32) (b : ℕ) : SA.Idx → Elt F .f32 := fun y =>
  X fun a => match a with
    | 0 => ⟨(b + (y 1).val) % 1024, Nat.mod_lt _ (by decide)⟩
    | 1 => y 0
    | 2 => y 2

theorem TreeOK.block {X : SH.Idx → Elt F .f32} {b : ℕ} {A : SA.Idx → Elt F .f32} (hb : b + 256 ≤ 1024) (h : TreeOK X b 128 A) :
    A = block X b := by
  funext y
  have h1 : (y 1).val < 256 := (y 1).isLt
  refine h y _ (y 0).isLt ?_ rfl rfl
  show (b + (y 1).val) % 1024 = _
  rw [Nat.mod_eq_of_lt (by omega)]

/-- The shape cast that forgets the slot axis. -/
theorem castSV : SV1.ShapeCasts SV := by decide

/-- What is stored of a staged group. -/
theorem pay_in {X : SH.Idx → Elt F .f32} {b m : ℕ} {v : SV1.Idx → Elt F .f32} {ht : SV.Transposes [1, 0, 2] SG}
    {hs : SG.ShapeCasts SG} {hc : SV1.ShapeCasts SV} (h : IsChunk X b m (shapeCast SV v castSV)) :
    ∀ (x : SG.Idx) (z : SH.Idx), (z 0).val = b + (x 1).val → (z 1).val = m + (x 0).val → (z 2).val = (x 2).val →
      shapeCast SG (transpose SG [1, 0, 2] (shapeCast SV v hc) ht) hs x = X z := by
  intro x z h0 h1 h2
  rw [shapeCast_self]
  exact chunk_rows h ht x z h0 h1 h2

/-- What is stored into a slot of a group of a tree buffer's nodes. -/
theorem pay_out {A : SA.Idx → Elt F .f32} {m : ℕ} {v : SG.Idx → Elt F .f32} {ht : SG.Transposes [1, 0, 2] SV}
    {hs : SV.ShapeCasts SV1}
    (h : ∀ x (y : SA.Idx), (y 0).val = m + (x 0).val → (y 1).val = (x 1).val → (y 2).val = (x 2).val → v x = A y) :
    IsGroup A m (shapeCast SV (shapeCast SV1 (transpose SV [1, 0, 2] v ht) hs) castSV) := by
  rw [shapeCast_shapeCast]
  exact rows_group h ht

end Values

variable {nD : Nat} {τ : Topo} {sig : RefSig} {F : FTy → Type}
variable {Name : Type} [DecidableEq Name] {U : Type} [URA U] [CountersIn U] {Lvl : Type} [Preorder Lvl] {Λ : Labels}

local notation "𝕄" => MT nD τ sig Unit (Elt F) Name U Lvl

/-- What the core holds between two operations: the slots, that nothing is owed, the tree buffers and the rest. -/
def Bx (c : Thread nD τ) (S0 S1 T1 T2 Fr : sProp 𝕄) : sProp 𝕄 := iprop(S0 ∗ S1 ∗ Owes c ∗ T1 ∗ T2 ∗ Fr)

theorem Bx_swap (c : Thread nD τ) (S0 S1 T1 T2 Fr : sProp 𝕄) : Bx c S0 S1 T1 T2 Fr ⊢ Bx c S1 S0 T1 T2 Fr := by
  unfold Bx
  iintro ⟨H0, H1, H⟩
  isplitl [H1]; · iexact H1
  isplitl [H0]; · iexact H0
  iexact H

theorem Bx_turn (c : Thread nD τ) (S0 S1 T1 T2 Fr : sProp 𝕄) : Bx c S0 S1 T1 T2 Fr ⊢ Bx c S0 S1 T2 T1 Fr := by
  unfold Bx
  iintro ⟨H0, H1, H2, H3, H4, H⟩
  isplitl [H0]; · iexact H0
  isplitl [H1]; · iexact H1
  isplitl [H2]; · iexact H2
  isplitl [H4]; · iexact H4
  isplitl [H3]; · iexact H3
  iexact H

/-- A tree buffer with its first `n` nodes loaded. -/
def TreeIn (c : Thread nD τ) (m : Memref sig c.2.kind .vmem SA .f32) (X : SH.Idx → Elt F .f32) (b n : ℕ) : sProp 𝕄 :=
  iprop(∃ A, ⌜TreeOK X b n A⌝ ∗ owns c m fullShare A)

theorem Fly_mono {c : Thread nD τ} {s : DmaSem sig} {N : ℕ} {H H' : sProp 𝕄} (h : H ⊢ H') : Fly c s N H ⊢ Fly c s N H' := by
  unfold Fly
  iintro ⟨%D, %R, %hD, H⟩
  iexists D, R
  isplitr
  · ipureintro; exact hD.trans h
  · iexact H

section Fronts

variable {G W1 W3 W4 W5 W6 W7 : sProp (MT nD τ sig Unit (Elt F) Name U Lvl)}

theorem front1 : iprop(G ∗ (W1 ∗ W3 ∗ W4 ∗ W5 ∗ W6 ∗ W7)) ⊢ iprop(W1 ∗ G ∗ W3 ∗ W4 ∗ W5 ∗ W6 ∗ W7) := by
  iintro ⟨HG, H1, H3, H4, H5, H6, H7⟩
  isplitl [H1]; · iexact H1
  isplitl [HG]; · iexact HG
  isplitl [H3]; · iexact H3
  isplitl [H4]; · iexact H4
  isplitl [H5]; · iexact H5
  isplitl [H6]; · iexact H6
  iexact H7

theorem front1' : iprop(W1 ∗ G ∗ W3 ∗ W4 ∗ W5 ∗ W6 ∗ W7) ⊢ iprop(G ∗ (W1 ∗ W3 ∗ W4 ∗ W5 ∗ W6 ∗ W7)) := by
  iintro ⟨H1, HG, H3, H4, H5, H6, H7⟩
  isplitl [HG]; · iexact HG
  isplitl [H1]; · iexact H1
  isplitl [H3]; · iexact H3
  isplitl [H4]; · iexact H4
  isplitl [H5]; · iexact H5
  isplitl [H6]; · iexact H6
  iexact H7

theorem front3 : iprop(G ∗ (W1 ∗ W3 ∗ W4 ∗ W5 ∗ W6 ∗ W7)) ⊢ iprop(W3 ∗ G ∗ W1 ∗ W4 ∗ W5 ∗ W6 ∗ W7) := by
  iintro ⟨HG, H1, H3, H4, H5, H6, H7⟩
  isplitl [H3]; · iexact H3
  isplitl [HG]; · iexact HG
  isplitl [H1]; · iexact H1
  isplitl [H4]; · iexact H4
  isplitl [H5]; · iexact H5
  isplitl [H6]; · iexact H6
  iexact H7

theorem front3' : iprop(W3 ∗ G ∗ W1 ∗ W4 ∗ W5 ∗ W6 ∗ W7) ⊢ iprop(G ∗ (W1 ∗ W3 ∗ W4 ∗ W5 ∗ W6 ∗ W7)) := by
  iintro ⟨H3, HG, H1, H4, H5, H6, H7⟩
  isplitl [HG]; · iexact HG
  isplitl [H1]; · iexact H1
  isplitl [H3]; · iexact H3
  isplitl [H4]; · iexact H4
  isplitl [H5]; · iexact H5
  isplitl [H6]; · iexact H6
  iexact H7

theorem front4 : iprop(G ∗ (W1 ∗ W3 ∗ W4 ∗ W5 ∗ W6 ∗ W7)) ⊢ iprop(W4 ∗ G ∗ W1 ∗ W3 ∗ W5 ∗ W6 ∗ W7) := by
  iintro ⟨HG, H1, H3, H4, H5, H6, H7⟩
  isplitl [H4]; · iexact H4
  isplitl [HG]; · iexact HG
  isplitl [H1]; · iexact H1
  isplitl [H3]; · iexact H3
  isplitl [H5]; · iexact H5
  isplitl [H6]; · iexact H6
  iexact H7

theorem front4' : iprop(W4 ∗ G ∗ W1 ∗ W3 ∗ W5 ∗ W6 ∗ W7) ⊢ iprop(G ∗ (W1 ∗ W3 ∗ W4 ∗ W5 ∗ W6 ∗ W7)) := by
  iintro ⟨H4, HG, H1, H3, H5, H6, H7⟩
  isplitl [HG]; · iexact HG
  isplitl [H1]; · iexact H1
  isplitl [H3]; · iexact H3
  isplitl [H4]; · iexact H4
  isplitl [H5]; · iexact H5
  isplitl [H6]; · iexact H6
  iexact H7

theorem front5 : iprop(G ∗ (W1 ∗ W3 ∗ W4 ∗ W5 ∗ W6 ∗ W7)) ⊢ iprop(W5 ∗ G ∗ W1 ∗ W3 ∗ W4 ∗ W6 ∗ W7) := by
  iintro ⟨HG, H1, H3, H4, H5, H6, H7⟩
  isplitl [H5]; · iexact H5
  isplitl [HG]; · iexact HG
  isplitl [H1]; · iexact H1
  isplitl [H3]; · iexact H3
  isplitl [H4]; · iexact H4
  isplitl [H6]; · iexact H6
  iexact H7

theorem front5' : iprop(W5 ∗ G ∗ W1 ∗ W3 ∗ W4 ∗ W6 ∗ W7) ⊢ iprop(G ∗ (W1 ∗ W3 ∗ W4 ∗ W5 ∗ W6 ∗ W7)) := by
  iintro ⟨H5, HG, H1, H3, H4, H6, H7⟩
  isplitl [HG]; · iexact HG
  isplitl [H1]; · iexact H1
  isplitl [H3]; · iexact H3
  isplitl [H4]; · iexact H4
  isplitl [H5]; · iexact H5
  isplitl [H6]; · iexact H6
  iexact H7

theorem front6 : iprop(G ∗ (W1 ∗ W3 ∗ W4 ∗ W5 ∗ W6 ∗ W7)) ⊢ iprop(W6 ∗ G ∗ W1 ∗ W3 ∗ W4 ∗ W5 ∗ W7) := by
  iintro ⟨HG, H1, H3, H4, H5, H6, H7⟩
  isplitl [H6]; · iexact H6
  isplitl [HG]; · iexact HG
  isplitl [H1]; · iexact H1
  isplitl [H3]; · iexact H3
  isplitl [H4]; · iexact H4
  isplitl [H5]; · iexact H5
  iexact H7

theorem front6' : iprop(W6 ∗ G ∗ W1 ∗ W3 ∗ W4 ∗ W5 ∗ W7) ⊢ iprop(G ∗ (W1 ∗ W3 ∗ W4 ∗ W5 ∗ W6 ∗ W7)) := by
  iintro ⟨H6, HG, H1, H3, H4, H5, H7⟩
  isplitl [HG]; · iexact HG
  isplitl [H1]; · iexact H1
  isplitl [H3]; · iexact H3
  isplitl [H4]; · iexact H4
  isplitl [H5]; · iexact H5
  isplitl [H6]; · iexact H6
  iexact H7

theorem front7 : iprop(G ∗ (W1 ∗ W3 ∗ W4 ∗ W5 ∗ W6 ∗ W7)) ⊢ iprop(W7 ∗ G ∗ W1 ∗ W3 ∗ W4 ∗ W5 ∗ W6) := by
  iintro ⟨HG, H1, H3, H4, H5, H6, H7⟩
  isplitl [H7]; · iexact H7
  isplitl [HG]; · iexact HG
  isplitl [H1]; · iexact H1
  isplitl [H3]; · iexact H3
  isplitl [H4]; · iexact H4
  isplitl [H5]; · iexact H5
  iexact H6

theorem front7' : iprop(W7 ∗ G ∗ W1 ∗ W3 ∗ W4 ∗ W5 ∗ W6) ⊢ iprop(G ∗ (W1 ∗ W3 ∗ W4 ∗ W5 ∗ W6 ∗ W7)) := by
  iintro ⟨H7, HG, H1, H3, H4, H5, H6⟩
  isplitl [HG]; · iexact HG
  isplitl [H1]; · iexact H1
  isplitl [H3]; · iexact H3
  isplitl [H4]; · iexact H4
  isplitl [H5]; · iexact H5
  isplitl [H6]; · iexact H6
  iexact H7

end Fronts

section Steps

variable [Infinite Name]
variable {defs : Defs nD τ sig (Elt F) Λ} {𝒱 : Variants} {c : Thread nD τ} {bd : Option 𝒱.V}
variable {α : Type} {Q : α → sProp (MT nD τ sig Unit (Elt F) Name U Lvl)}
variable {S0 S1 T1 T2 Fr : sProp (MT nD τ sig Unit (Elt F) Name U Lvl)}
variable {m8 m9 m10 : Memref sig c.2.kind .hbm SH .f32} {q : PosShare TreeShare} {X8 X9 : SH.Idx → Elt F .f32}
variable {b p : ℕ} {Y : SH.Idx → Elt F .f32} {sp : Space} {sl : Memref sig c.2.kind sp SV .f32} {P : (SV.Idx → Elt F .f32) → Prop}
variable {s : DmaSem sig} {m11 m12 : Memref sig c.2.kind .vmem SA .f32} {m15 : Memref sig c.2.kind .vmem SX .f32}

/-- Starting the transfer of a group of the first initial array into the first slot. -/
theorem step_startA {off : Fin 3 → ℕ} {inb : ∀ a, off a + SV.size a ≤ SH.size a}
    {hr : ∀ a, (Rect.unit (s := SH) off SV.size inb).stride a = 1}
    {hsrc hdst hsem} {k : PUnit → Prog (TpuEff nD τ sig (Elt F) Λ c.2) α} {m : ℕ} (hoff : off = ![b, m, 0])
    (h : (Bx c (Fly c s sl.view.dmaCredit (Hs c m8 m9 m10 q X8 X9 b p Y sl (IsChunk X8 b m))) S1 T1 T2 Fr : sProp 𝕄)
      ⊢ wp frame (wpE defs 𝒱 c bd) Set.univ (k ⟨⟩) Q) :
    (Bx c (Held c s (Hs c m8 m9 m10 q X8 X9 b p Y sl P)) S1 T1 T2 Fr : sProp 𝕄)
      ⊢ wp frame (wpE defs 𝒱 c bd) Set.univ
        (Prog.lift (.enqueueDma (m8.slice (Rect.unit (s := SH) off SV.size inb) hr : Memref sig c.2.kind .hbm SV .f32)
            (.here sl) (.dma s) hsrc hdst hsem) >>= k) Q := by
  change _ ⊢ wp frame (wpE defs 𝒱 c bd) Set.univ (.op _ k) Q
  unfold Bx Hs at h
  unfold Bx Held Hs
  iintro ⟨⟨Hv, H8, H9, H10, Hsl⟩, HR⟩
  iapply (dma_in (src := m8) (sl := sl) (P := P) (X := X8) hoff iprop(owns c m9 q X9 ∗ ownsOn c m10 (part b p) Y)) $$ [Hv H8 H9 H10 Hsl]
  · isplitl [Hv]; · iexact Hv
    isplitl [H8]; · iexact H8
    isplitl [Hsl]; · iexact Hsl
    isplitl [H9]; · iexact H9
    iexact H10
  iintro HF
  iapply h
  isplitl [HF]
  · iapply (Fly_mono ?_) $$ HF
    iintro ⟨H8, Hsl, H9, H10⟩
    isplitl [H8]; · iexact H8
    isplitl [H9]; · iexact H9
    isplitl [H10]; · iexact H10
    iexact Hsl
  · iexact HR

/-- The same into the second slot. -/
theorem step_startA' {off : Fin 3 → ℕ} {inb : ∀ a, off a + SV.size a ≤ SH.size a}
    {hr : ∀ a, (Rect.unit (s := SH) off SV.size inb).stride a = 1}
    {hsrc hdst hsem} {k : PUnit → Prog (TpuEff nD τ sig (Elt F) Λ c.2) α} {m : ℕ} (hoff : off = ![b, m, 0])
    (h : (Bx c S0 (Fly c s sl.view.dmaCredit (Hs c m8 m9 m10 q X8 X9 b p Y sl (IsChunk X8 b m))) T1 T2 Fr : sProp 𝕄)
      ⊢ wp frame (wpE defs 𝒱 c bd) Set.univ (k ⟨⟩) Q) :
    (Bx c S0 (Held c s (Hs c m8 m9 m10 q X8 X9 b p Y sl P)) T1 T2 Fr : sProp 𝕄)
      ⊢ wp frame (wpE defs 𝒱 c bd) Set.univ
        (Prog.lift (.enqueueDma (m8.slice (Rect.unit (s := SH) off SV.size inb) hr : Memref sig c.2.kind .hbm SV .f32)
            (.here sl) (.dma s) hsrc hdst hsem) >>= k) Q := by
  refine Entails.trans (Bx_swap _ _ _ _ _ _) (step_startA hoff ?_)
  exact Entails.trans (Bx_swap _ _ _ _ _ _) h

/-- Starting the transfer of a group of the second initial array into the first slot. -/
theorem step_startB {off : Fin 3 → ℕ} {inb : ∀ a, off a + SV.size a ≤ SH.size a}
    {hr : ∀ a, (Rect.unit (s := SH) off SV.size inb).stride a = 1}
    {hsrc hdst hsem} {k : PUnit → Prog (TpuEff nD τ sig (Elt F) Λ c.2) α} {m : ℕ} (hoff : off = ![b, m, 0])
    (h : (Bx c (Fly c s sl.view.dmaCredit (Hs c m8 m9 m10 q X8 X9 b p Y sl (IsChunk X9 b m))) S1 T1 T2 Fr : sProp 𝕄)
      ⊢ wp frame (wpE defs 𝒱 c bd) Set.univ (k ⟨⟩) Q) :
    (Bx c (Held c s (Hs c m8 m9 m10 q X8 X9 b p Y sl P)) S1 T1 T2 Fr : sProp 𝕄)
      ⊢ wp frame (wpE defs 𝒱 c bd) Set.univ
        (Prog.lift (.enqueueDma (m9.slice (Rect.unit (s := SH) off SV.size inb) hr : Memref sig c.2.kind .hbm SV .f32)
            (.here sl) (.dma s) hsrc hdst hsem) >>= k) Q := by
  change _ ⊢ wp frame (wpE defs 𝒱 c bd) Set.univ (.op _ k) Q
  unfold Bx Hs at h
  unfold Bx Held Hs
  iintro ⟨⟨Hv, H8, H9, H10, Hsl⟩, HR⟩
  iapply (dma_in (src := m9) (sl := sl) (P := P) (X := X9) hoff iprop(owns c m8 q X8 ∗ ownsOn c m10 (part b p) Y)) $$ [Hv H8 H9 H10 Hsl]
  · isplitl [Hv]; · iexact Hv
    isplitl [H9]; · iexact H9
    isplitl [Hsl]; · iexact Hsl
    isplitl [H8]; · iexact H8
    iexact H10
  iintro HF
  iapply h
  isplitl [HF]
  · iapply (Fly_mono ?_) $$ HF
    iintro ⟨H9, Hsl, H8, H10⟩
    isplitl [H8]; · iexact H8
    isplitl [H9]; · iexact H9
    isplitl [H10]; · iexact H10
    iexact Hsl
  · iexact HR

/-- The same into the second slot. -/
theorem step_startB' {off : Fin 3 → ℕ} {inb : ∀ a, off a + SV.size a ≤ SH.size a}
    {hr : ∀ a, (Rect.unit (s := SH) off SV.size inb).stride a = 1}
    {hsrc hdst hsem} {k : PUnit → Prog (TpuEff nD τ sig (Elt F) Λ c.2) α} {m : ℕ} (hoff : off = ![b, m, 0])
    (h : (Bx c S0 (Fly c s sl.view.dmaCredit (Hs c m8 m9 m10 q X8 X9 b p Y sl (IsChunk X9 b m))) T1 T2 Fr : sProp 𝕄)
      ⊢ wp frame (wpE defs 𝒱 c bd) Set.univ (k ⟨⟩) Q) :
    (Bx c S0 (Held c s (Hs c m8 m9 m10 q X8 X9 b p Y sl P)) T1 T2 Fr : sProp 𝕄)
      ⊢ wp frame (wpE defs 𝒱 c bd) Set.univ
        (Prog.lift (.enqueueDma (m9.slice (Rect.unit (s := SH) off SV.size inb) hr : Memref sig c.2.kind .hbm SV .f32)
            (.here sl) (.dma s) hsrc hdst hsem) >>= k) Q := by
  refine Entails.trans (Bx_swap _ _ _ _ _ _) (step_startB hoff ?_)
  exact Entails.trans (Bx_swap _ _ _ _ _ _) h

/-- Waiting for the first slot. -/
theorem step_wait {sp sp' : Space} {e' : EltTy} {s' s'' : Shape} {e : EltTy} {srcw : Memref sig c.2.kind sp s' e'}
    {dstw : Memref sig c.2.kind sp' s'' e} {hsrc hdst} {k : PUnit → Prog (TpuEff nD τ sig (Elt F) Λ c.2) α} {N : ℕ} {H : sProp 𝕄}
    (hN : dstw.view.dmaCredit = N)
    (h : Bx c (Held c s H) S1 T1 T2 Fr ⊢ wp frame (wpE defs 𝒱 c bd) Set.univ (k ⟨⟩) Q) :
    Bx c (Fly c s N H) S1 T1 T2 Fr ⊢ wp frame (wpE defs 𝒱 c bd) Set.univ (Prog.lift (.waitDma2 s srcw dstw hsrc hdst) >>= k) Q := by
  change _ ⊢ wp frame (wpE defs 𝒱 c bd) Set.univ (.op _ k) Q
  unfold Bx at h ⊢
  iintro ⟨HF, H1, HO, HR⟩
  iapply (wait_fly (srcw := srcw) (dstw := dstw) hN) $$ [HF HO]
  · isplitl [HF]; · iexact HF
    iexact HO
  iintro ⟨HF, HO⟩
  iapply h
  isplitl [HF]; · iexact HF
  isplitl [H1]; · iexact H1
  isplitl [HO]; · iexact HO
  iexact HR

/-- Waiting for the second slot. -/
theorem step_wait' {sp sp' : Space} {e' : EltTy} {s' s'' : Shape} {e : EltTy} {srcw : Memref sig c.2.kind sp s' e'}
    {dstw : Memref sig c.2.kind sp' s'' e} {hsrc hdst} {k : PUnit → Prog (TpuEff nD τ sig (Elt F) Λ c.2) α} {N : ℕ} {H : sProp 𝕄}
    (hN : dstw.view.dmaCredit = N)
    (h : Bx c S0 (Held c s H) T1 T2 Fr ⊢ wp frame (wpE defs 𝒱 c bd) Set.univ (k ⟨⟩) Q) :
    Bx c S0 (Fly c s N H) T1 T2 Fr ⊢ wp frame (wpE defs 𝒱 c bd) Set.univ (Prog.lift (.waitDma2 s srcw dstw hsrc hdst) >>= k) Q := by
  refine Entails.trans (Bx_swap _ _ _ _ _ _) (step_wait hN ?_)
  exact Entails.trans (Bx_swap _ _ _ _ _ _) h

/-- Loading the first slot. -/
theorem step_slot {off : Fin 4 → ℕ} {inb : ∀ a, off a + SV1.size a ≤ SX.size a}
    {hr : ∀ a, (Rect.unit (s := SX) off SV1.size inb).stride a = 1} {hq : (Rect.unit (s := SX) off SV1.size inb).shape.Squeezes SV}
    {hl : m15.view.LoadsAt (Rect.unit (s := SX) off SV1.size inb).toLoadRect}
    {k : (SV1.Idx → Elt F .f32) → Prog (TpuEff nD τ sig (Elt F) Λ c.2) α}
    (h : ∀ v, P (shapeCast SV v castSV) →
      (Bx c (Held c s (Hs c m8 m9 m10 q X8 X9 b p Y ((m15.slice (Rect.unit (s := SX) off SV1.size inb) hr).squeeze SV hq) P)) S1 T1 T2 Fr : sProp 𝕄)
        ⊢ wp frame (wpE defs 𝒱 c bd) Set.univ (k v) Q) :
    (Bx c (Held c s (Hs c m8 m9 m10 q X8 X9 b p Y ((m15.slice (Rect.unit (s := SX) off SV1.size inb) hr).squeeze SV hq) P)) S1 T1 T2 Fr : sProp 𝕄)
      ⊢ wp frame (wpE defs 𝒱 c bd) Set.univ
        (Prog.lift (.load m15 (Rect.unit (s := SX) off SV1.size inb).toLoadRect hl) >>= k) Q := by
  change _ ⊢ wp frame (wpE defs 𝒱 c bd) Set.univ (.op (.load m15 (Rect.unit (s := SX) off SV1.size inb).toLoadRect hl) k) Q
  unfold Bx Held Hs at h ⊢
  iintro ⟨⟨Hv, H8, H9, H10, Hsl⟩, HR⟩
  iapply (slot_load (m15 := m15) (inb := inb) (hc := castSV) (P := P)) $$ Hsl
  iintro %v %hv Hsl
  iapply (h v hv)
  isplitr [HR]
  · isplitl [Hv]; · iexact Hv
    isplitl [H8]; · iexact H8
    isplitl [H9]; · iexact H9
    isplitl [H10]; · iexact H10
    iexact Hsl
  · iexact HR

/-- Loading the second slot. -/
theorem step_slot' {off : Fin 4 → ℕ} {inb : ∀ a, off a + SV1.size a ≤ SX.size a}
    {hr : ∀ a, (Rect.unit (s := SX) off SV1.size inb).stride a = 1} {hq : (Rect.unit (s := SX) off SV1.size inb).shape.Squeezes SV}
    {hl : m15.view.LoadsAt (Rect.unit (s := SX) off SV1.size inb).toLoadRect}
    {k : (SV1.Idx → Elt F .f32) → Prog (TpuEff nD τ sig (Elt F) Λ c.2) α}
    (h : ∀ v, P (shapeCast SV v castSV) →
      (Bx c S0 (Held c s (Hs c m8 m9 m10 q X8 X9 b p Y ((m15.slice (Rect.unit (s := SX) off SV1.size inb) hr).squeeze SV hq) P)) T1 T2 Fr : sProp 𝕄)
        ⊢ wp frame (wpE defs 𝒱 c bd) Set.univ (k v) Q) :
    (Bx c S0 (Held c s (Hs c m8 m9 m10 q X8 X9 b p Y ((m15.slice (Rect.unit (s := SX) off SV1.size inb) hr).squeeze SV hq) P)) T1 T2 Fr : sProp 𝕄)
      ⊢ wp frame (wpE defs 𝒱 c bd) Set.univ
        (Prog.lift (.load m15 (Rect.unit (s := SX) off SV1.size inb).toLoadRect hl) >>= k) Q := by
  refine Entails.trans (Bx_swap _ _ _ _ _ _) (step_slot fun v hv => ?_)
  exact Entails.trans (Bx_swap _ _ _ _ _ _) (h v hv)

/-- Storing a group of a tree buffer's nodes into the first slot. -/
theorem step_fill {off : Fin 4 → ℕ} {inb : ∀ a, off a + SV1.size a ≤ SX.size a}
    {hr : ∀ a, (Rect.unit (s := SX) off SV1.size inb).stride a = 1} {hq : (Rect.unit (s := SX) off SV1.size inb).shape.Squeezes SV}
    {w : SV1.Idx → Elt F .f32} {hx : (m15.access (Rect.unit (s := SX) off SV1.size inb)).Stores Finset.univ}
    {hm : Finset.univ = Finset.univ ∨ ∀ a, (Rect.unit (s := SX) off SV1.size inb).stride a = 1}
    {k : PUnit → Prog (TpuEff nD τ sig (Elt F) Λ c.2) α} {A : SA.Idx → Elt F .f32} {m : ℕ}
    (hw : IsGroup A m (shapeCast SV w castSV))
    (h : (Bx c (Held c s (Hs c m8 m9 m10 q X8 X9 b p Y ((m15.slice (Rect.unit (s := SX) off SV1.size inb) hr).squeeze SV hq) (IsGroup A m))) S1 (owns c m11 fullShare A) T2 Fr : sProp 𝕄)
        ⊢ wp frame (wpE defs 𝒱 c bd) Set.univ (k ⟨⟩) Q) :
    (Bx c (Held c s (Hs c m8 m9 m10 q X8 X9 b p Y ((m15.slice (Rect.unit (s := SX) off SV1.size inb) hr).squeeze SV hq) P)) S1 (owns c m11 fullShare A) T2 Fr : sProp 𝕄)
      ⊢ wp frame (wpE defs 𝒱 c bd) Set.univ
        (Prog.lift (.store m15 (Rect.unit (s := SX) off SV1.size inb) w Finset.univ hx hm) >>= k) Q := by
  change _ ⊢ wp frame (wpE defs 𝒱 c bd) Set.univ (.op (.store m15 (Rect.unit (s := SX) off SV1.size inb) w Finset.univ hx hm) k) Q
  unfold Bx Held Hs at h ⊢
  iintro ⟨⟨Hv, H8, H9, H10, Hsl⟩, HR⟩
  iapply (slot_store (m15 := m15) (inb := inb) (hc := castSV) (P := P) (P' := IsGroup A m) hw) $$ Hsl
  iintro Hsl
  iapply h
  isplitr [HR]
  · isplitl [Hv]; · iexact Hv
    isplitl [H8]; · iexact H8
    isplitl [H9]; · iexact H9
    isplitl [H10]; · iexact H10
    iexact Hsl
  · iexact HR

/-- Storing a group of a tree buffer's nodes into the second slot. -/
theorem step_fill' {off : Fin 4 → ℕ} {inb : ∀ a, off a + SV1.size a ≤ SX.size a}
    {hr : ∀ a, (Rect.unit (s := SX) off SV1.size inb).stride a = 1} {hq : (Rect.unit (s := SX) off SV1.size inb).shape.Squeezes SV}
    {w : SV1.Idx → Elt F .f32} {hx : (m15.access (Rect.unit (s := SX) off SV1.size inb)).Stores Finset.univ}
    {hm : Finset.univ = Finset.univ ∨ ∀ a, (Rect.unit (s := SX) off SV1.size inb).stride a = 1}
    {k : PUnit → Prog (TpuEff nD τ sig (Elt F) Λ c.2) α} {A : SA.Idx → Elt F .f32} {m : ℕ}
    (hw : IsGroup A m (shapeCast SV w castSV))
    (h : (Bx c S0 (Held c s (Hs c m8 m9 m10 q X8 X9 b p Y ((m15.slice (Rect.unit (s := SX) off SV1.size inb) hr).squeeze SV hq) (IsGroup A m))) (owns c m11 fullShare A) T2 Fr : sProp 𝕄)
        ⊢ wp frame (wpE defs 𝒱 c bd) Set.univ (k ⟨⟩) Q) :
    (Bx c S0 (Held c s (Hs c m8 m9 m10 q X8 X9 b p Y ((m15.slice (Rect.unit (s := SX) off SV1.size inb) hr).squeeze SV hq) P)) (owns c m11 fullShare A) T2 Fr : sProp 𝕄)
      ⊢ wp frame (wpE defs 𝒱 c bd) Set.univ
        (Prog.lift (.store m15 (Rect.unit (s := SX) off SV1.size inb) w Finset.univ hx hm) >>= k) Q := by
  refine Entails.trans (Bx_swap _ _ _ _ _ _) (step_fill hw ?_)
  exact Entails.trans (Bx_swap _ _ _ _ _ _) h

/-- Starting the transfer of the first slot into the result. -/
theorem step_send {off : Fin 3 → ℕ} {inb : ∀ a, off a + SV.size a ≤ SH.size a}
    {hr : ∀ a, (Rect.unit (s := SH) off SV.size inb).stride a = 1}
    {hsrc hdst hsem} {k : PUnit → Prog (TpuEff nD τ sig (Elt F) Λ c.2) α} {A : SA.Idx → Elt F .f32} {old : SH.Idx → Elt F .f32} {m m' : ℕ}
    (hoff : off = ![b, m, 0]) (he : m' = m) (hm : m % 8 = 0 ∧ m / 8 % 2 = p) (hm' : m + 8 ≤ 128)
    (h : (Bx c (Fly c s (m10.slice (Rect.unit (s := SH) off SV.size inb) hr : Memref sig c.2.kind .hbm SV .f32).view.dmaCredit
        (Hs c m8 m9 m10 q X8 X9 b p (prog A old b (m + 16)) sl (fun _ => True))) S1 T1 T2 Fr : sProp 𝕄)
      ⊢ wp frame (wpE defs 𝒱 c bd) Set.univ (k ⟨⟩) Q) :
    (Bx c (Held c s (Hs c m8 m9 m10 q X8 X9 b p (prog A old b m') sl (IsGroup A m))) S1 T1 T2 Fr : sProp 𝕄)
      ⊢ wp frame (wpE defs 𝒱 c bd) Set.univ
        (Prog.lift (.enqueueDma sl (.here (m10.slice (Rect.unit (s := SH) off SV.size inb) hr : Memref sig c.2.kind .hbm SV .f32))
            (.dma s) hsrc hdst hsem) >>= k) Q := by
  subst he
  change _ ⊢ wp frame (wpE defs 𝒱 c bd) Set.univ (.op _ k) Q
  unfold Bx Hs at h
  unfold Bx Held Hs
  iintro ⟨⟨Hv, H8, H9, H10, Hsl⟩, HR⟩
  iapply (dma_out (dst := m10) (sl := sl) (old := old) hoff hm hm' iprop(owns c m8 q X8 ∗ owns c m9 q X9)) $$ [Hv H8 H9 H10 Hsl]
  · isplitl [Hv]; · iexact Hv
    isplitl [H10]; · iexact H10
    isplitl [Hsl]; · iexact Hsl
    isplitl [H8]; · iexact H8
    iexact H9
  iintro HF
  iapply h
  isplitl [HF]
  · iapply (Fly_mono ?_) $$ HF
    iintro ⟨H10, Hsl, H8, H9⟩
    isplitl [H8]; · iexact H8
    isplitl [H9]; · iexact H9
    isplitl [H10]; · iexact H10
    iexact Hsl
  · iexact HR

/-- Starting the transfer of the second slot into the result. -/
theorem step_send' {off : Fin 3 → ℕ} {inb : ∀ a, off a + SV.size a ≤ SH.size a}
    {hr : ∀ a, (Rect.unit (s := SH) off SV.size inb).stride a = 1}
    {hsrc hdst hsem} {k : PUnit → Prog (TpuEff nD τ sig (Elt F) Λ c.2) α} {A : SA.Idx → Elt F .f32} {old : SH.Idx → Elt F .f32} {m m' : ℕ}
    (hoff : off = ![b, m, 0]) (he : m' = m) (hm : m % 8 = 0 ∧ m / 8 % 2 = p) (hm' : m + 8 ≤ 128)
    (h : (Bx c S0 (Fly c s (m10.slice (Rect.unit (s := SH) off SV.size inb) hr : Memref sig c.2.kind .hbm SV .f32).view.dmaCredit
        (Hs c m8 m9 m10 q X8 X9 b p (prog A old b (m + 16)) sl (fun _ => True))) T1 T2 Fr : sProp 𝕄)
      ⊢ wp frame (wpE defs 𝒱 c bd) Set.univ (k ⟨⟩) Q) :
    (Bx c S0 (Held c s (Hs c m8 m9 m10 q X8 X9 b p (prog A old b m') sl (IsGroup A m))) T1 T2 Fr : sProp 𝕄)
      ⊢ wp frame (wpE defs 𝒱 c bd) Set.univ
        (Prog.lift (.enqueueDma sl (.here (m10.slice (Rect.unit (s := SH) off SV.size inb) hr : Memref sig c.2.kind .hbm SV .f32))
            (.dma s) hsrc hdst hsem) >>= k) Q := by
  refine Entails.trans (Bx_swap _ _ _ _ _ _) (step_send hoff he hm hm' ?_)
  exact Entails.trans (Bx_swap _ _ _ _ _ _) h

/-- A load of the first tree buffer whose value is not used. -/
theorem step_idle {r : Rect SA} {hl : m11.view.LoadsAt r.toLoadRect} {k : _ → Prog (TpuEff nD τ sig (Elt F) Λ c.2) α} {n : ℕ}
    (h : ∀ v, (Bx c S0 S1 (TreeIn c m11 X8 b n) T2 Fr : sProp 𝕄) ⊢ wp frame (wpE defs 𝒱 c bd) Set.univ (k v) Q) :
    (Bx c S0 S1 (TreeIn c m11 X8 b n) T2 Fr : sProp 𝕄)
      ⊢ wp frame (wpE defs 𝒱 c bd) Set.univ (Prog.lift (.load m11 r.toLoadRect hl) >>= k) Q := by
  change _ ⊢ wp frame (wpE defs 𝒱 c bd) Set.univ (.op (.load m11 r.toLoadRect hl) k) Q
  unfold Bx TreeIn at h ⊢
  iintro ⟨H0, H1, HO, ⟨%A, %hA, HT⟩, HR⟩
  iapply (owns_load (m := m11) (r := r)) $$ HT
  iintro HT
  iapply h
  isplitl [H0]; · iexact H0
  isplitl [H1]; · iexact H1
  isplitl [HO]; · iexact HO
  isplitl [HT]
  · iexists A; isplitr; · ipureintro; exact hA
    iexact HT
  iexact HR

/-- A load of the second tree buffer whose value is not used. -/
theorem step_idle' {r : Rect SA} {hl : m12.view.LoadsAt r.toLoadRect} {k : _ → Prog (TpuEff nD τ sig (Elt F) Λ c.2) α} {n : ℕ}
    (h : ∀ v, (Bx c S0 S1 T1 (TreeIn c m12 X9 b n) Fr : sProp 𝕄) ⊢ wp frame (wpE defs 𝒱 c bd) Set.univ (k v) Q) :
    (Bx c S0 S1 T1 (TreeIn c m12 X9 b n) Fr : sProp 𝕄)
      ⊢ wp frame (wpE defs 𝒱 c bd) Set.univ (Prog.lift (.load m12 r.toLoadRect hl) >>= k) Q := by
  refine Entails.trans (Bx_turn _ _ _ _ _ _) (step_idle fun v => ?_)
  exact Entails.trans (Bx_turn _ _ _ _ _ _) (h v)

/-- Storing the next group of nodes into the first tree buffer. -/
theorem step_put {off : Fin 3 → ℕ} {inb : ∀ a, off a + SG.size a ≤ SA.size a}
    {w : SG.Idx → Elt F .f32} {hx : (m11.access (Rect.unit (s := SA) off SG.size inb)).Stores Finset.univ}
    {hm : Finset.univ = Finset.univ ∨ ∀ a, (Rect.unit (s := SA) off SG.size inb).stride a = 1}
    {k : PUnit → Prog (TpuEff nD τ sig (Elt F) Λ c.2) α} {m n : ℕ} (hoff : off = ![m, 0, 0]) (hn : n = m)
    (hw : ∀ (x : SG.Idx) (z : SH.Idx), (z 0).val = b + (x 1).val → (z 1).val = m + (x 0).val → (z 2).val = (x 2).val → w x = X8 z)
    (h : (Bx c S0 S1 (TreeIn c m11 X8 b (m + 8)) T2 Fr : sProp 𝕄) ⊢ wp frame (wpE defs 𝒱 c bd) Set.univ (k ⟨⟩) Q) :
    (Bx c S0 S1 (TreeIn c m11 X8 b n) T2 Fr : sProp 𝕄)
      ⊢ wp frame (wpE defs 𝒱 c bd) Set.univ
        (Prog.lift (.store m11 (Rect.unit (s := SA) off SG.size inb) w Finset.univ hx hm) >>= k) Q := by
  subst hoff hn
  change _ ⊢ wp frame (wpE defs 𝒱 c bd) Set.univ (.op (.store m11 (Rect.unit (s := SA) ![n, 0, 0] SG.size inb) w Finset.univ hx hm) k) Q
  unfold Bx TreeIn at h ⊢
  iintro ⟨H0, H1, HO, ⟨%A, %hA, HT⟩, HR⟩
  iapply (owns_store (m := m11) (off := ![n, 0, 0])) $$ HT
  iintro %Y %hY HT
  iapply h
  isplitl [H0]; · iexact H0
  isplitl [H1]; · iexact H1
  isplitl [HO]; · iexact HO
  isplitl [HT]
  · iexists Y; isplitr
    · ipureintro
      intro y z h0 h1 h2 h3
      by_cases hy : (y 0).val < n
      · rw [hY.2 y ⟨0, Or.inl hy⟩]; exact hA y z hy h1 h2 h3
      · let x : SG.Idx := fun a => match a with
          | 0 => ⟨(y 0).val - n, by show _ < 8; omega⟩
          | 1 => y 1
          | 2 => y 2
        have hxy : (Rect.unit (s := SA) ![n, 0, 0] SG.size inb).emb x = y := by
          funext a
          apply Fin.ext
          match a with
          | 0 => show n + 1 * ((y 0).val - n) = _; omega
          | 1 => show 0 + 1 * (y 1).val = _; omega
          | 2 => show 0 + 1 * (y 2).val = _; omega
        rw [← hxy, hY.1 x]
        refine hw x z h1 ?_ h3
        show (z 1).val = n + ((y 0).val - n)
        omega
    · iexact HT
  iexact HR

/-- Storing the next group of nodes into the second tree buffer. -/
theorem step_put' {off : Fin 3 → ℕ} {inb : ∀ a, off a + SG.size a ≤ SA.size a}
    {w : SG.Idx → Elt F .f32} {hx : (m12.access (Rect.unit (s := SA) off SG.size inb)).Stores Finset.univ}
    {hm : Finset.univ = Finset.univ ∨ ∀ a, (Rect.unit (s := SA) off SG.size inb).stride a = 1}
    {k : PUnit → Prog (TpuEff nD τ sig (Elt F) Λ c.2) α} {m n : ℕ} (hoff : off = ![m, 0, 0]) (hn : n = m)
    (hw : ∀ (x : SG.Idx) (z : SH.Idx), (z 0).val = b + (x 1).val → (z 1).val = m + (x 0).val → (z 2).val = (x 2).val → w x = X9 z)
    (h : (Bx c S0 S1 T1 (TreeIn c m12 X9 b (m + 8)) Fr : sProp 𝕄) ⊢ wp frame (wpE defs 𝒱 c bd) Set.univ (k ⟨⟩) Q) :
    (Bx c S0 S1 T1 (TreeIn c m12 X9 b n) Fr : sProp 𝕄)
      ⊢ wp frame (wpE defs 𝒱 c bd) Set.univ
        (Prog.lift (.store m12 (Rect.unit (s := SA) off SG.size inb) w Finset.univ hx hm) >>= k) Q := by
  refine Entails.trans (Bx_turn _ _ _ _ _ _) (step_put hoff hn hw ?_)
  exact Entails.trans (Bx_turn _ _ _ _ _ _) h

/-- With every node loaded, a tree buffer holds the block of the initial array. -/
theorem step_loaded {p : Prog (TpuEff nD τ sig (Elt F) Λ c.2) α} (hb : b + 256 ≤ 1024)
    (h : (Bx c S0 S1 (owns c m11 fullShare (block X8 b)) (owns c m12 fullShare (block X9 b)) Fr : sProp 𝕄)
      ⊢ wp frame (wpE defs 𝒱 c bd) Set.univ p Q) :
    (Bx c S0 S1 (TreeIn c m11 X8 b 128) (TreeIn c m12 X9 b 128) Fr : sProp 𝕄)
      ⊢ wp frame (wpE defs 𝒱 c bd) Set.univ p Q := by
  refine .trans ?_ h
  unfold Bx TreeIn
  iintro ⟨H0, H1, HO, ⟨%A, %hA, HT⟩, ⟨%B, %hB, HU⟩, HR⟩
  isplitl [H0]; · iexact H0
  isplitl [H1]; · iexact H1
  isplitl [HO]; · iexact HO
  rw [hA.block hb, hB.block hb]
  isplitl [HT]; · iexact HT
  isplitl [HU]; · iexact HU
  iexact HR

/-- A load of the first tree buffer. -/
theorem step_get {off : Fin 3 → ℕ} {inb : ∀ a, off a + SG.size a ≤ SA.size a}
    {hl : m11.view.LoadsAt (Rect.unit (s := SA) off SG.size inb).toLoadRect} {A : SA.Idx → Elt F .f32}
    {k : (SG.Idx → Elt F .f32) → Prog (TpuEff nD τ sig (Elt F) Λ c.2) α} {m : ℕ} (hoff : off = ![m, 0, 0])
    (h : ∀ v, (∀ x (y : SA.Idx), (y 0).val = m + (x 0).val → (y 1).val = (x 1).val → (y 2).val = (x 2).val → v x = A y) →
      (Bx c S0 S1 (owns c m11 fullShare A) T2 Fr : sProp 𝕄) ⊢ wp frame (wpE defs 𝒱 c bd) Set.univ (k v) Q) :
    (Bx c S0 S1 (owns c m11 fullShare A) T2 Fr : sProp 𝕄)
      ⊢ wp frame (wpE defs 𝒱 c bd) Set.univ
        (Prog.lift (.load m11 (Rect.unit (s := SA) off SG.size inb).toLoadRect hl) >>= k) Q := by
  subst hoff
  change _ ⊢ wp frame (wpE defs 𝒱 c bd) Set.univ (.op (.load m11 (Rect.unit (s := SA) ![m, 0, 0] SG.size inb).toLoadRect hl) k) Q
  unfold Bx at h ⊢
  iintro ⟨H0, H1, HO, HT, HR⟩
  iapply (owns_load (m := m11) (r := Rect.unit (s := SA) ![m, 0, 0] SG.size inb)) $$ HT
  iintro HT
  iapply h
  · intro x y h0 h1 h2
    congr 1
    funext a
    apply Fin.ext
    match a with
    | 0 => show m + 1 * (x 0).val = _; omega
    | 1 => show 0 + 1 * (x 1).val = _; omega
    | 2 => show 0 + 1 * (x 2).val = _; omega
  isplitl [H0]; · iexact H0
  isplitl [H1]; · iexact H1
  isplitl [HO]; · iexact HO
  isplitl [HT]; · iexact HT
  iexact HR

/-- A load of a node of the first tree buffer whose value is not used. -/
theorem step_peek {r : Rect SA} {hl : m11.view.LoadsAt r.toLoadRect} {A : SA.Idx → Elt F .f32} {k : _ → Prog (TpuEff nD τ sig (Elt F) Λ c.2) α}
    (h : ∀ v, (Bx c S0 S1 (owns c m11 fullShare A) T2 Fr : sProp 𝕄) ⊢ wp frame (wpE defs 𝒱 c bd) Set.univ (k v) Q) :
    (Bx c S0 S1 (owns c m11 fullShare A) T2 Fr : sProp 𝕄)
      ⊢ wp frame (wpE defs 𝒱 c bd) Set.univ (Prog.lift (.load m11 r.toLoadRect hl) >>= k) Q := by
  change _ ⊢ wp frame (wpE defs 𝒱 c bd) Set.univ (.op (.load m11 r.toLoadRect hl) k) Q
  unfold Bx at h ⊢
  iintro ⟨H0, H1, HO, HT, HR⟩
  iapply (owns_load (m := m11) (r := r)) $$ HT
  iintro HT
  iapply h
  isplitl [H0]; · iexact H0
  isplitl [H1]; · iexact H1
  isplitl [HO]; · iexact HO
  isplitl [HT]; · iexact HT
  iexact HR

/-- A load of a node of the second tree buffer whose value is not used. -/
theorem step_peek' {r : Rect SA} {hl : m12.view.LoadsAt r.toLoadRect} {A : SA.Idx → Elt F .f32} {k : _ → Prog (TpuEff nD τ sig (Elt F) Λ c.2) α}
    (h : ∀ v, (Bx c S0 S1 T1 (owns c m12 fullShare A) Fr : sProp 𝕄) ⊢ wp frame (wpE defs 𝒱 c bd) Set.univ (k v) Q) :
    (Bx c S0 S1 T1 (owns c m12 fullShare A) Fr : sProp 𝕄)
      ⊢ wp frame (wpE defs 𝒱 c bd) Set.univ (Prog.lift (.load m12 r.toLoadRect hl) >>= k) Q := by
  refine Entails.trans (Bx_turn _ _ _ _ _ _) (step_peek fun v => ?_)
  exact Entails.trans (Bx_turn _ _ _ _ _ _) (h v)

/-- Storing a node of the first tree buffer. -/
theorem step_node {off : Fin 3 → ℕ} {inb : ∀ a, off a + SR.size a ≤ SA.size a} {A : SA.Idx → Elt F .f32}
    {w : SR.Idx → Elt F .f32} {hx : (m11.access (Rect.unit (s := SA) off SR.size inb)).Stores Finset.univ}
    {hm : Finset.univ = Finset.univ ∨ ∀ a, (Rect.unit (s := SA) off SR.size inb).stride a = 1}
    {k : PUnit → Prog (TpuEff nD τ sig (Elt F) Λ c.2) α} {n : ℕ} (hoff : off = ![n, 0, 0])
    (h : (Bx c S0 S1 (owns c m11 fullShare (upd A n w)) T2 Fr : sProp 𝕄) ⊢ wp frame (wpE defs 𝒱 c bd) Set.univ (k ⟨⟩) Q) :
    (Bx c S0 S1 (owns c m11 fullShare A) T2 Fr : sProp 𝕄)
      ⊢ wp frame (wpE defs 𝒱 c bd) Set.univ
        (Prog.lift (.store m11 (Rect.unit (s := SA) off SR.size inb) w Finset.univ hx hm) >>= k) Q := by
  change _ ⊢ wp frame (wpE defs 𝒱 c bd) Set.univ (.op (.store m11 (Rect.unit (s := SA) off SR.size inb) w Finset.univ hx hm) k) Q
  unfold Bx at h ⊢
  iintro ⟨H0, H1, HO, HT, HR⟩
  iapply (owns_store (m := m11) (off := off)) $$ HT
  iintro %Y %hY HT
  rw [upd_of_store hoff hY]
  iapply h
  isplitl [H0]; · iexact H0
  isplitl [H1]; · iexact H1
  isplitl [HO]; · iexact HO
  isplitl [HT]; · iexact HT
  iexact HR

/-- Storing a node of the second tree buffer. -/
theorem step_node' {off : Fin 3 → ℕ} {inb : ∀ a, off a + SR.size a ≤ SA.size a} {A : SA.Idx → Elt F .f32}
    {w : SR.Idx → Elt F .f32} {hx : (m12.access (Rect.unit (s := SA) off SR.size inb)).Stores Finset.univ}
    {hm : Finset.univ = Finset.univ ∨ ∀ a, (Rect.unit (s := SA) off SR.size inb).stride a = 1}
    {k : PUnit → Prog (TpuEff nD τ sig (Elt F) Λ c.2) α} {n : ℕ} (hoff : off = ![n, 0, 0])
    (h : (Bx c S0 S1 T1 (owns c m12 fullShare (upd A n w)) Fr : sProp 𝕄) ⊢ wp frame (wpE defs 𝒱 c bd) Set.univ (k ⟨⟩) Q) :
    (Bx c S0 S1 T1 (owns c m12 fullShare A) Fr : sProp 𝕄)
      ⊢ wp frame (wpE defs 𝒱 c bd) Set.univ
        (Prog.lift (.store m12 (Rect.unit (s := SA) off SR.size inb) w Finset.univ hx hm) >>= k) Q := by
  refine Entails.trans (Bx_turn _ _ _ _ _ _) (step_node hoff ?_)
  exact Entails.trans (Bx_turn _ _ _ _ _ _) h

/-- A load of the whole of a memref of the rest. -/
theorem step_win {cs : CoreSpace} {sh : Shape} {e : EltTy} {mw : Memref sig c.2.kind cs sh e} {off : Fin sh.rank → ℕ}
    {inb : ∀ a, off a + sh.size a ≤ sh.size a} {hl : mw.view.LoadsAt (Rect.unit (s := sh) off sh.size inb).toLoadRect}
    {Z : sh.Idx → Elt F e} {R : sProp 𝕄} {k : (sh.Idx → Elt F e) → Prog (TpuEff nD τ sig (Elt F) Λ c.2) α}
    (hF : Fr ⊢ iprop(owns c mw fullShare Z ∗ R)) (hF' : iprop(owns c mw fullShare Z ∗ R) ⊢ Fr) (h0 : ∀ a, off a = 0)
    (h : (Bx c S0 S1 T1 T2 Fr : sProp 𝕄) ⊢ wp frame (wpE defs 𝒱 c bd) Set.univ (k Z) Q) :
    (Bx c S0 S1 T1 T2 Fr : sProp 𝕄)
      ⊢ wp frame (wpE defs 𝒱 c bd) Set.univ (Prog.lift (.load mw (Rect.unit (s := sh) off sh.size inb).toLoadRect hl) >>= k) Q := by
  have hz : (fun x => Z ((Rect.unit (s := sh) off sh.size inb).emb x)) = Z := by
    funext x
    congr 1
    funext a
    apply Fin.ext
    show off a + 1 * (x a).val = (x a).val
    rw [h0 a]; omega
  change _ ⊢ wp frame (wpE defs 𝒱 c bd) Set.univ (.op (.load mw (Rect.unit (s := sh) off sh.size inb).toLoadRect hl) k) Q
  unfold Bx at h ⊢
  iintro ⟨H0, H1, HO, H3, H4, HR⟩
  ihave HR := hF $$ HR
  icases HR with ⟨HW, HR⟩
  iapply (owns_load (m := mw) (r := Rect.unit (s := sh) off sh.size inb)) $$ HW
  iintro HW
  rw [hz]
  iapply h
  isplitl [H0]; · iexact H0
  isplitl [H1]; · iexact H1
  isplitl [HO]; · iexact HO
  isplitl [H3]; · iexact H3
  isplitl [H4]; · iexact H4
  iapply hF'
  isplitl [HW]; · iexact HW
  iexact HR

section Windows

variable {G W1 W3 W4 W5 W6 W7 : sProp (MT nD τ sig Unit (Elt F) Name U Lvl)}
variable {cs : CoreSpace} {sh : Shape} {e : EltTy} {mw : Memref sig c.2.kind cs sh e} {off : Fin sh.rank → ℕ}
variable {inb : ∀ a, off a + sh.size a ≤ sh.size a} {hl : mw.view.LoadsAt (Rect.unit (s := sh) off sh.size inb).toLoadRect}
variable {Z : sh.Idx → Elt F e} {k : (sh.Idx → Elt F e) → Prog (TpuEff nD τ sig (Elt F) Λ c.2) α}

/-- A load of the embedding block. -/
theorem step_win1 (h0 : ∀ a, off a = 0)
    (h : (Bx c S0 S1 T1 T2 iprop(G ∗ (owns c mw fullShare Z ∗ W3 ∗ W4 ∗ W5 ∗ W6 ∗ W7)) : sProp 𝕄) ⊢ wp frame (wpE defs 𝒱 c bd) Set.univ (k Z) Q) :
    (Bx c S0 S1 T1 T2 iprop(G ∗ (owns c mw fullShare Z ∗ W3 ∗ W4 ∗ W5 ∗ W6 ∗ W7)) : sProp 𝕄)
      ⊢ wp frame (wpE defs 𝒱 c bd) Set.univ (Prog.lift (.load mw (Rect.unit (s := sh) off sh.size inb).toLoadRect hl) >>= k) Q :=
  step_win front1 front1' h0 h

/-- A load of the input weights. -/
theorem step_win3 (h0 : ∀ a, off a = 0)
    (h : (Bx c S0 S1 T1 T2 iprop(G ∗ (W1 ∗ owns c mw fullShare Z ∗ W4 ∗ W5 ∗ W6 ∗ W7)) : sProp 𝕄) ⊢ wp frame (wpE defs 𝒱 c bd) Set.univ (k Z) Q) :
    (Bx c S0 S1 T1 T2 iprop(G ∗ (W1 ∗ owns c mw fullShare Z ∗ W4 ∗ W5 ∗ W6 ∗ W7)) : sProp 𝕄)
      ⊢ wp frame (wpE defs 𝒱 c bd) Set.univ (Prog.lift (.load mw (Rect.unit (s := sh) off sh.size inb).toLoadRect hl) >>= k) Q :=
  step_win front3 front3' h0 h

/-- A load of the biases. -/
theorem step_win4 (h0 : ∀ a, off a = 0)
    (h : (Bx c S0 S1 T1 T2 iprop(G ∗ (W1 ∗ W3 ∗ owns c mw fullShare Z ∗ W5 ∗ W6 ∗ W7)) : sProp 𝕄) ⊢ wp frame (wpE defs 𝒱 c bd) Set.univ (k Z) Q) :
    (Bx c S0 S1 T1 T2 iprop(G ∗ (W1 ∗ W3 ∗ owns c mw fullShare Z ∗ W5 ∗ W6 ∗ W7)) : sProp 𝕄)
      ⊢ wp frame (wpE defs 𝒱 c bd) Set.univ (Prog.lift (.load mw (Rect.unit (s := sh) off sh.size inb).toLoadRect hl) >>= k) Q :=
  step_win front4 front4' h0 h

/-- A load of the first recurrent factor. -/
theorem step_win5 (h0 : ∀ a, off a = 0)
    (h : (Bx c S0 S1 T1 T2 iprop(G ∗ (W1 ∗ W3 ∗ W4 ∗ owns c mw fullShare Z ∗ W6 ∗ W7)) : sProp 𝕄) ⊢ wp frame (wpE defs 𝒱 c bd) Set.univ (k Z) Q) :
    (Bx c S0 S1 T1 T2 iprop(G ∗ (W1 ∗ W3 ∗ W4 ∗ owns c mw fullShare Z ∗ W6 ∗ W7)) : sProp 𝕄)
      ⊢ wp frame (wpE defs 𝒱 c bd) Set.univ (Prog.lift (.load mw (Rect.unit (s := sh) off sh.size inb).toLoadRect hl) >>= k) Q :=
  step_win front5 front5' h0 h

/-- A load of the second recurrent factor. -/
theorem step_win6 (h0 : ∀ a, off a = 0)
    (h : (Bx c S0 S1 T1 T2 iprop(G ∗ (W1 ∗ W3 ∗ W4 ∗ W5 ∗ owns c mw fullShare Z ∗ W7)) : sProp 𝕄) ⊢ wp frame (wpE defs 𝒱 c bd) Set.univ (k Z) Q) :
    (Bx c S0 S1 T1 T2 iprop(G ∗ (W1 ∗ W3 ∗ W4 ∗ W5 ∗ owns c mw fullShare Z ∗ W7)) : sProp 𝕄)
      ⊢ wp frame (wpE defs 𝒱 c bd) Set.univ (Prog.lift (.load mw (Rect.unit (s := sh) off sh.size inb).toLoadRect hl) >>= k) Q :=
  step_win front6 front6' h0 h

/-- A load of the third recurrent factor. -/
theorem step_win7 (h0 : ∀ a, off a = 0)
    (h : (Bx c S0 S1 T1 T2 iprop(G ∗ (W1 ∗ W3 ∗ W4 ∗ W5 ∗ W6 ∗ owns c mw fullShare Z)) : sProp 𝕄) ⊢ wp frame (wpE defs 𝒱 c bd) Set.univ (k Z) Q) :
    (Bx c S0 S1 T1 T2 iprop(G ∗ (W1 ∗ W3 ∗ W4 ∗ W5 ∗ W6 ∗ owns c mw fullShare Z)) : sProp 𝕄)
      ⊢ wp frame (wpE defs 𝒱 c bd) Set.univ (Prog.lift (.load mw (Rect.unit (s := sh) off sh.size inb).toLoadRect hl) >>= k) Q :=
  step_win front7 front7' h0 h

end Windows

theorem prog_even (A : SA.Idx → Elt F .f32) (old : SH.Idx → Elt F .f32) (b : ℕ) : ∀ y ∈ part b 0, old y = prog A old b 0 y := by
  intro y hy
  unfold prog
  split
  · next h => exact absurd h.2.2 (Nat.not_lt_zero _)
  · rfl

theorem prog_odd (A : SA.Idx → Elt F .f32) (old : SH.Idx → Elt F .f32) (b : ℕ) : ∀ y ∈ part b 1, old y = prog A old b 8 y := by
  intro y hy
  have hy' := (Finset.mem_filter.mp hy).2
  unfold prog
  split
  · next h =>
    have := (hy'.mpr rfl).2.2
    omega
  · rfl

/-- With the hidden tree known, the rows of the result are as written for none of its nodes. -/
theorem step_ready {s' : DmaSem sig} {q' : PosShare TreeShare} {sl' : Memref sig c.2.kind sp SV .f32} {P' : (SV.Idx → Elt F .f32) → Prop}
    {A : SA.Idx → Elt F .f32} {old : SH.Idx → Elt F .f32} {p : Prog (TpuEff nD τ sig (Elt F) Λ c.2) α}
    (h : (Bx c (Held c s (Hs c m8 m9 m10 q X8 X9 b 0 (prog A old b 0) sl P)) (Held c s' (Hs c m8 m9 m10 q' X8 X9 b 1 (prog A old b 8) sl' P'))
        (owns c m11 fullShare A) T2 Fr : sProp 𝕄) ⊢ wp frame (wpE defs 𝒱 c bd) Set.univ p Q) :
    (Bx c (Held c s (Hs c m8 m9 m10 q X8 X9 b 0 old sl P)) (Held c s' (Hs c m8 m9 m10 q' X8 X9 b 1 old sl' P'))
        (owns c m11 fullShare A) T2 Fr : sProp 𝕄) ⊢ wp frame (wpE defs 𝒱 c bd) Set.univ p Q := by
  refine Entails.trans ?_ h
  unfold Bx Held Hs
  iintro ⟨⟨Hv, H8, H9, H10, Hs⟩, ⟨Gv, G8, G9, G10, Gs⟩, HR⟩
  ihave H10 := (ownsOn_congr (prog_even A old b)) $$ H10
  ihave G10 := (ownsOn_congr (prog_odd A old b)) $$ G10
  isplitl [Hv H8 H9 H10 Hs]
  · isplitl [Hv]; · iexact Hv
    isplitl [H8]; · iexact H8
    isplitl [H9]; · iexact H9
    isplitl [H10]; · iexact H10
    iexact Hs
  isplitl [Gv G8 G9 G10 Gs]
  · isplitl [Gv]; · iexact Gv
    isplitl [G8]; · iexact G8
    isplitl [G9]; · iexact G9
    isplitl [G10]; · iexact G10
    iexact Gs
  iexact HR

/-- A load at the head of a program. -/
theorem load_head {cs : CoreSpace} {sh : Shape} {e : EltTy} {m : Memref sig c.2.kind cs sh e} {r : Rect sh} {hl : m.view.LoadsAt r.toLoadRect}
    {k : (r.shape.Idx → Elt F e) → Prog (TpuEff nD τ sig (Elt F) Λ c.2) α} {q : PosShare TreeShare} {X : sh.Idx → Elt F e} :
    (owns c m q X : sProp 𝕄)
      ⊢ iprop((owns c m q X -∗ wp frame (wpE defs 𝒱 c bd) Set.univ (k fun x => X (r.emb x)) Q)
        -∗ wp frame (wpE defs 𝒱 c bd) Set.univ (Prog.lift (.load m r.toLoadRect hl) >>= k) Q) :=
  owns_load (m := m) (r := r)

/-- A store at the head of a program. -/
theorem store_head {cs : CoreSpace} {sh : Shape} {e : EltTy} {m : Memref sig c.2.kind cs sh e} {off size : Fin sh.rank → ℕ}
    {inb : ∀ a, off a + size a ≤ sh.size a} {w : (Rect.unit off size inb).shape.Idx → Elt F e}
    {hx : (m.access (Rect.unit off size inb)).Stores Finset.univ}
    {hm : Finset.univ = Finset.univ ∨ ∀ a, (Rect.unit off size inb).stride a = 1}
    {k : PUnit → Prog (TpuEff nD τ sig (Elt F) Λ c.2) α} {X : sh.Idx → Elt F e} :
    (owns c m fullShare X : sProp 𝕄)
      ⊢ iprop((∀ Y, ⌜(∀ x, Y ((Rect.unit off size inb).emb x) = w x)
            ∧ ∀ y, (∃ a, (y a).val < off a ∨ off a + size a ≤ (y a).val) → Y y = X y⌝
          -∗ owns c m fullShare Y -∗ wp frame (wpE defs 𝒱 c bd) Set.univ (k ⟨⟩) Q)
        -∗ wp frame (wpE defs 𝒱 c bd) Set.univ (Prog.lift (.store m (Rect.unit off size inb) w Finset.univ hx hm) >>= k) Q) :=
  owns_store (m := m) (off := off)

end Steps

end Cert.TreeGather
-- ==== Proof.RealTrip.lean ====
module

public import proofs.«01_k».proof.Proof.RealRowsFirst
public import proofs.«01_k».proof.Proof.RealRowsSecond
public import proofs.«01_k».proof.Proof.Trees
public import proofs.«01_k».proof.Proof.Gen.KernelIdeal.Points

/-!
One trip of the node loop, and the loop: the tree buffers after every trip are those of the recursion `trees`, with
the program's own cell computed from the gathered rows.
-/

@[expose] public section

noncomputable section

namespace Cert.KernelIdeal.Hand

open Idealize.ShloMosaic Idealize.ShloMosaic.TcCoe Idealize.ShloMosaic.Tactic
open Idealize.SL
open Idealize.SL.RA Idealize.SL.Sem Idealize.SL.ProofMode
open Idealize.SL.BI (sProp)
open scoped Idealize.SL.BI
open Idealize.SL.BI.BIBase Idealize.SL.BI.Laws
open Cert.KernelIdeal Cert.KernelIdeal.Gen Cert.TreeGather

variable {F : FTy → Type} [FloatOps F]
variable {Name : Type} [DecidableEq Name] [Infinite Name] {U : Type} [URA U] [CountersIn U] {Lvl : Type} [Preorder Lvl]

variable (i : grid0.Coords) (arg1 : Memref sig .tc .vmem S256x128 .f32) (harg1 : arg1.IsWhole) (arg2 : Memref sig .tc .smem S128x256 .i32) (harg2 : arg2.IsWhole)
  (arg3 : Memref sig .tc .vmem S128x384 .f32) (harg3 : arg3.IsWhole) (arg4 : Memref sig .tc .vmem S1x384 .f32) (harg4 : arg4.IsWhole) (arg5 : Memref sig .tc .vmem S128x128 .f32) (harg5 : arg5.IsWhole)
  (arg6 : Memref sig .tc .vmem S128x128 .f32) (harg6 : arg6.IsWhole) (arg7 : Memref sig .tc .vmem S128x128 .f32) (harg7 : arg7.IsWhole) (arg8 : Memref sig .tc .hbm S1024x128x128 .f32) (harg8 : arg8.IsWhole)
  (arg9 : Memref sig .tc .hbm S1024x128x128 .f32) (harg9 : arg9.IsWhole) (arg10 : Memref sig .tc .hbm S1024x128x128 .f32) (harg10 : arg10.IsWhole) (arg11 : Memref sig .tc .vmem S128x256x128 .f32) (harg11 : arg11.IsWhole)
  (arg12 : Memref sig .tc .vmem S128x256x128 .f32) (harg12 : arg12.IsWhole) (arg13 : Memref sig .tc .vmem S1x256x128 .f32) (harg13 : arg13.IsWhole) (arg14 : Memref sig .tc .vmem S1x256x128 .f32) (harg14 : arg14.IsWhole)
  (arg15 : Memref sig .tc .vmem S2x256x8x128 .f32) (harg15 : arg15.IsWhole) (arg16 : DmaSems sig S_) (arg17 : DmaSems sig S_)

local notation "𝕄" => MT nD τ sig Unit (Elt F) Name U Lvl

/-- The hidden rows a trip stores, from the gathered hidden and cell rows. -/
def newH (v6 : FVec F S128x384 .f32) (v15 : FVec F S256x384 .f32) (gh gc : SR.Idx → Elt F .f32) : SR.Idx → Elt F .f32 :=
  k0_pay557 (k0_pay513 v6 v15 gh) (k0_pay514 v6 v15 gh) (k0_pay515 v6 v15 gh) gc

/-- The cell rows a trip stores. -/
def newC (v6 : FVec F S128x384 .f32) (v15 : FVec F S256x384 .f32) (gh gc : SR.Idx → Elt F .f32) : SR.Idx → Elt F .f32 :=
  k0_pay558 (k0_pay513 v6 v15 gh) (k0_pay514 v6 v15 gh) gc

/-- The row of the connection table trip `k` reads. -/
theorem row_of_trip (k : Fin k0_t1_loop.trips) : (Scalar.indexCast (Scf.iv 1#32 1#32 k) : Index).toNat = k.val + 1 :=
  congrFun (k0_off529_eq k) 0

/-- What the core holds at the head of a trip. -/
def Lp (c : Thread nD τ) (m2 : Memref sig c.2.kind .smem SN .i32) (m11 m12 : Memref sig c.2.kind .vmem SA .f32)
    (m13 m14 : Memref sig c.2.kind .vmem SR .f32) (N : SN.Idx → Elt F .i32) (T : (SA.Idx → Elt F .f32) × (SA.Idx → Elt F .f32)) : sProp 𝕄 :=
  iprop(owns c m2 fullShare N ∗ owns c m11 fullShare T.1 ∗ owns c m12 fullShare T.2 ∗ (∃ g, owns c m13 fullShare g) ∗ (∃ g, owns c m14 fullShare g))

set_option maxRecDepth 65536 in
set_option maxHeartbeats 4000000 in
/-- A trip takes the tree buffers one step of the recursion on. -/
theorem trip (c : Dev nD) (k : Fin k0_t1_loop.trips) (N : SN.Idx → Elt F .i32) (hN : ∀ y, (N y : BitVec 32).toNat < 128)
    (A B : SA.Idx → Elt F .f32) (arg0 : BitVec 32) (v6 : FVec F S128x384 .f32) (v15 : FVec F S256x384 .f32)
    (v24 v26 : FVec F S256x128 .f32) (v474 : FVec F S8x256x128 .f32) (a : Unit) :
    (Lp (c : Thread nD τ) arg2 arg11 arg12 arg13 arg14 N (trees (newH v6 v15) (newC v6 v15) N A B k.val) : sProp 𝕄)
      ⊢ wp frame (wpE (defs₀ (F := F)) Variants.none (c : Thread nD τ) none) Set.univ
          (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg0 v6 v15 v24 v26 v474 k a)
          (fun _ => Lp (c : Thread nD τ) arg2 arg11 arg12 arg13 arg14 N (trees (newH v6 v15) (newC v6 v15) N A B (k.val + 1))) := by
  have hW : ∀ y : SN.Idx, (y 0).val = (Scalar.indexCast (Scf.iv 1#32 1#32 k) : Index).toNat → N y = wordAt N (k.val + 1) (y 1).val :=
    fun y hy => wordAt_eq N _ y (hy.trans (row_of_trip k))
  have hlt := fun n => wordAt_lt hN (k.val + 1) n
  generalize hT : trees (newH v6 v15) (newC v6 v15) N A B k.val = T
  have hT' : trees (newH v6 v15) (newC v6 v15) N A B (k.val + 1)
      = (upd T.1 (k.val + 1) (newH v6 v15 (gat T.1 (wordAt N (k.val + 1))) (gat T.2 (wordAt N (k.val + 1)))),
         upd T.2 (k.val + 1) (newC v6 v15 (gat T.1 (wordAt N (k.val + 1))) (gat T.2 (wordAt N (k.val + 1))))) := by
    rw [← hT]; rfl
  rw [hT']
  clear hT hT'
  obtain ⟨P, Z⟩ := T
  refine Entails.trans (Q := (St (c : Thread nD τ) arg2 arg11 arg12 arg13 arg14 N P Z (wordAt N (k.val + 1)) 0 0 : sProp 𝕄)) ?_ ?_
  · unfold Lp St
    iintro ⟨H2, H11, H12, ⟨%g, Hg⟩, ⟨%g', Hg'⟩⟩
    isplitl [H2]; · iexact H2
    isplitl [H11]; · iexact H11
    isplitl [H12]; · iexact H12
    isplitl [Hg]
    · iexists g; isplitr; · ipureintro; exact RowsOK.zero _ _ _
      iexact Hg
    · iexists g'; isplitr; · ipureintro; exact RowsOK.zero _ _ _
      iexact Hg'
  unfold k0_t1_body
  refine step_bind ?_
  refine rows_first i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 c k N P Z (wordAt N (k.val + 1)) hW hlt _ ?_
  intro h1 h2
  refine step_bind ?_
  refine rows_second i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 c k N P Z (wordAt N (k.val + 1)) hW hlt v6 v15 _ _ _ ?_
  rintro g ⟨g', hg', rfl⟩
  rw [whole_rect (g := g') rfl, hg'.gat hlt]
  unfold St
  iintro ⟨H2, H11, H12, ⟨%q, %hq, Hg⟩, ⟨%q', %hq', Hg'⟩⟩
  have e' := hq'.gat hlt
  subst e'
  iapply (load_head (m := arg14) (r := Rect.unit (s := SR) ![0, 0, 0] SR.size inb_S1x256x128_S1x256x128_0_0_0)) $$ Hg'
  iintro Hg'
  rw [whole_rect rfl]
  iapply (load_head (m := arg11)) $$ H11
  iintro H11
  iapply (store_head (m := arg11) (off := k0_off529 k)) $$ H11
  iintro %Y %hY H11
  iapply (load_head (m := arg12)) $$ H12
  iintro H12
  iapply (store_head (m := arg12) (off := k0_off529 k)) $$ H12
  iintro %Y' %hY' H12
  rw [upd_of_store (k0_off529_eq k) hY, upd_of_store (k0_off529_eq k) hY']
  iapply (le_wp_ret)
  unfold Lp
  isplitl [H2]; · iexact H2
  isplitl [H11]; · iexact H11
  isplitl [H12]; · iexact H12
  isplitl [Hg]
  · iexists q; iexact Hg
  · iexists _; iexact Hg'

/-- The number of trips. -/
theorem trips_eq : k0_t1_loop.trips = 127 := by decide +kernel

set_option maxRecDepth 65536 in
/-- The node loop, with the other holdings of the core kept. -/
theorem step_loop (c : Dev nD) (N : SN.Idx → Elt F .i32) (hN : ∀ y, (N y : BitVec 32).toNat < 128)
    (A B : SA.Idx → Elt F .f32) (arg0 : BitVec 32) (v6 : FVec F S128x384 .f32) (v15 : FVec F S256x384 .f32)
    (v24 v26 : FVec F S256x128 .f32) (v474 : FVec F S8x256x128 .f32) {α : Type} {Q : α → sProp (MT nD τ sig Unit (Elt F) Name U Lvl)}
    {k : Unit → Prog (TpuEff nD τ sig (Elt F) Λ₀ .tc) α} {S0 S1 Fr : sProp (MT nD τ sig Unit (Elt F) Name U Lvl)}
    (h : (Bx (c : Thread nD τ) S0 S1 (owns (c : Thread nD τ) arg11 fullShare (trees (newH v6 v15) (newC v6 v15) N A B 127).1)
          (owns (c : Thread nD τ) arg12 fullShare (trees (newH v6 v15) (newC v6 v15) N A B 127).2)
          iprop((owns (c : Thread nD τ) arg2 fullShare N ∗ (∃ g, owns (c : Thread nD τ) arg13 fullShare g) ∗ (∃ g, owns (c : Thread nD τ) arg14 fullShare g)) ∗ Fr) : sProp 𝕄)
        ⊢ wp frame (wpE (defs₀ (F := F)) Variants.none (c : Thread nD τ) none) Set.univ (k ⟨⟩) Q) :
    (Bx (c : Thread nD τ) S0 S1 (owns (c : Thread nD τ) arg11 fullShare A) (owns (c : Thread nD τ) arg12 fullShare B)
          iprop((owns (c : Thread nD τ) arg2 fullShare N ∗ (∃ g, owns (c : Thread nD τ) arg13 fullShare g) ∗ (∃ g, owns (c : Thread nD τ) arg14 fullShare g)) ∗ Fr) : sProp 𝕄)
      ⊢ wp frame (wpE (defs₀ (F := F)) Variants.none (c : Thread nD τ) none) Set.univ
          (Scf.Loop.for k0_t1_loop k0_t1_ok ⟨⟩ (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg0 v6 v15 v24 v26 v474) >>= k) Q := by
  have hB : ∀ (k : Fin k0_t1_loop.trips) (a : Unit), _ := fun k a => trip (Name := Name) (U := U) (Lvl := Lvl) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 c k N hN A B arg0 v6 v15 v24 v26 v474 a
  have hL := fun {k : Unit → Prog (TpuEff nD τ sig (Elt F) Λ₀ .tc) α} =>
    Scf.wp_for_bind frame (wpE (defs₀ (F := F)) Variants.none (c : Thread nD τ) none) Set.univ k0_t1_loop.lb k0_t1_loop.ub k0_t1_loop.st k0_t1_ok ()
      (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg0 v6 v15 v24 v26 v474)
      (fun (n : ℕ) (_ : Unit) => (Lp (c : Thread nD τ) arg2 arg11 arg12 arg13 arg14 N (trees (newH v6 v15) (newC v6 v15) N A B n) : sProp 𝕄))
      hB (kk := k) (Q := Q)
  unfold Bx at h ⊢
  iintro ⟨H0, H1, HO, H11, H12, ⟨⟨H2, Hg, Hg'⟩, HR⟩⟩
  iapply (hL (k := k)) $$ [H2 H11 H12 Hg Hg']
  · unfold Lp
    isplitl [H2]; · iexact H2
    isplitl [H11]; · iexact H11
    isplitl [H12]; · iexact H12
    isplitl [Hg]; · iexact Hg
    iexact Hg'
  iintro %a HL
  ihave HL := (show Lp (c : Thread nD τ) arg2 arg11 arg12 arg13 arg14 N (trees (newH v6 v15) (newC v6 v15) N A B k0_t1_loop.trips)
    ⊢ (Lp (c : Thread nD τ) arg2 arg11 arg12 arg13 arg14 N (trees (newH v6 v15) (newC v6 v15) N A B 127) : sProp 𝕄) from by rw [trips_eq]) $$ HL
  unfold Lp
  icases HL with ⟨H2, H11, H12, Hg, Hg'⟩
  iapply h
  isplitl [H0]; · iexact H0
  isplitl [H1]; · iexact H1
  isplitl [HO]; · iexact HO
  isplitl [H11]; · iexact H11
  isplitl [H12]; · iexact H12
  isplitr [HR]
  · isplitl [H2]; · iexact H2
    isplitl [Hg]; · iexact Hg
    iexact Hg'
  · iexact HR

end Cert.KernelIdeal.Hand
-- ==== Proof.RealBody.lean ====
module

public import proofs.«01_k».proof.Proof.RealTrip

/-!
The run of a whole block: the weights are read, the block of both initial arrays is staged into the tree buffers,
node 0 is computed, the node loop runs, and the hidden tree is staged out into the block's rows of the result.
-/

@[expose] public section

noncomputable section

namespace Cert.KernelIdeal.Hand

open Idealize.ShloMosaic Idealize.ShloMosaic.TcCoe Idealize.ShloMosaic.Tactic
open Idealize.SL
open Idealize.SL.RA Idealize.SL.Sem Idealize.SL.ProofMode
open Idealize.SL.BI (sProp)
open scoped Idealize.SL.BI
open Idealize.SL.BI.BIBase Idealize.SL.BI.Laws
open Cert.KernelIdeal Cert.KernelIdeal.Gen Cert.TreeGather

variable {F : FTy → Type} [FloatOps F]
variable {Name : Type} [DecidableEq Name] [Infinite Name] {U : Type} [URA U] [CountersIn U] {Lvl : Type} [Preorder Lvl]

variable (i : grid0.Coords) (arg1 : Memref sig .tc .vmem S256x128 .f32) (harg1 : arg1.IsWhole) (arg2 : Memref sig .tc .smem S128x256 .i32) (harg2 : arg2.IsWhole)
  (arg3 : Memref sig .tc .vmem S128x384 .f32) (harg3 : arg3.IsWhole) (arg4 : Memref sig .tc .vmem S1x384 .f32) (harg4 : arg4.IsWhole) (arg5 : Memref sig .tc .vmem S128x128 .f32) (harg5 : arg5.IsWhole)
  (arg6 : Memref sig .tc .vmem S128x128 .f32) (harg6 : arg6.IsWhole) (arg7 : Memref sig .tc .vmem S128x128 .f32) (harg7 : arg7.IsWhole) (arg8 : Memref sig .tc .hbm S1024x128x128 .f32) (harg8 : arg8.IsWhole)
  (arg9 : Memref sig .tc .hbm S1024x128x128 .f32) (harg9 : arg9.IsWhole) (arg10 : Memref sig .tc .hbm S1024x128x128 .f32) (harg10 : arg10.IsWhole) (arg11 : Memref sig .tc .vmem S128x256x128 .f32) (harg11 : arg11.IsWhole)
  (arg12 : Memref sig .tc .vmem S128x256x128 .f32) (harg12 : arg12.IsWhole) (arg13 : Memref sig .tc .vmem S1x256x128 .f32) (harg13 : arg13.IsWhole) (arg14 : Memref sig .tc .vmem S1x256x128 .f32) (harg14 : arg14.IsWhole)
  (arg15 : Memref sig .tc .vmem S2x256x8x128 .f32) (harg15 : arg15.IsWhole) (arg16 : DmaSems sig S_) (arg17 : DmaSems sig S_)

local notation "𝕄" => MT nD τ sig Unit (Elt F) Name U Lvl

/-- The recurrent weights, side by side. -/
def wRec (V5 V6 V7 : S128x128.Idx → Elt F .f32) : FVec F S128x384 .f32 := k0_pay516 V5 V6 V7

/-- The contribution of a block's embedding to the three gates. -/
def gIn (E : S256x128.Idx → Elt F .f32) (V3 : S128x384.Idx → Elt F .f32) (V4 : S1x384.Idx → Elt F .f32) : FVec F S256x384 .f32 := k0_pay517 E V3 V4

/-- Node 0 of the hidden tree. -/
def rootH (E : S256x128.Idx → Elt F .f32) (V3 : S128x384.Idx → Elt F .f32) (V4 : S1x384.Idx → Elt F .f32) : FVec F S1x256x128 .f32 :=
  k0_pay554 (k0_pay519 E V3 V4)

/-- Node 0 of the cell tree. -/
def rootC (E : S256x128.Idx → Elt F .f32) (V3 : S128x384.Idx → Elt F .f32) (V4 : S1x384.Idx → Elt F .f32) : FVec F S1x256x128 .f32 :=
  k0_pay555 (k0_pay518 E V3 V4)

/-- The tree buffers after the node loop. -/
def final (N : SN.Idx → Elt F .i32) (E : S256x128.Idx → Elt F .f32) (V3 : S128x384.Idx → Elt F .f32) (V4 : S1x384.Idx → Elt F .f32)
    (V5 V6 V7 : S128x128.Idx → Elt F .f32) (X8 X9 : SH.Idx → Elt F .f32) (b : ℕ) : (SA.Idx → Elt F .f32) × (SA.Idx → Elt F .f32) :=
  trees (newH (wRec V5 V6 V7) (gIn E V3 V4)) (newC (wRec V5 V6 V7) (gIn E V3 V4)) N
    (upd (block X8 b) 0 (rootH E V3 V4)) (upd (block X9 b) 0 (rootC E V3 V4)) 127

/-- The slot of the staging buffer for even chunks. -/
abbrev slot0 (arg15 : Memref sig .tc .vmem S2x256x8x128 .f32) : Memref sig .tc .vmem S256x8x128 .f32 :=
  (arg15.slice (Rect.unit (s := S2x256x8x128) ![0, 0, 0, 0] S1x256x8x128.size inb_S2x256x8x128_S1x256x8x128_0_0_0_0) (fun _ => rfl)).squeeze S256x8x128 squeezes_S1x256x8x128_S256x8x128

/-- The slot for odd chunks. -/
abbrev slot1 (arg15 : Memref sig .tc .vmem S2x256x8x128 .f32) : Memref sig .tc .vmem S256x8x128 .f32 :=
  (arg15.slice (Rect.unit (s := S2x256x8x128) ![1, 0, 0, 0] S1x256x8x128.size inb_S2x256x8x128_S1x256x8x128_1_0_0_0) (fun _ => rfl)).squeeze S256x8x128 squeezes_S1x256x8x128_S256x8x128

set_option maxRecDepth 65536 in
set_option maxHeartbeats 40000000 in
/-- The body of a block: from the block's windows, the initial arrays and a result at `old`, to the result with the
    block's rows replaced by the final hidden tree. -/
theorem body_run (c : Dev nD) (N : SN.Idx → Elt F .i32) (hN : ∀ y, (N y : BitVec 32).toNat < 128)
    (E : S256x128.Idx → Elt F .f32) (V3 : S128x384.Idx → Elt F .f32) (V4 : S1x384.Idx → Elt F .f32)
    (V5 V6 V7 : S128x128.Idx → Elt F .f32) (X8 X9 old : SH.Idx → Elt F .f32) (hb : 256 * (i 0).val + 256 ≤ 1024)
    {Q : PUnit → sProp (MT nD τ sig Unit (Elt F) Name U Lvl)}
    (hQ : (Bx (c : Thread nD τ)
        (Held (c : Thread nD τ) arg16.sem (Hs (c : Thread nD τ) arg8 arg9 arg10 fullShare.left X8 X9 (256 * (i 0).val) 0 (prog (final N E V3 V4 V5 V6 V7 X8 X9 (256 * (i 0).val)).1 old (256 * (i 0).val) (112 + 16)) (slot0 arg15) (fun _ => True)))
        (Held (c : Thread nD τ) arg17.sem (Hs (c : Thread nD τ) arg8 arg9 arg10 fullShare.right X8 X9 (256 * (i 0).val) 1 (prog (final N E V3 V4 V5 V6 V7 X8 X9 (256 * (i 0).val)).1 old (256 * (i 0).val) (120 + 16)) (slot1 arg15) (fun _ => True)))
        (owns (c : Thread nD τ) arg11 fullShare (final N E V3 V4 V5 V6 V7 X8 X9 (256 * (i 0).val)).1)
        (owns (c : Thread nD τ) arg12 fullShare (final N E V3 V4 V5 V6 V7 X8 X9 (256 * (i 0).val)).2)
        iprop((owns (c : Thread nD τ) arg2 fullShare N ∗ (∃ g, owns (c : Thread nD τ) arg13 fullShare g) ∗ (∃ g, owns (c : Thread nD τ) arg14 fullShare g))
          ∗ (owns (c : Thread nD τ) arg1 fullShare E ∗ owns (c : Thread nD τ) arg3 fullShare V3 ∗ owns (c : Thread nD τ) arg4 fullShare V4
            ∗ owns (c : Thread nD τ) arg5 fullShare V5 ∗ owns (c : Thread nD τ) arg6 fullShare V6 ∗ owns (c : Thread nD τ) arg7 fullShare V7)) : sProp 𝕄)
      ⊢ Q ⟨⟩) :
    (Bx (c : Thread nD τ)
        (Held (c : Thread nD τ) arg16.sem (Hs (c : Thread nD τ) arg8 arg9 arg10 fullShare.left X8 X9 (256 * (i 0).val) 0 old (slot0 arg15) (fun _ => True)))
        (Held (c : Thread nD τ) arg17.sem (Hs (c : Thread nD τ) arg8 arg9 arg10 fullShare.right X8 X9 (256 * (i 0).val) 1 old (slot1 arg15) (fun _ => True)))
        (TreeIn (c : Thread nD τ) arg11 X8 (256 * (i 0).val) 0)
        (TreeIn (c : Thread nD τ) arg12 X9 (256 * (i 0).val) 0)
        iprop((owns (c : Thread nD τ) arg2 fullShare N ∗ (∃ g, owns (c : Thread nD τ) arg13 fullShare g) ∗ (∃ g, owns (c : Thread nD τ) arg14 fullShare g))
          ∗ (owns (c : Thread nD τ) arg1 fullShare E ∗ owns (c : Thread nD τ) arg3 fullShare V3 ∗ owns (c : Thread nD τ) arg4 fullShare V4
            ∗ owns (c : Thread nD τ) arg5 fullShare V5 ∗ owns (c : Thread nD τ) arg6 fullShare V6 ∗ owns (c : Thread nD τ) arg7 fullShare V7)) : sProp 𝕄)
      ⊢ wp frame (wpE (defs₀ (F := F)) Variants.none (c : Thread nD τ) none) Set.univ
          (cc0__kernel_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17) Q := by
  rw [cc0__kernel_body_eq_skeleton]; unfold cc0__kernel_body_skel
  with_reducible refine step_bind ?_
  rw [k0_part114_eq_skeleton]; unfold k0_part114_skel
  with_reducible apply step_win5
  case h0 => decide
  with_reducible apply step_win6
  case h0 => decide
  with_reducible apply step_win7
  case h0 => decide
  with_reducible apply step_win1
  case h0 => decide
  with_reducible apply step_win3
  case h0 => decide
  with_reducible apply step_win4
  case h0 => decide
  repeat (first
    | (with_reducible apply step_loaded
       case hb => exact hb)
    | (with_reducible apply step_startA
       case hoff => with_reducible first | exact k0_off1_eq _ | exact k0_off2_eq _ | exact k0_off3_eq _ | exact k0_off4_eq _ | exact k0_off5_eq _ | exact k0_off6_eq _ | exact k0_off7_eq _ | exact k0_off8_eq _ | exact k0_off9_eq _ | exact k0_off10_eq _ | exact k0_off11_eq _ | exact k0_off12_eq _ | exact k0_off13_eq _ | exact k0_off14_eq _ | exact k0_off15_eq _ | exact k0_off16_eq _)
    | (with_reducible apply step_startA'
       case hoff => with_reducible first | exact k0_off1_eq _ | exact k0_off2_eq _ | exact k0_off3_eq _ | exact k0_off4_eq _ | exact k0_off5_eq _ | exact k0_off6_eq _ | exact k0_off7_eq _ | exact k0_off8_eq _ | exact k0_off9_eq _ | exact k0_off10_eq _ | exact k0_off11_eq _ | exact k0_off12_eq _ | exact k0_off13_eq _ | exact k0_off14_eq _ | exact k0_off15_eq _ | exact k0_off16_eq _)
    | (with_reducible apply step_startB
       case hoff => with_reducible first | exact k0_off1_eq _ | exact k0_off2_eq _ | exact k0_off3_eq _ | exact k0_off4_eq _ | exact k0_off5_eq _ | exact k0_off6_eq _ | exact k0_off7_eq _ | exact k0_off8_eq _ | exact k0_off9_eq _ | exact k0_off10_eq _ | exact k0_off11_eq _ | exact k0_off12_eq _ | exact k0_off13_eq _ | exact k0_off14_eq _ | exact k0_off15_eq _ | exact k0_off16_eq _)
    | (with_reducible apply step_startB'
       case hoff => with_reducible first | exact k0_off1_eq _ | exact k0_off2_eq _ | exact k0_off3_eq _ | exact k0_off4_eq _ | exact k0_off5_eq _ | exact k0_off6_eq _ | exact k0_off7_eq _ | exact k0_off8_eq _ | exact k0_off9_eq _ | exact k0_off10_eq _ | exact k0_off11_eq _ | exact k0_off12_eq _ | exact k0_off13_eq _ | exact k0_off14_eq _ | exact k0_off15_eq _ | exact k0_off16_eq _)
    | (with_reducible apply step_wait
       case hN => exact rfl)
    | (with_reducible apply step_wait'
       case hN => exact rfl)
    | (with_reducible apply step_slot
       intro v hv)
    | (with_reducible apply step_slot'
       intro v hv)
    | (with_reducible apply step_idle
       intro v)
    | (with_reducible apply step_idle'
       intro v)
    | (with_reducible apply step_put
       case hoff => exact rfl
       case hn => exact rfl
       case hw =>
         dsimp only [k0_pay520, k0_pay521, k0_pay522, k0_pay523, k0_pay524, k0_pay525, k0_pay526, k0_pay527, k0_pay528, k0_pay529, k0_pay530, k0_pay531, k0_pay532, k0_pay533, k0_pay534, k0_pay535, k0_pay536, k0_pay537, k0_pay538, k0_pay539, k0_pay540, k0_pay541, k0_pay542, k0_pay543, k0_pay544, k0_pay545, k0_pay546, k0_pay547, k0_pay548, k0_pay549, k0_pay550, k0_pay551, k0_pay552, k0_pay553]
         exact pay_in (by with_reducible assumption))
    | (with_reducible apply step_put'
       case hoff => exact rfl
       case hn => exact rfl
       case hw =>
         dsimp only [k0_pay520, k0_pay521, k0_pay522, k0_pay523, k0_pay524, k0_pay525, k0_pay526, k0_pay527, k0_pay528, k0_pay529, k0_pay530, k0_pay531, k0_pay532, k0_pay533, k0_pay534, k0_pay535, k0_pay536, k0_pay537, k0_pay538, k0_pay539, k0_pay540, k0_pay541, k0_pay542, k0_pay543, k0_pay544, k0_pay545, k0_pay546, k0_pay547, k0_pay548, k0_pay549, k0_pay550, k0_pay551, k0_pay552, k0_pay553]
         exact pay_in (by with_reducible assumption))
    | (with_reducible apply step_get
       case hoff => exact rfl
       intro v hv)
    | (with_reducible apply step_fill
       case hw =>
         dsimp only [k0_pay559, k0_pay560, k0_pay561, k0_pay562, k0_pay563, k0_pay564, k0_pay565, k0_pay566, k0_pay567, k0_pay568, k0_pay569, k0_pay570, k0_pay571, k0_pay572, k0_pay573, k0_pay574, k0_pay575, k0_pay576]
         exact pay_out (by with_reducible assumption))
    | (with_reducible apply step_fill'
       case hw =>
         dsimp only [k0_pay559, k0_pay560, k0_pay561, k0_pay562, k0_pay563, k0_pay564, k0_pay565, k0_pay566, k0_pay567, k0_pay568, k0_pay569, k0_pay570, k0_pay571, k0_pay572, k0_pay573, k0_pay574, k0_pay575, k0_pay576]
         exact pay_out (by with_reducible assumption))
    | (with_reducible apply step_send
       case hoff => with_reducible first | exact k0_off1_eq _ | exact k0_off2_eq _ | exact k0_off3_eq _ | exact k0_off4_eq _ | exact k0_off5_eq _ | exact k0_off6_eq _ | exact k0_off7_eq _ | exact k0_off8_eq _ | exact k0_off9_eq _ | exact k0_off10_eq _ | exact k0_off11_eq _ | exact k0_off12_eq _ | exact k0_off13_eq _ | exact k0_off14_eq _ | exact k0_off15_eq _ | exact k0_off16_eq _
       case he => exact rfl
       case hm => decide
       case hm' => decide)
    | (with_reducible apply step_send'
       case hoff => with_reducible first | exact k0_off1_eq _ | exact k0_off2_eq _ | exact k0_off3_eq _ | exact k0_off4_eq _ | exact k0_off5_eq _ | exact k0_off6_eq _ | exact k0_off7_eq _ | exact k0_off8_eq _ | exact k0_off9_eq _ | exact k0_off10_eq _ | exact k0_off11_eq _ | exact k0_off12_eq _ | exact k0_off13_eq _ | exact k0_off14_eq _ | exact k0_off15_eq _ | exact k0_off16_eq _
       case he => exact rfl
       case hm => decide
       case hm' => decide)
    | with_reducible apply step_pure
    | (fail_if_success (with_reducible refine step_bind (p := Prog.lift _) ?_)
       with_reducible refine step_bind ?_
       first
         | (rw [k0_part114_eq_skeleton]; unfold k0_part114_skel)
         | (rw [k0_part115_eq_skeleton]; unfold k0_part115_skel)
         | (rw [k0_part116_eq_skeleton]; unfold k0_part116_skel)
         | (rw [k0_part117_eq_skeleton]; unfold k0_part117_skel)
         | (rw [k0_part118_eq_skeleton]; unfold k0_part118_skel)
         | (rw [k0_part119_eq_skeleton]; unfold k0_part119_skel)
         | (rw [k0_part120_eq_skeleton]; unfold k0_part120_skel)
         | (rw [k0_part121_eq_skeleton]; unfold k0_part121_skel)
         | (rw [k0_part122_eq_skeleton]; unfold k0_part122_skel)
         | (rw [k0_part123_eq_skeleton]; unfold k0_part123_skel)
         | (rw [k0_part124_eq_skeleton]; unfold k0_part124_skel)
         | (rw [k0_part125_eq_skeleton]; unfold k0_part125_skel)
         | (rw [k0_part126_eq_skeleton]; unfold k0_part126_skel)
         | (rw [k0_part127_eq_skeleton]; unfold k0_part127_skel)
         | (rw [k0_part128_eq_skeleton]; unfold k0_part128_skel)
         | (rw [k0_part129_eq_skeleton]; unfold k0_part129_skel)
         | (rw [k0_part130_eq_skeleton]; unfold k0_part130_skel)
         | (rw [k0_part131_eq_skeleton]; unfold k0_part131_skel)
         | (rw [k0_part132_eq_skeleton]; unfold k0_part132_skel)
         | (rw [k0_part133_eq_skeleton]; unfold k0_part133_skel)
         | (rw [k0_part134_eq_skeleton]; unfold k0_part134_skel)
         | (rw [k0_part135_eq_skeleton]; unfold k0_part135_skel)
         | (rw [k0_part136_eq_skeleton]; unfold k0_part136_skel)
         | (rw [k0_part137_eq_skeleton]; unfold k0_part137_skel)
         | (rw [k0_part138_eq_skeleton]; unfold k0_part138_skel)
         | (rw [k0_part139_eq_skeleton]; unfold k0_part139_skel)
         | (rw [k0_part140_eq_skeleton]; unfold k0_part140_skel)
         | (rw [k0_part141_eq_skeleton]; unfold k0_part141_skel)
         | (rw [k0_part142_eq_skeleton]; unfold k0_part142_skel)
         | (rw [k0_part143_eq_skeleton]; unfold k0_part143_skel)
         | (rw [k0_part144_eq_skeleton]; unfold k0_part144_skel))
    | (with_reducible refine step_tail ?_
       first
         | (with_reducible apply step_startA
            case hoff => with_reducible first | exact k0_off1_eq _ | exact k0_off2_eq _ | exact k0_off3_eq _ | exact k0_off4_eq _ | exact k0_off5_eq _ | exact k0_off6_eq _ | exact k0_off7_eq _ | exact k0_off8_eq _ | exact k0_off9_eq _ | exact k0_off10_eq _ | exact k0_off11_eq _ | exact k0_off12_eq _ | exact k0_off13_eq _ | exact k0_off14_eq _ | exact k0_off15_eq _ | exact k0_off16_eq _)
         | (with_reducible apply step_startA'
            case hoff => with_reducible first | exact k0_off1_eq _ | exact k0_off2_eq _ | exact k0_off3_eq _ | exact k0_off4_eq _ | exact k0_off5_eq _ | exact k0_off6_eq _ | exact k0_off7_eq _ | exact k0_off8_eq _ | exact k0_off9_eq _ | exact k0_off10_eq _ | exact k0_off11_eq _ | exact k0_off12_eq _ | exact k0_off13_eq _ | exact k0_off14_eq _ | exact k0_off15_eq _ | exact k0_off16_eq _)
         | (with_reducible apply step_startB
            case hoff => with_reducible first | exact k0_off1_eq _ | exact k0_off2_eq _ | exact k0_off3_eq _ | exact k0_off4_eq _ | exact k0_off5_eq _ | exact k0_off6_eq _ | exact k0_off7_eq _ | exact k0_off8_eq _ | exact k0_off9_eq _ | exact k0_off10_eq _ | exact k0_off11_eq _ | exact k0_off12_eq _ | exact k0_off13_eq _ | exact k0_off14_eq _ | exact k0_off15_eq _ | exact k0_off16_eq _)
         | (with_reducible apply step_startB'
            case hoff => with_reducible first | exact k0_off1_eq _ | exact k0_off2_eq _ | exact k0_off3_eq _ | exact k0_off4_eq _ | exact k0_off5_eq _ | exact k0_off6_eq _ | exact k0_off7_eq _ | exact k0_off8_eq _ | exact k0_off9_eq _ | exact k0_off10_eq _ | exact k0_off11_eq _ | exact k0_off12_eq _ | exact k0_off13_eq _ | exact k0_off14_eq _ | exact k0_off15_eq _ | exact k0_off16_eq _)
         | (with_reducible apply step_wait
            case hN => exact rfl)
         | (with_reducible apply step_wait'
            case hN => exact rfl)
         | (with_reducible apply step_slot
            intro v hv)
         | (with_reducible apply step_slot'
            intro v hv)
         | (with_reducible apply step_idle
            intro v)
         | (with_reducible apply step_idle'
            intro v)
         | (with_reducible apply step_put
            case hoff => exact rfl
            case hn => exact rfl
            case hw =>
              dsimp only [k0_pay520, k0_pay521, k0_pay522, k0_pay523, k0_pay524, k0_pay525, k0_pay526, k0_pay527, k0_pay528, k0_pay529, k0_pay530, k0_pay531, k0_pay532, k0_pay533, k0_pay534, k0_pay535, k0_pay536, k0_pay537, k0_pay538, k0_pay539, k0_pay540, k0_pay541, k0_pay542, k0_pay543, k0_pay544, k0_pay545, k0_pay546, k0_pay547, k0_pay548, k0_pay549, k0_pay550, k0_pay551, k0_pay552, k0_pay553]
              exact pay_in (by with_reducible assumption))
         | (with_reducible apply step_put'
            case hoff => exact rfl
            case hn => exact rfl
            case hw =>
              dsimp only [k0_pay520, k0_pay521, k0_pay522, k0_pay523, k0_pay524, k0_pay525, k0_pay526, k0_pay527, k0_pay528, k0_pay529, k0_pay530, k0_pay531, k0_pay532, k0_pay533, k0_pay534, k0_pay535, k0_pay536, k0_pay537, k0_pay538, k0_pay539, k0_pay540, k0_pay541, k0_pay542, k0_pay543, k0_pay544, k0_pay545, k0_pay546, k0_pay547, k0_pay548, k0_pay549, k0_pay550, k0_pay551, k0_pay552, k0_pay553]
              exact pay_in (by with_reducible assumption))
         | (with_reducible apply step_get
            case hoff => exact rfl
            intro v hv)
         | (with_reducible apply step_fill
            case hw =>
              dsimp only [k0_pay559, k0_pay560, k0_pay561, k0_pay562, k0_pay563, k0_pay564, k0_pay565, k0_pay566, k0_pay567, k0_pay568, k0_pay569, k0_pay570, k0_pay571, k0_pay572, k0_pay573, k0_pay574, k0_pay575, k0_pay576]
              exact pay_out (by with_reducible assumption))
         | (with_reducible apply step_fill'
            case hw =>
              dsimp only [k0_pay559, k0_pay560, k0_pay561, k0_pay562, k0_pay563, k0_pay564, k0_pay565, k0_pay566, k0_pay567, k0_pay568, k0_pay569, k0_pay570, k0_pay571, k0_pay572, k0_pay573, k0_pay574, k0_pay575, k0_pay576]
              exact pay_out (by with_reducible assumption))
         | (with_reducible apply step_send
            case hoff => with_reducible first | exact k0_off1_eq _ | exact k0_off2_eq _ | exact k0_off3_eq _ | exact k0_off4_eq _ | exact k0_off5_eq _ | exact k0_off6_eq _ | exact k0_off7_eq _ | exact k0_off8_eq _ | exact k0_off9_eq _ | exact k0_off10_eq _ | exact k0_off11_eq _ | exact k0_off12_eq _ | exact k0_off13_eq _ | exact k0_off14_eq _ | exact k0_off15_eq _ | exact k0_off16_eq _
            case he => exact rfl
            case hm => decide
            case hm' => decide)
         | (with_reducible apply step_send'
            case hoff => with_reducible first | exact k0_off1_eq _ | exact k0_off2_eq _ | exact k0_off3_eq _ | exact k0_off4_eq _ | exact k0_off5_eq _ | exact k0_off6_eq _ | exact k0_off7_eq _ | exact k0_off8_eq _ | exact k0_off9_eq _ | exact k0_off10_eq _ | exact k0_off11_eq _ | exact k0_off12_eq _ | exact k0_off13_eq _ | exact k0_off14_eq _ | exact k0_off15_eq _ | exact k0_off16_eq _
            case he => exact rfl
            case hm => decide
            case hm' => decide)))

  with_reducible apply step_peek
  intro v
  with_reducible apply step_node
  case hoff => exact rfl
  with_reducible apply step_peek'
  intro v
  with_reducible apply step_node'
  case hoff => exact rfl
  refine step_loop i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 c N hN _ _ _ _ _ _ _ _ ?_
  with_reducible apply step_ready
  repeat (first
    | (with_reducible apply step_loaded
       case hb => exact hb)
    | (with_reducible apply step_startA
       case hoff => with_reducible first | exact k0_off1_eq _ | exact k0_off2_eq _ | exact k0_off3_eq _ | exact k0_off4_eq _ | exact k0_off5_eq _ | exact k0_off6_eq _ | exact k0_off7_eq _ | exact k0_off8_eq _ | exact k0_off9_eq _ | exact k0_off10_eq _ | exact k0_off11_eq _ | exact k0_off12_eq _ | exact k0_off13_eq _ | exact k0_off14_eq _ | exact k0_off15_eq _ | exact k0_off16_eq _)
    | (with_reducible apply step_startA'
       case hoff => with_reducible first | exact k0_off1_eq _ | exact k0_off2_eq _ | exact k0_off3_eq _ | exact k0_off4_eq _ | exact k0_off5_eq _ | exact k0_off6_eq _ | exact k0_off7_eq _ | exact k0_off8_eq _ | exact k0_off9_eq _ | exact k0_off10_eq _ | exact k0_off11_eq _ | exact k0_off12_eq _ | exact k0_off13_eq _ | exact k0_off14_eq _ | exact k0_off15_eq _ | exact k0_off16_eq _)
    | (with_reducible apply step_startB
       case hoff => with_reducible first | exact k0_off1_eq _ | exact k0_off2_eq _ | exact k0_off3_eq _ | exact k0_off4_eq _ | exact k0_off5_eq _ | exact k0_off6_eq _ | exact k0_off7_eq _ | exact k0_off8_eq _ | exact k0_off9_eq _ | exact k0_off10_eq _ | exact k0_off11_eq _ | exact k0_off12_eq _ | exact k0_off13_eq _ | exact k0_off14_eq _ | exact k0_off15_eq _ | exact k0_off16_eq _)
    | (with_reducible apply step_startB'
       case hoff => with_reducible first | exact k0_off1_eq _ | exact k0_off2_eq _ | exact k0_off3_eq _ | exact k0_off4_eq _ | exact k0_off5_eq _ | exact k0_off6_eq _ | exact k0_off7_eq _ | exact k0_off8_eq _ | exact k0_off9_eq _ | exact k0_off10_eq _ | exact k0_off11_eq _ | exact k0_off12_eq _ | exact k0_off13_eq _ | exact k0_off14_eq _ | exact k0_off15_eq _ | exact k0_off16_eq _)
    | (with_reducible apply step_wait
       case hN => exact rfl)
    | (with_reducible apply step_wait'
       case hN => exact rfl)
    | (with_reducible apply step_slot
       intro v hv)
    | (with_reducible apply step_slot'
       intro v hv)
    | (with_reducible apply step_idle
       intro v)
    | (with_reducible apply step_idle'
       intro v)
    | (with_reducible apply step_put
       case hoff => exact rfl
       case hn => exact rfl
       case hw =>
         dsimp only [k0_pay520, k0_pay521, k0_pay522, k0_pay523, k0_pay524, k0_pay525, k0_pay526, k0_pay527, k0_pay528, k0_pay529, k0_pay530, k0_pay531, k0_pay532, k0_pay533, k0_pay534, k0_pay535, k0_pay536, k0_pay537, k0_pay538, k0_pay539, k0_pay540, k0_pay541, k0_pay542, k0_pay543, k0_pay544, k0_pay545, k0_pay546, k0_pay547, k0_pay548, k0_pay549, k0_pay550, k0_pay551, k0_pay552, k0_pay553]
         exact pay_in (by with_reducible assumption))
    | (with_reducible apply step_put'
       case hoff => exact rfl
       case hn => exact rfl
       case hw =>
         dsimp only [k0_pay520, k0_pay521, k0_pay522, k0_pay523, k0_pay524, k0_pay525, k0_pay526, k0_pay527, k0_pay528, k0_pay529, k0_pay530, k0_pay531, k0_pay532, k0_pay533, k0_pay534, k0_pay535, k0_pay536, k0_pay537, k0_pay538, k0_pay539, k0_pay540, k0_pay541, k0_pay542, k0_pay543, k0_pay544, k0_pay545, k0_pay546, k0_pay547, k0_pay548, k0_pay549, k0_pay550, k0_pay551, k0_pay552, k0_pay553]
         exact pay_in (by with_reducible assumption))
    | (with_reducible apply step_get
       case hoff => exact rfl
       intro v hv)
    | (with_reducible apply step_fill
       case hw =>
         dsimp only [k0_pay559, k0_pay560, k0_pay561, k0_pay562, k0_pay563, k0_pay564, k0_pay565, k0_pay566, k0_pay567, k0_pay568, k0_pay569, k0_pay570, k0_pay571, k0_pay572, k0_pay573, k0_pay574, k0_pay575, k0_pay576]
         exact pay_out (by with_reducible assumption))
    | (with_reducible apply step_fill'
       case hw =>
         dsimp only [k0_pay559, k0_pay560, k0_pay561, k0_pay562, k0_pay563, k0_pay564, k0_pay565, k0_pay566, k0_pay567, k0_pay568, k0_pay569, k0_pay570, k0_pay571, k0_pay572, k0_pay573, k0_pay574, k0_pay575, k0_pay576]
         exact pay_out (by with_reducible assumption))
    | (with_reducible apply step_send
       case hoff => with_reducible first | exact k0_off1_eq _ | exact k0_off2_eq _ | exact k0_off3_eq _ | exact k0_off4_eq _ | exact k0_off5_eq _ | exact k0_off6_eq _ | exact k0_off7_eq _ | exact k0_off8_eq _ | exact k0_off9_eq _ | exact k0_off10_eq _ | exact k0_off11_eq _ | exact k0_off12_eq _ | exact k0_off13_eq _ | exact k0_off14_eq _ | exact k0_off15_eq _ | exact k0_off16_eq _
       case he => exact rfl
       case hm => decide
       case hm' => decide)
    | (with_reducible apply step_send'
       case hoff => with_reducible first | exact k0_off1_eq _ | exact k0_off2_eq _ | exact k0_off3_eq _ | exact k0_off4_eq _ | exact k0_off5_eq _ | exact k0_off6_eq _ | exact k0_off7_eq _ | exact k0_off8_eq _ | exact k0_off9_eq _ | exact k0_off10_eq _ | exact k0_off11_eq _ | exact k0_off12_eq _ | exact k0_off13_eq _ | exact k0_off14_eq _ | exact k0_off15_eq _ | exact k0_off16_eq _
       case he => exact rfl
       case hm => decide
       case hm' => decide)
    | with_reducible apply step_pure
    | (fail_if_success (with_reducible refine step_bind (p := Prog.lift _) ?_)
       with_reducible refine step_bind ?_
       first
         | (rw [k0_part114_eq_skeleton]; unfold k0_part114_skel)
         | (rw [k0_part115_eq_skeleton]; unfold k0_part115_skel)
         | (rw [k0_part116_eq_skeleton]; unfold k0_part116_skel)
         | (rw [k0_part117_eq_skeleton]; unfold k0_part117_skel)
         | (rw [k0_part118_eq_skeleton]; unfold k0_part118_skel)
         | (rw [k0_part119_eq_skeleton]; unfold k0_part119_skel)
         | (rw [k0_part120_eq_skeleton]; unfold k0_part120_skel)
         | (rw [k0_part121_eq_skeleton]; unfold k0_part121_skel)
         | (rw [k0_part122_eq_skeleton]; unfold k0_part122_skel)
         | (rw [k0_part123_eq_skeleton]; unfold k0_part123_skel)
         | (rw [k0_part124_eq_skeleton]; unfold k0_part124_skel)
         | (rw [k0_part125_eq_skeleton]; unfold k0_part125_skel)
         | (rw [k0_part126_eq_skeleton]; unfold k0_part126_skel)
         | (rw [k0_part127_eq_skeleton]; unfold k0_part127_skel)
         | (rw [k0_part128_eq_skeleton]; unfold k0_part128_skel)
         | (rw [k0_part129_eq_skeleton]; unfold k0_part129_skel)
         | (rw [k0_part130_eq_skeleton]; unfold k0_part130_skel)
         | (rw [k0_part131_eq_skeleton]; unfold k0_part131_skel)
         | (rw [k0_part132_eq_skeleton]; unfold k0_part132_skel)
         | (rw [k0_part133_eq_skeleton]; unfold k0_part133_skel)
         | (rw [k0_part134_eq_skeleton]; unfold k0_part134_skel)
         | (rw [k0_part135_eq_skeleton]; unfold k0_part135_skel)
         | (rw [k0_part136_eq_skeleton]; unfold k0_part136_skel)
         | (rw [k0_part137_eq_skeleton]; unfold k0_part137_skel)
         | (rw [k0_part138_eq_skeleton]; unfold k0_part138_skel)
         | (rw [k0_part139_eq_skeleton]; unfold k0_part139_skel)
         | (rw [k0_part140_eq_skeleton]; unfold k0_part140_skel)
         | (rw [k0_part141_eq_skeleton]; unfold k0_part141_skel)
         | (rw [k0_part142_eq_skeleton]; unfold k0_part142_skel)
         | (rw [k0_part143_eq_skeleton]; unfold k0_part143_skel)
         | (rw [k0_part144_eq_skeleton]; unfold k0_part144_skel))
    | (with_reducible refine step_tail ?_
       first
         | (with_reducible apply step_startA
            case hoff => with_reducible first | exact k0_off1_eq _ | exact k0_off2_eq _ | exact k0_off3_eq _ | exact k0_off4_eq _ | exact k0_off5_eq _ | exact k0_off6_eq _ | exact k0_off7_eq _ | exact k0_off8_eq _ | exact k0_off9_eq _ | exact k0_off10_eq _ | exact k0_off11_eq _ | exact k0_off12_eq _ | exact k0_off13_eq _ | exact k0_off14_eq _ | exact k0_off15_eq _ | exact k0_off16_eq _)
         | (with_reducible apply step_startA'
            case hoff => with_reducible first | exact k0_off1_eq _ | exact k0_off2_eq _ | exact k0_off3_eq _ | exact k0_off4_eq _ | exact k0_off5_eq _ | exact k0_off6_eq _ | exact k0_off7_eq _ | exact k0_off8_eq _ | exact k0_off9_eq _ | exact k0_off10_eq _ | exact k0_off11_eq _ | exact k0_off12_eq _ | exact k0_off13_eq _ | exact k0_off14_eq _ | exact k0_off15_eq _ | exact k0_off16_eq _)
         | (with_reducible apply step_startB
            case hoff => with_reducible first | exact k0_off1_eq _ | exact k0_off2_eq _ | exact k0_off3_eq _ | exact k0_off4_eq _ | exact k0_off5_eq _ | exact k0_off6_eq _ | exact k0_off7_eq _ | exact k0_off8_eq _ | exact k0_off9_eq _ | exact k0_off10_eq _ | exact k0_off11_eq _ | exact k0_off12_eq _ | exact k0_off13_eq _ | exact k0_off14_eq _ | exact k0_off15_eq _ | exact k0_off16_eq _)
         | (with_reducible apply step_startB'
            case hoff => with_reducible first | exact k0_off1_eq _ | exact k0_off2_eq _ | exact k0_off3_eq _ | exact k0_off4_eq _ | exact k0_off5_eq _ | exact k0_off6_eq _ | exact k0_off7_eq _ | exact k0_off8_eq _ | exact k0_off9_eq _ | exact k0_off10_eq _ | exact k0_off11_eq _ | exact k0_off12_eq _ | exact k0_off13_eq _ | exact k0_off14_eq _ | exact k0_off15_eq _ | exact k0_off16_eq _)
         | (with_reducible apply step_wait
            case hN => exact rfl)
         | (with_reducible apply step_wait'
            case hN => exact rfl)
         | (with_reducible apply step_slot
            intro v hv)
         | (with_reducible apply step_slot'
            intro v hv)
         | (with_reducible apply step_idle
            intro v)
         | (with_reducible apply step_idle'
            intro v)
         | (with_reducible apply step_put
            case hoff => exact rfl
            case hn => exact rfl
            case hw =>
              dsimp only [k0_pay520, k0_pay521, k0_pay522, k0_pay523, k0_pay524, k0_pay525, k0_pay526, k0_pay527, k0_pay528, k0_pay529, k0_pay530, k0_pay531, k0_pay532, k0_pay533, k0_pay534, k0_pay535, k0_pay536, k0_pay537, k0_pay538, k0_pay539, k0_pay540, k0_pay541, k0_pay542, k0_pay543, k0_pay544, k0_pay545, k0_pay546, k0_pay547, k0_pay548, k0_pay549, k0_pay550, k0_pay551, k0_pay552, k0_pay553]
              exact pay_in (by with_reducible assumption))
         | (with_reducible apply step_put'
            case hoff => exact rfl
            case hn => exact rfl
            case hw =>
              dsimp only [k0_pay520, k0_pay521, k0_pay522, k0_pay523, k0_pay524, k0_pay525, k0_pay526, k0_pay527, k0_pay528, k0_pay529, k0_pay530, k0_pay531, k0_pay532, k0_pay533, k0_pay534, k0_pay535, k0_pay536, k0_pay537, k0_pay538, k0_pay539, k0_pay540, k0_pay541, k0_pay542, k0_pay543, k0_pay544, k0_pay545, k0_pay546, k0_pay547, k0_pay548, k0_pay549, k0_pay550, k0_pay551, k0_pay552, k0_pay553]
              exact pay_in (by with_reducible assumption))
         | (with_reducible apply step_get
            case hoff => exact rfl
            intro v hv)
         | (with_reducible apply step_fill
            case hw =>
              dsimp only [k0_pay559, k0_pay560, k0_pay561, k0_pay562, k0_pay563, k0_pay564, k0_pay565, k0_pay566, k0_pay567, k0_pay568, k0_pay569, k0_pay570, k0_pay571, k0_pay572, k0_pay573, k0_pay574, k0_pay575, k0_pay576]
              exact pay_out (by with_reducible assumption))
         | (with_reducible apply step_fill'
            case hw =>
              dsimp only [k0_pay559, k0_pay560, k0_pay561, k0_pay562, k0_pay563, k0_pay564, k0_pay565, k0_pay566, k0_pay567, k0_pay568, k0_pay569, k0_pay570, k0_pay571, k0_pay572, k0_pay573, k0_pay574, k0_pay575, k0_pay576]
              exact pay_out (by with_reducible assumption))
         | (with_reducible apply step_send
            case hoff => with_reducible first | exact k0_off1_eq _ | exact k0_off2_eq _ | exact k0_off3_eq _ | exact k0_off4_eq _ | exact k0_off5_eq _ | exact k0_off6_eq _ | exact k0_off7_eq _ | exact k0_off8_eq _ | exact k0_off9_eq _ | exact k0_off10_eq _ | exact k0_off11_eq _ | exact k0_off12_eq _ | exact k0_off13_eq _ | exact k0_off14_eq _ | exact k0_off15_eq _ | exact k0_off16_eq _
            case he => exact rfl
            case hm => decide
            case hm' => decide)
         | (with_reducible apply step_send'
            case hoff => with_reducible first | exact k0_off1_eq _ | exact k0_off2_eq _ | exact k0_off3_eq _ | exact k0_off4_eq _ | exact k0_off5_eq _ | exact k0_off6_eq _ | exact k0_off7_eq _ | exact k0_off8_eq _ | exact k0_off9_eq _ | exact k0_off10_eq _ | exact k0_off11_eq _ | exact k0_off12_eq _ | exact k0_off13_eq _ | exact k0_off14_eq _ | exact k0_off15_eq _ | exact k0_off16_eq _
            case he => exact rfl
            case hm => decide
            case hm' => decide)))

  exact hQ

end Cert.KernelIdeal.Hand
-- ==== Proof.Slots.lean ====
module

public import proofs.«01_k».proof.Proof.Trees

/-!
The staging buffer, the initial arrays and the result, dealt out to the two slots and collected again.
-/

@[expose] public section

noncomputable section

namespace Cert.TreeGather

open Idealize.ShloMosaic
open Idealize.SL
open Idealize.SL.RA Idealize.SL.Sem Idealize.SL.ProofMode
open Idealize.SL.BI (sProp)
open scoped Idealize.SL.BI
open Idealize.SL.BI.BIBase Idealize.SL.BI.Laws

variable {nD : Nat} {τ : Topo} {sig : RefSig} {F : FTy → Type}
variable {Name : Type} [DecidableEq Name] {U : Type} [URA U] [CountersIn U] {Lvl : Type} [Preorder Lvl]

local notation "𝕄" => MT nD τ sig Unit (Elt F) Name U Lvl

/-- The indices of the staging buffer in its first slot. -/
def sideS (p : ℕ) : Finset SX.Idx := Finset.univ.filter fun y => (y 0).val = p

theorem mem_side {p : ℕ} {y : SX.Idx} (h : y ∈ sideS p) : (y 0).val = p := (Finset.mem_filter.mp h).2

/-- The rectangle of a slot is the indices of the slot. -/
theorem rect_side {p : ℕ} {off : Fin 4 → ℕ} {inb : ∀ a, off a + SV1.size a ≤ SX.size a} (hoff : off = ![p, 0, 0, 0]) :
    (Rect.unit (s := SX) off SV1.size inb).set = sideS p := by
  subst hoff
  ext y
  rw [sideS, Finset.mem_filter]
  rw [Rect.mem_set_unit]
  have h1 : (y 1).val < 256 := (y 1).isLt
  have h2 : (y 2).val < 8 := (y 2).isLt
  have h3 : (y 3).val < 128 := (y 3).isLt
  constructor
  · intro h
    have h0 : p ≤ (y 0).val ∧ (y 0).val < p + 1 := h 0
    exact ⟨Finset.mem_univ _, by omega⟩
  · rintro ⟨-, h⟩ a
    match a with
    | 0 => show p ≤ (y 0).val ∧ (y 0).val < p + 1; omega
    | 1 => show 0 ≤ (y 1).val ∧ (y 1).val < 0 + 256; omega
    | 2 => show 0 ≤ (y 2).val ∧ (y 2).val < 0 + 8; omega
    | 3 => show 0 ≤ (y 3).val ∧ (y 3).val < 0 + 128; omega

/-- The elements of a slot are the elements of the staging buffer at the slot's indices. -/
theorem slot_set {κ : Kind} {m15 : Memref sig κ .vmem SX .f32} {p : ℕ} {off : Fin 4 → ℕ} {inb : ∀ a, off a + SV1.size a ≤ SX.size a}
    {hr : ∀ a, (Rect.unit (s := SX) off SV1.size inb).stride a = 1} {hq : (Rect.unit (s := SX) off SV1.size inb).shape.Squeezes SV}
    (hoff : off = ![p, 0, 0, 0]) :
    ((m15.slice (Rect.unit (s := SX) off SV1.size inb) hr).squeeze SV hq).view.set = m15.view.setOn (sideS p) := by
  rw [← rect_side (inb := inb) hoff]
  exact (View.set_reshape _ _).trans (View.set_slice _ _)

/-- The part of the staging buffer at a slot is the slot. -/
theorem slot_of_on {c : Thread nD τ} {m15 : Memref sig c.2.kind .vmem SX .f32} {p : ℕ} {off : Fin 4 → ℕ} {inb : ∀ a, off a + SV1.size a ≤ SX.size a}
    {hr : ∀ a, (Rect.unit (s := SX) off SV1.size inb).stride a = 1} {hq : (Rect.unit (s := SX) off SV1.size inb).shape.Squeezes SV}
    (hoff : off = ![p, 0, 0, 0]) {X : SX.Idx → Elt F .f32} :
    (ownsOn c m15 (sideS p) X : sProp 𝕄)
      ⊢ Slot c ((m15.slice (Rect.unit (s := SX) off SV1.size inb) hr).squeeze SV hq) (fun _ => True) := by
  unfold ownsOn Slot owns
  rw [slot_set hoff]
  iintro ⟨%f, -, H⟩
  iexists ((m15.slice (Rect.unit (s := SX) off SV1.size inb) hr).squeeze SV hq).view.read (Elt F) f
  isplitr
  · ipureintro; trivial
  · iexists f
    isplitr
    · ipureintro; rfl
    · iexact H

/-- A slot is the part of the staging buffer at the slot. -/
theorem on_of_slot {c : Thread nD τ} {m15 : Memref sig c.2.kind .vmem SX .f32} {p : ℕ} {off : Fin 4 → ℕ} {inb : ∀ a, off a + SV1.size a ≤ SX.size a}
    {hr : ∀ a, (Rect.unit (s := SX) off SV1.size inb).stride a = 1} {hq : (Rect.unit (s := SX) off SV1.size inb).shape.Squeezes SV}
    (hoff : off = ![p, 0, 0, 0]) {P : (SV.Idx → Elt F .f32) → Prop} :
    (Slot c ((m15.slice (Rect.unit (s := SX) off SV1.size inb) hr).squeeze SV hq) P : sProp 𝕄)
      ⊢ iprop(∃ X, ownsOn c m15 (sideS p) X) := by
  unfold ownsOn Slot owns
  rw [slot_set hoff]
  iintro ⟨%Z, -, %f, -, H⟩
  iexists m15.view.read (Elt F) f, f
  isplitr
  · ipureintro; exact fun _ _ => rfl
  · iexact H

theorem side_disjoint : Disjoint (sideS 0) (sideS 1) := by
  rw [Finset.disjoint_left]
  intro y h h'
  rw [sideS, Finset.mem_filter] at h h'
  omega

theorem side_union : sideS 0 ∪ sideS 1 = Finset.univ := by
  ext y
  have hy : (y 0).val < 2 := (y 0).isLt
  rw [Finset.mem_union, sideS, sideS, Finset.mem_filter, Finset.mem_filter]
  have := Finset.mem_univ y
  constructor
  · exact fun _ => this
  · intro _
    have h : (y 0).val = 0 ∨ (y 0).val = 1 := by omega
    exact h.imp (fun h => ⟨this, h⟩) (fun h => ⟨this, h⟩)

theorem part_disjoint (b : ℕ) : Disjoint (part b 0) (part b 1) := by
  rw [Finset.disjoint_left]
  intro y h h'
  rw [part, Finset.mem_filter] at h h'
  have h0 := h.2
  have h1 := h'.2
  simp only [eq_self_iff_true, iff_true] at h1
  have := h0.mp h1
  omega

theorem part_union (b : ℕ) : part b 0 ∪ part b 1 = Finset.univ := by
  ext y
  rw [Finset.mem_union, part, part, Finset.mem_filter, Finset.mem_filter]
  have hy := Finset.mem_univ y
  constructor
  · exact fun _ => hy
  · intro _
    by_cases h : b ≤ (y 0).val ∧ (y 0).val < b + 256 ∧ (y 1).val / 8 % 2 = 1
    · exact Or.inr ⟨hy, ⟨fun _ => rfl, fun _ => h⟩⟩
    · exact Or.inl ⟨hy, ⟨fun h' => absurd h' h, fun h' => absurd h' (by decide)⟩⟩

/-- All nodes of the block written is the same as any larger bound on the nodes. -/
theorem prog_all (A : SA.Idx → Elt F .f32) (old : SH.Idx → Elt F .f32) (b m : ℕ) (hm : 128 ≤ m) : prog A old b m = prog A old b 128 := by
  funext y
  have hy : (y 1).val < 128 := (y 1).isLt
  unfold prog
  by_cases h : b ≤ (y 0).val ∧ (y 0).val < b + 256
  · rw [dif_pos ⟨h.1, h.2, by omega⟩, dif_pos ⟨h.1, h.2, hy⟩]
  · rw [dif_neg (fun h' => h ⟨h'.1, h'.2.1⟩), dif_neg (fun h' => h ⟨h'.1, h'.2.1⟩)]

variable {c : Thread nD τ} {m8 m9 m10 : Memref sig c.2.kind .hbm SH .f32} {m15 : Memref sig c.2.kind .vmem SX .f32} {s0 s1 : DmaSem sig}
  {o0 o1 : Fin 4 → ℕ} {i0 : ∀ a, o0 a + SV1.size a ≤ SX.size a} {i1 : ∀ a, o1 a + SV1.size a ≤ SX.size a}
  {r0 : ∀ a, (Rect.unit (s := SX) o0 SV1.size i0).stride a = 1} {r1 : ∀ a, (Rect.unit (s := SX) o1 SV1.size i1).stride a = 1}
  {q0 : (Rect.unit (s := SX) o0 SV1.size i0).shape.Squeezes SV} {q1 : (Rect.unit (s := SX) o1 SV1.size i1).shape.Squeezes SV}
  {X8 X9 Y old : SH.Idx → Elt F .f32} {b : ℕ}

/-- The buffers whole, dealt out to the two slots. -/
theorem deal (h0 : o0 = ![0, 0, 0, 0]) (h1 : o1 = ![1, 0, 0, 0]) :
    iprop(semVal (c, .dma s0) 0 ∗ semVal (c, .dma s1) 0 ∗ owns c m8 fullShare X8 ∗ owns c m9 fullShare X9 ∗ owns c m10 fullShare Y
        ∗ (∃ X, owns c m15 fullShare X))
      ⊢ (iprop(Held c s0 (Hs c m8 m9 m10 fullShare.left X8 X9 b 0 Y ((m15.slice (Rect.unit (s := SX) o0 SV1.size i0) r0).squeeze SV q0) (fun _ => True))
        ∗ Held c s1 (Hs c m8 m9 m10 fullShare.right X8 X9 b 1 Y ((m15.slice (Rect.unit (s := SX) o1 SV1.size i1) r1).squeeze SV q1) (fun _ => True))) : sProp 𝕄) := by
  unfold Held Hs
  iintro ⟨Hs0, Hs1, H8, H9, H10, ⟨%X, H15⟩⟩
  ihave H8 := owns_halve $$ H8
  icases H8 with ⟨H8, H8'⟩
  ihave H9 := owns_halve $$ H9
  icases H9 with ⟨H9, H9'⟩
  ihave H10 := (owns_split (part_disjoint b) (part_union b)) $$ H10
  icases H10 with ⟨H10, H10'⟩
  ihave H15 := (owns_split side_disjoint side_union) $$ H15
  icases H15 with ⟨H15, H15'⟩
  ihave H15 := (slot_of_on (inb := i0) (hr := r0) (hq := q0) h0) $$ H15
  ihave H15' := (slot_of_on (inb := i1) (hr := r1) (hq := q1) h1) $$ H15'
  isplitl [Hs0 H8 H9 H10 H15]
  · isplitl [Hs0]; · iexact Hs0
    isplitl [H8]; · iexact H8
    isplitl [H9]; · iexact H9
    isplitl [H10]; · iexact H10
    iexact H15
  · isplitl [Hs1]; · iexact Hs1
    isplitl [H8']; · iexact H8'
    isplitl [H9']; · iexact H9'
    isplitl [H10']; · iexact H10'
    iexact H15'

/-- The two slots' holdings, collected into the buffers whole: the block's rows of the result are the hidden tree. -/
theorem collect (h0 : o0 = ![0, 0, 0, 0]) (h1 : o1 = ![1, 0, 0, 0]) {A : SA.Idx → Elt F .f32} {P0 P1 : (SV.Idx → Elt F .f32) → Prop} {m m' : ℕ}
    (hm : 128 ≤ m) (hm' : 128 ≤ m') :
    (iprop(Held c s0 (Hs c m8 m9 m10 fullShare.left X8 X9 b 0 (prog A old b m) ((m15.slice (Rect.unit (s := SX) o0 SV1.size i0) r0).squeeze SV q0) P0)
        ∗ Held c s1 (Hs c m8 m9 m10 fullShare.right X8 X9 b 1 (prog A old b m') ((m15.slice (Rect.unit (s := SX) o1 SV1.size i1) r1).squeeze SV q1) P1)) : sProp 𝕄)
      ⊢ iprop(semVal (c, .dma s0) 0 ∗ semVal (c, .dma s1) 0 ∗ owns c m8 fullShare X8 ∗ owns c m9 fullShare X9
        ∗ owns c m10 fullShare (prog A old b 128) ∗ (∃ X, owns c m15 fullShare X)) := by
  unfold Held Hs
  rw [prog_all A old b m hm, prog_all A old b m' hm']
  iintro ⟨⟨Hs0, H8, H9, H10, H15⟩, ⟨Hs1, H8', H9', H10', H15'⟩⟩
  ihave H15 := (on_of_slot h0) $$ H15
  icases H15 with ⟨%Z, H15⟩
  ihave H15' := (on_of_slot h1) $$ H15'
  icases H15' with ⟨%Z', H15'⟩
  ihave H15 := (ownsOn_congr (Y := fun y => if (y 0).val = 0 then Z y else Z' y)
    (fun y hy => (if_pos (mem_side hy)).symm)) $$ H15
  ihave H15' := (ownsOn_congr (Y := fun y => if (y 0).val = 0 then Z y else Z' y)
    (fun y hy => (if_neg (by rw [mem_side hy]; decide)).symm)) $$ H15'
  isplitl [Hs0]; · iexact Hs0
  isplitl [Hs1]; · iexact Hs1
  isplitl [H8 H8']
  · iapply owns_unhalve
    isplitl [H8]; · iexact H8
    iexact H8'
  isplitl [H9 H9']
  · iapply owns_unhalve
    isplitl [H9]; · iexact H9
    iexact H9'
  isplitl [H10 H10']
  · iapply (owns_join (part_disjoint b) (part_union b))
    isplitl [H10]; · iexact H10
    iexact H10'
  · iexists _
    iapply (owns_join side_disjoint side_union)
    isplitl [H15]; · iexact H15
    iexact H15'

end Cert.TreeGather

end
-- ==== Proof.RealLaunch.lean ====
module

public import proofs.«01_k».proof.Proof.Gen.KernelIdeal.Frame
public import proofs.«01_k».proof.Proof.RealBody
public import proofs.«01_k».proof.Proof.Slots
public import Idealize.ShloMosaic.Lib.Pipeline.FrameValue

/-!
The launch: the four blocks run one after the other, each on its rows of the result. The invariant between blocks holds
the result with the rows of the blocks run so far replaced by their hidden trees.
-/

@[expose] public section

noncomputable section

namespace Cert.KernelIdeal.Hand

open Cert.KernelIdeal Cert.KernelIdeal.Gen Cert.TreeGather
open Idealize.ShloMosaic Idealize.ShloMosaic.TcCoe Idealize.ShloMosaic.Tactic
open Idealize.SL Idealize.SL.RA
open Idealize.SL.BI (sProp)
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The initial arrays, which the body's transfers read. -/
def H0 : Finset (Ref sig .tc) := {main_arg12, main_arg13}
/-- The result, which the body's transfers write. -/
def R0 : Finset (Ref sig .tc) := {main_v9}
theorem H0_sub : H0 ⊆ Pipeline.restRefs sig spec0 := by decide
theorem R0_sub : R0 ⊆ Pipeline.restRefs sig spec0 \ H0 := by decide

/-- The semaphores of the two slots. -/
abbrev osem0 : Fin 2 → SemLoc sig := fun j => (![SemLoc.dma cc0_scratch5.sem, SemLoc.dma cc0_scratch6.sem] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma cc0_scratch5.sem) 0 ∗ semVal ((c : Thread nD τ), SemLoc.dma cc0_scratch6.sem) 0) := by
  rw [Pipeline.ownSems0_eq_of_list c osem0 [0, 1] (by decide) (by decide)]; rfl

theorem hmain_own (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The trees of block `t` after its node loop. -/
def treesAt (c : Dev nD) (t : Fin cfg0.N) : (SA.Idx → Elt F .f32) × (SA.Idx → Elt F .f32) :=
  final (iblk m c 1 t) (iblk m c 0 t) (iblk m c 2 t) (iblk m c 3 t) (iblk m c 4 t) (iblk m c 5 t) (iblk m c 6 t)
    (V m c main_arg12) (V m c main_arg13) (256 * ((grid0.coords t) 0).val)

/-- The result after the first `n` blocks. -/
def outAt (c : Dev nD) : ℕ → (SH.Idx → Elt F .f32)
  | 0 => V m c main_v9
  | n + 1 => if h : n < cfg0.N then prog (treesAt m c ⟨n, h⟩).1 (outAt c n) (256 * ((grid0.coords ⟨n, h⟩) 0).val) 128 else outAt c n

/-- The unscoped buffers after the first `n` blocks. -/
def Gt (n : ℕ) (c : Dev nD) : (b : Ref sig .tc) → Buf (Elt F) ((c : Thread nD τ).loc b) := Function.update (V m c) main_v9 (outAt m c n)

theorem Gt_zero : Gt m 0 = V m := by
  funext c; unfold Gt outAt; exact Function.update_eq_self _ _

/-- What the body finds between blocks. -/
theorem inv_eq (c : Dev nD) (n : ℕ) :
    (Pipeline.ΦDRG osem0 spec0 H0 R0 (V m) (Gt m n) c : sProp 𝕄)
      = iprop(iprop((∃ d, owns (c : Thread nD τ) (Memref.whole cc0_scratch0) fullShare d) ∗ (∃ d, owns (c : Thread nD τ) (Memref.whole cc0_scratch1) fullShare d)
                ∗ (∃ d, owns (c : Thread nD τ) (Memref.whole cc0_scratch2) fullShare d) ∗ (∃ d, owns (c : Thread nD τ) (Memref.whole cc0_scratch3) fullShare d)
                ∗ (∃ d, owns (c : Thread nD τ) (Memref.whole cc0_scratch4) fullShare d))
          ∗ (∃ r, prngReg c r)
          ∗ iprop(semVal ((c : Thread nD τ), SemLoc.dma cc0_scratch5.sem) 0 ∗ semVal ((c : Thread nD τ), SemLoc.dma cc0_scratch6.sem) 0)
          ∗ iprop(owns (c : Thread nD τ) (Memref.whole main_arg12) fullShare (V m c main_arg12) ∗ owns (c : Thread nD τ) (Memref.whole main_arg13) fullShare (V m c main_arg13))
          ∗ owns (c : Thread nD τ) (Memref.whole main_v9) fullShare (outAt m c n)) := by
  rw [Pipeline.ΦDRG_eq, scopedRest0_eq, ownSems00_eq]
  unfold Pipeline.routed
  rw [BI.bigSep_eq_bigSepL_of_eq (S := H0) [main_arg12, main_arg13] (by decide) (by decide), BI.bigSep_eq_bigSepL_of_eq (S := R0) [main_v9] (by decide) (by decide)]
  simp only [owns_whole]
  have e : Gt m n c main_v9 = outAt m c n := Function.update_self _ _ _
  simp only [BI.bigSepL]
  rw [e]
  try rfl

/-- The proof data: the windows hold their blocks, and the invariant names the result so far. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ t := Pipeline.ΦDRG osem0 spec0 H0 R0 (V m) (Gt m t.val) c
  q _ := fullShare
  owed _ := 0

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by dsimp only [dats]; unfold Dat.blockOf iblk; try rfl) t d).trans
    (by unfold Dat.fetched Dat.blockOf iblk; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by dsimp only [dats]; unfold Dat.blockOf iblk; try rfl) t d).trans
    (by unfold Dat.fetched Dat.blockOf iblk; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by dsimp only [dats]; unfold Dat.blockOf iblk; try rfl) t d).trans
    (by unfold Dat.fetched Dat.blockOf iblk; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by dsimp only [dats]; unfold Dat.blockOf iblk; try rfl) t d).trans
    (by unfold Dat.fetched Dat.blockOf iblk; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by dsimp only [dats]; unfold Dat.blockOf iblk; try rfl) t d).trans
    (by unfold Dat.fetched Dat.blockOf iblk; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by dsimp only [dats]; unfold Dat.blockOf iblk; try rfl) t d).trans
    (by unfold Dat.fetched Dat.blockOf iblk; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by dsimp only [dats]; unfold Dat.blockOf iblk; try rfl) t d).trans
    (by unfold Dat.fetched Dat.blockOf iblk; try rfl)

/-- What a block is run from. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
/-- What a block leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The rows of a block are rows of the arrays. -/
theorem rows_lt (t : Fin cfg0.N) : 256 * ((grid0.coords t) 0).val + 256 ≤ 1024 := by
  have h : ((grid0.coords t) 0).val < 4 := ((grid0.coords t) 0).isLt
  omega

theorem outAt_succ (c : Dev nD) (t : Fin cfg0.N) :
    outAt m c (t.val + 1) = prog (treesAt m c t).1 (outAt m c t.val) (256 * ((grid0.coords t) 0).val) 128 := by
  conv_lhs => unfold outAt
  rw [dif_pos t.isLt]

/-- A tree buffer at any contents, as the body finds it. -/
theorem tree_any {c : Dev nD} {M : Memref sig .tc .vmem SA .f32} {X : SH.Idx → Elt F .f32} {b : ℕ} :
    iprop(∃ d, owns (c : Thread nD τ) M fullShare d) ⊢ (TreeIn (c : Thread nD τ) M X b 0 : sProp 𝕄) := by
  unfold TreeIn
  iintro ⟨%d, H⟩
  iexists d
  isplitr
  · ipureintro; intro x y hx; omega
  · iexact H

set_option maxRecDepth 65536 in
set_option maxHeartbeats 4000000 in
theorem sound_body (hN : ∀ c t y, (iblk m c 1 t y : BitVec 32).toNat < 128) (c : Dev nD) (t : Fin cfg0.N) :
    bodyPre m c t ⊢ wp frame (wpE (defs₀ (F := F)) Variants.none c none) Set.univ (bodyAt0 t) (fun _ => bodyPost m c t) := by
  have e0 : (dats m 0 c).Φ t.castSucc = Pipeline.ΦDRG osem0 spec0 H0 R0 (V m) (Gt m t.val) c := rfl
  have e1 : (dats m 0 c).Φ t.succ = Pipeline.ΦDRG osem0 spec0 H0 R0 (V m) (Gt m (t.val + 1)) c := rfl
  have o0 : (dats m 0 c).owed t.castSucc = 0 := rfl
  have o1 : (dats m 0 c).owed t.succ = 0 := rfl
  unfold bodyPre
  simp only [before_0, before_1, before_2, before_3, before_4, before_5, before_6]
  rw [e0, inv_eq]
  unfold Dat.owesAt Pipeline.owesWithin
  rw [o0]
  refine Entails.trans ?_ (Entails.trans (sep_mono_left (Q := iprop(∃ r, prngReg c r)) (body_run (F := F) (Q := fun _ => iprop((∃ r, prngReg c r) -∗ bodyPost m c t)) (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (st0_5 t) (hstage0_5 ((cfg0.slots t 5).cast nbuf0_5)) (st0_6 t) (hstage0_6 ((cfg0.slots t 6).cast nbuf0_6)) (Memref.whole main_arg12) (Memref.isWhole_whole _)
    (Memref.whole main_arg13) (Memref.isWhole_whole _) (Memref.whole main_v9) (Memref.isWhole_whole _) (Memref.whole cc0_scratch0) (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) cc0_scratch5 cc0_scratch6 c (iblk m c 1 t) (hN c t) (iblk m c 0 t) (iblk m c 2 t) (iblk m c 3 t)
    (iblk m c 4 t) (iblk m c 5 t) (iblk m c 6 t) (V m c main_arg12) (V m c main_arg13) (outAt m c t.val) (rows_lt t) ?_)) (Entails.trans (wp_frame_r _ _ _) (wp_mono _ _ _ fun _ => wand_elim_left)))
  · unfold Bx TreeGather.Owes
    iintro ⟨⟨⟨H0, H1, H2, H3, H4⟩, Hg, ⟨Hs, Hs'⟩, ⟨H8, H9⟩, H10⟩, ⟨%W, -, HW⟩, ⟨%d0, W0⟩, ⟨%d1, W1⟩, ⟨%d2, W2⟩, ⟨%d3, W3⟩, ⟨%d4, W4⟩, ⟨%d5, W5⟩, ⟨%d6, W6⟩⟩
    ihave HD := (deal (h0 := rfl) (h1 := rfl) (b := 256 * ((grid0.coords t) 0).val) (o0 := ![0, 0, 0, 0]) (o1 := ![1, 0, 0, 0])
      (i0 := inb_S2x256x8x128_S1x256x8x128_0_0_0_0) (i1 := inb_S2x256x8x128_S1x256x8x128_1_0_0_0) (r0 := fun _ => rfl) (r1 := fun _ => rfl)
      (q0 := squeezes_S1x256x8x128_S256x8x128) (q1 := squeezes_S1x256x8x128_S256x8x128)) $$ [Hs Hs' H8 H9 H10 H4]
    · isplitl [Hs]; · iexact Hs
      isplitl [Hs']; · iexact Hs'
      isplitl [H8]; · iexact H8
      isplitl [H9]; · iexact H9
      isplitl [H10]; · iexact H10
      iexact H4
    icases HD with ⟨S0, S1⟩
    ihave T0 := (tree_any (X := V m c main_arg12) (b := 256 * ((grid0.coords t) 0).val)) $$ H0
    ihave T1 := (tree_any (X := V m c main_arg13) (b := 256 * ((grid0.coords t) 0).val)) $$ H1
    isplitr [Hg]
    · isplitl [S0]; · iexact S0
      isplitl [S1]; · iexact S1
      isplitl [HW]; · iexists W; iexact HW
      isplitl [T0]; · iexact T0
      isplitl [T1]; · iexact T1
      isplitl [W1 H2 H3]
      · isplitl [W1]; · iexact W1
        isplitl [H2]; · iexact H2
        iexact H3
      isplitl [W0]; · iexact W0
      isplitl [W2]; · iexact W2
      isplitl [W3]; · iexact W3
      isplitl [W4]; · iexact W4
      isplitl [W5]; · iexact W5
      iexact W6
    · iexact Hg
  · unfold bodyPost
    rw [e1, inv_eq, outAt_succ]
    unfold Dat.owesAt Pipeline.owesWithin Bx TreeGather.Owes
    rw [o1]
    iintro ⟨S0, S1, ⟨%W, HW⟩, T0, T1, ⟨W1, H2, H3⟩, ⟨W0, W2, W3, W4, W5, W6⟩⟩ Hg
    ihave HD := (collect (h0 := rfl) (h1 := rfl) (o0 := ![0, 0, 0, 0]) (o1 := ![1, 0, 0, 0]) (hm := (by decide : 128 ≤ 112 + 16)) (hm' := (by decide : 128 ≤ 120 + 16))
      (i0 := inb_S2x256x8x128_S1x256x8x128_0_0_0_0) (i1 := inb_S2x256x8x128_S1x256x8x128_1_0_0_0) (r0 := fun _ => rfl) (r1 := fun _ => rfl)
      (q0 := squeezes_S1x256x8x128_S256x8x128) (q1 := squeezes_S1x256x8x128_S256x8x128)) $$ [S0 S1]
    · isplitl [S0]; · iexact S0
      iexact S1
    icases HD with ⟨Hs, Hs', H8, H9, H10, H4⟩
    isplitl [T0 T1 H2 H3 H4 Hs Hs' H8 H9 H10 Hg]
    · isplitl [T0 T1 H2 H3 H4]
      · isplitl [T0]; · iexists _; iexact T0
        isplitl [T1]; · iexists _; iexact T1
        isplitl [H2]; · iexact H2
        isplitl [H3]; · iexact H3
        iexact H4
      isplitl [Hg]; · iexact Hg
      isplitl [Hs Hs']
      · isplitl [Hs]; · iexact Hs
        iexact Hs'
      isplitl [H8 H9]
      · isplitl [H8]; · iexact H8
        iexact H9
      iexact H10
    isplitl [HW]
    · iexists W
      isplitr
      · ipureintro; exact fun _ _ => Or.inl trivial
      · iexact HW
    isplitl [W0]; · iexact W0
    isplitl [W1]; · iexact W1
    isplitl [W2]; · iexact W2
    isplitl [W3]; · iexact W3
    isplitl [W4]; · iexact W4
    isplitl [W5]; · iexact W5
    iexact W6

theorem defs₀_row (t : Fin cfg0.N) : defs₀ (F := F) .tc cfg0.body (cfg0.bodyArgs t (cfg0.slots t)) = bodyAt0 t := by
  unfold defs₀; rw [Defs.onTc_tc]

theorem body_obligation (hN : ∀ c t y, (iblk m c 1 t y : BitVec 32).toNat < 128) (c : Dev nD) :
    BodyObligation (dats (F := F) m 0 c) defs₀ Variants.none () Set.univ := fun t => by
  rw [bigSep_W0, bigSep_W0, defs₀_row]; exact triple_restated (sound_body m hN c t) rfl .rfl fun _ => .rfl

/-- The connection table the windows read, node first: under the precondition its words are nodes. -/
theorem table_lt (h : ∀ (c : Dev nD) y, (m ((c.tc : Thread nD τ).loc main_arg1) y : BitVec 32).toNat < 128) (c : Dev nD) (y) : (V m c main_v2 y : BitVec 32).toNat < 128 := by
  have e : V m c main_v2 = transpose S128x1024 [1, 0] (m ((c.tc : Thread nD τ).loc main_arg1)) transposes_S1024x128_S128x1024_1_0 := by
    unfold V hostOps0
    after_results
    try rfl
  rw [e]
  exact h c _

/-- So are the words of a block of it. -/
theorem nodes_lt (h : ∀ (c : Dev nD) y, (m ((c.tc : Thread nD τ).loc main_arg1) y : BitVec 32).toNat < 128) (c : Dev nD) (t : Fin cfg0.N) (y) :
    (iblk m c 1 t y : BitVec 32).toNat < 128 := by
  unfold iblk
  rw [View.read_apply, cast_eq]
  exact table_lt m h c _

/-- The result after every block. -/
def result (c : Dev nD) : SH.Idx → Elt F .f32 := outAt m c cfg0.N

set_option backward.isDefEq.respectTransparency.types false in
/-- From any memory with the nodes in range, the program ends with its semaphores at zero, its arguments as they were
    and the result the rows of the four blocks' hidden trees. -/
theorem run_main (hN : ∀ c t y, (iblk m c 1 t y : BitVec 32).toNat < 128) :
    θ_run (defs (F := F)) (onTc (τ := τ) (main (F := F))) ⟨m, fun _ => 0, ρ⟩ (fun r => (Pipeline.FramePostRG cfgs (dats m) (0 : Fin 1) R0 (V m) (Gt m cfg0.N) r) ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m hN c).loose) (hshare := fun c => (dats m 0 c).share_full fun _ => rfl) (howed := fun _ _ => rfl)
    (V := V m) (hmain := hmain_own m Variants.none) (hA := A_eq m) (G := Gt m cfg0.N)
    (hin := fun c => by rw [show (dats m 0 c).Φ 0 = Pipeline.ΦDRG osem0 spec0 H0 R0 (V m) (Gt m 0) c from rfl, Gt_zero])
    (hout := fun c => .rfl)

/-- What the launch leaves, on each device: the arguments as they were, and the result. -/
theorem run_values (hN : ∀ c t y, (iblk m c 1 t y : BitVec 32).toNat < 128) :
    θ_run (defs (F := F)) (onTc (τ := τ) (main (F := F))) ⟨m, fun _ => 0, ρ⟩ (fun r => (∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) ∧ r.2.sem = fun _ => 0) :=
  (θ_run defs _ _).mono (fun r h => ⟨fun c => ⟨(h.1.2 c main_v9 (by decide)).trans (Function.update_self _ _ _),
      ((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c),
      ((h.1.1 c).2 main_arg5 (Finset.mem_sdiff.mpr ⟨Pipeline.mem_restRefs_of main_arg5 (by decide) (by decide), by decide⟩)).trans (V_main_arg5 m c),
      ((h.1.1 c).2 main_arg6 (Finset.mem_sdiff.mpr ⟨Pipeline.mem_restRefs_of main_arg6 (by decide) (by decide), by decide⟩)).trans (V_main_arg6 m c),
      ((h.1.1 c).2 main_arg7 (Finset.mem_sdiff.mpr ⟨Pipeline.mem_restRefs_of main_arg7 (by decide) (by decide), by decide⟩)).trans (V_main_arg7 m c),
      ((h.1.1 c).2 main_arg8 (Finset.mem_sdiff.mpr ⟨Pipeline.mem_restRefs_of main_arg8 (by decide) (by decide), by decide⟩)).trans (V_main_arg8 m c),
      ((h.1.1 c).1 4).trans (((dats m 0 c).arrAt_in 4 rfl _).trans (V_main_arg9 m c)),
      ((h.1.1 c).1 5).trans (((dats m 0 c).arrAt_in 5 rfl _).trans (V_main_arg10 m c)),
      ((h.1.1 c).1 6).trans (((dats m 0 c).arrAt_in 6 rfl _).trans (V_main_arg11 m c)),
      ((h.1.1 c).2 main_arg12 (Finset.mem_sdiff.mpr ⟨Pipeline.mem_restRefs_of main_arg12 (by decide) (by decide), by decide⟩)).trans (V_main_arg12 m c),
      ((h.1.1 c).2 main_arg13 (Finset.mem_sdiff.mpr ⟨Pipeline.mem_restRefs_of main_arg13 (by decide) (by decide), by decide⟩)).trans (V_main_arg13 m c)⟩, h.2⟩) (run_main m ρ hN)

end Cert.KernelIdeal.Hand

end
-- ==== Proof.Spec.lean ====
module

public import Idealize.ShloMosaic.Lib.Pointwise

/-!
The tree of gated cells, plainly: for one batch row, node 0 is computed from the row's input alone, and node `k + 1`
from the hidden and cell states of the node that its connection names. All values are extended reals.
-/

@[expose] public section

noncomputable section

namespace Cert.TreeSpec

open Idealize.ShloMosaic

/-- The arguments of the problem that the result depends on. -/
structure Args where
  emb : (⟨3, ![1024, 128, 128]⟩ : Shape).Idx → EReal
  conn : (⟨2, ![1024, 128]⟩ : Shape).Idx → BitVec 32
  wf : (⟨2, ![128, 128]⟩ : Shape).Idx → EReal
  bf : (⟨1, ![128]⟩ : Shape).Idx → EReal
  wo : (⟨2, ![128, 128]⟩ : Shape).Idx → EReal
  bo : (⟨1, ![128]⟩ : Shape).Idx → EReal
  wz : (⟨2, ![128, 128]⟩ : Shape).Idx → EReal
  bz : (⟨1, ![128]⟩ : Shape).Idx → EReal
  uf : (⟨2, ![128, 128]⟩ : Shape).Idx → EReal
  uo : (⟨2, ![128, 128]⟩ : Shape).Idx → EReal
  uz : (⟨2, ![128, 128]⟩ : Shape).Idx → EReal
  h0 : (⟨3, ![1024, 128, 128]⟩ : Shape).Idx → EReal
  c0 : (⟨3, ![1024, 128, 128]⟩ : Shape).Idx → EReal

/-- The input of a gate at lane `l` of row `r`: node 0's embedding through the weight, plus the bias. -/
def inp (emb : (⟨3, ![1024, 128, 128]⟩ : Shape).Idx → EReal) (w : (⟨2, ![128, 128]⟩ : Shape).Idx → EReal)
    (b : (⟨1, ![128]⟩ : Shape).Idx → EReal) (r : Fin 1024) (l : Fin 128) : EReal :=
  (∑ x : Fin 128, emb (ix3 r 0 x) * w (ix2 l x)) + b (ix1 l)

/-- The recurrent weight of a gate: the product of the factor's transpose and the factor. -/
def rec (t : (⟨2, ![128, 128]⟩ : Shape).Idx → EReal) (x l : Fin 128) : EReal := ∑ p : Fin 128, t (ix2 p x) * t (ix2 p l)

/-- A gate before its nonlinearity, from the parent's hidden state. -/
def gate (v : Fin 128 → Fin 128 → EReal) (g : Fin 128 → EReal) (ph : Fin 128 → EReal) (l : Fin 128) : EReal :=
  (∑ x : Fin 128, ph x * v x l) + g l

/-- The cell state from the forget and input gates and the parent's cell state. -/
def cellC (pc f z : EReal) : EReal := pc * Ideal.logistic f + Ideal.tanh z * (1 - Ideal.logistic f)

/-- The hidden state from the output gate and the cell state. -/
def cellH (o c : EReal) : EReal := Ideal.logistic o * Ideal.tanh c

/-- The cell state of node 0, which has no parent. -/
def rootC (f z : EReal) : EReal := Ideal.tanh z * (1 - Ideal.logistic f)

/-- The states of one row, node by node and lane by lane: hidden, then cell. -/
abbrev Row : Type := (Fin 128 → Fin 128 → EReal) × (Fin 128 → Fin 128 → EReal)

/-- The cell state of a node of row `r` whose parent is node `p`. -/
def newC (a : Args) (r : Fin 1024) (T : Row) (p l : Fin 128) : EReal :=
  cellC (T.2 p l) (gate (rec a.uf) (inp a.emb a.wf a.bf r) (T.1 p) l) (gate (rec a.uz) (inp a.emb a.wz a.bz r) (T.1 p) l)

/-- The hidden state of a node of row `r` whose parent is node `p`. -/
def newH (a : Args) (r : Fin 1024) (T : Row) (p l : Fin 128) : EReal :=
  cellH (gate (rec a.uo) (inp a.emb a.wo a.bo r) (T.1 p) l) (newC a r T p l)

/-- The parent of node `n` of row `r`. -/
def parent (a : Args) (r : Fin 1024) (n : ℕ) : Fin 128 :=
  ⟨(a.conn (ix2 r ⟨n % 128, Nat.mod_lt _ (by decide)⟩)).toNat % 128, Nat.mod_lt _ (by decide)⟩

/-- Row `r` with node 0 and the `k` nodes after it computed. -/
def tree (a : Args) (r : Fin 1024) : ℕ → Row
  | 0 => (fun n l => if n.val = 0 then cellH (inp a.emb a.wo a.bo r l) (rootC (inp a.emb a.wf a.bf r l) (inp a.emb a.wz a.bz r l))
        else a.h0 (ix3 r n l),
      fun n l => if n.val = 0 then rootC (inp a.emb a.wf a.bf r l) (inp a.emb a.wz a.bz r l) else a.c0 (ix3 r n l))
  | k + 1 =>
    let T := tree a r k
    (fun n l => if n.val = k + 1 then newH a r T (parent a r (k + 1)) l else T.1 n l,
      fun n l => if n.val = k + 1 then newC a r T (parent a r (k + 1)) l else T.2 n l)

/-- The hidden states before any node after node 0. -/
theorem tree_zero_fst (a : Args) (r : Fin 1024) (n l : Fin 128) : (tree a r 0).1 n l
    = if n.val = 0 then cellH (inp a.emb a.wo a.bo r l) (rootC (inp a.emb a.wf a.bf r l) (inp a.emb a.wz a.bz r l))
      else a.h0 (ix3 r n l) := rfl

/-- The cell states before any node after node 0. -/
theorem tree_zero_snd (a : Args) (r : Fin 1024) (n l : Fin 128) : (tree a r 0).2 n l
    = if n.val = 0 then rootC (inp a.emb a.wf a.bf r l) (inp a.emb a.wz a.bz r l) else a.c0 (ix3 r n l) := rfl

end Cert.TreeSpec

end
-- ==== Proof.RefTrip.lean ====
module

public import proofs.«01_k».proof.Proof.Gen.ReferenceIdeal.Run
public import proofs.«01_k».proof.Proof.Spec
public import Idealize.ShloMosaic.Lib.DynamicIndex
public import Idealize.ShloMosaic.Lib.Routing.OpsPair
public import Idealize.ShloMosaic.Lib.Pipeline.Value

/-!
One trip of the reference's loop: from trees that hold the first `k` steps of the row recursion of `Spec`, the trip
leaves trees that hold `k + 1` steps.
-/

@[expose] public section

set_option maxRecDepth 16384

noncomputable section

namespace Cert.ReferenceIdeal.Value

open Cert.ReferenceIdeal Cert.ReferenceIdeal.Gen
open Idealize.ShloMosaic Idealize.ShloMosaic.TcCoe
open Idealize.ShloMosaic.StableHlo

/-- A node's rows written over a tree, read at an index. -/
theorem node_written {α : Type} (X : S1024x128x128.Idx → α) (u : S1024x1x128.Idx → α) (st : Fin 3 → Int)
    (h : S1024x128x128.Slices (fun _ => 0) S1024x1x128) (k : ℕ) (hk : k < 128) (hs : ∀ a, st a = ((![0, k, 0] : Fin 3 → ℕ) a : Int))
    (r : Fin 1024) (n l : Fin 128) :
    Host.dynamicUpdateSlice X u st h (ix3 r n l) = if n.val = k then u (ix3 r 0 l) else X (ix3 r n l) := by
  have hsl : S1024x128x128.Slices ![0, k, 0] S1024x1x128 := by
    refine ⟨rfl, fun a => ?_⟩
    match a with
    | ⟨0, _⟩ => show 0 + 1024 ≤ 1024; omega
    | ⟨1, _⟩ => show k + 1 ≤ 128; omega
    | ⟨2, _⟩ => show 0 + 128 ≤ 128; omega
  rw [Host.dynamicUpdateSlice_eq_updateSlice X u st h ![0, k, 0] (fun a => by
    rw [hs a]
    match a with
    | ⟨0, _⟩ => rfl
    | ⟨1, _⟩ => show (min (max (k : Int) 0) ((128 - 1 : ℕ) : Int)).toNat = k; omega
    | ⟨2, _⟩ => rfl) hsl]
  unfold updateSlice
  by_cases hn : n.val = k
  · rw [if_pos hn, dif_pos (fun a => by
      match a with
      | ⟨0, _⟩ => exact ⟨Nat.zero_le _, by show r.val < 0 + 1024; omega⟩
      | ⟨1, _⟩ => exact ⟨hn.ge, by show n.val < k + 1; omega⟩
      | ⟨2, _⟩ => exact ⟨Nat.zero_le _, by show l.val < 0 + 128; omega⟩)]
    refine congrArg u (funext fun a => Fin.ext ?_)
    match a with
    | ⟨0, _⟩ => rfl
    | ⟨1, _⟩ => show n.val - k = 0; omega
    | ⟨2, _⟩ => rfl
  · rw [if_neg hn, dif_neg (fun hc => by
      have h1 : k ≤ n.val ∧ n.val < k + 1 := hc (1 : Fin 3)
      omega)]

/-- The rows that the pairs of words name, read at an index: pair `r` is row `r` and its node. -/
theorem rows_gathered {α : Type} (x : S1024x128x128.Idx → α) (idx : IVec S1024x2 32) (r : Fin 1024) (l p : Fin 128)
    (h0 : idx (ix2 r (0 : Fin 2)) = BitVec.ofNat 32 r.val) (h1 : idx (ix2 r (1 : Fin 2)) = BitVec.ofNat 32 p.val) :
    Host.gather gather_S1024x128x128_S1024x2_S1024x128_1_01_n_n_01_1_11128 x idx (ix2 r l) = x (ix3 r p l) := by
  unfold Host.gather
  refine congrArg x (funext fun a => Fin.ext ?_)
  have e : ∀ a : Fin 3, ∀ h : a ∈ gather_S1024x128x128_S1024x2_S1024x128_1_01_n_n_01_1_11128.startIndexMap,
      ∀ q : Fin 2, gather_S1024x128x128_S1024x2_S1024x128_1_01_n_n_01_1_11128.startIndexMap.idxOf a = q.val →
      gather_S1024x128x128_S1024x2_S1024x128_1_01_n_n_01_1_11128.siIdx (ix2 r l)
        ⟨gather_S1024x128x128_S1024x2_S1024x128_1_01_n_n_01_1_11128.startIndexMap.idxOf a, List.idxOf_lt_length_iff.2 h⟩ = ix2 r q := by
    intro a h q hq
    funext b; refine Fin.ext ?_
    match b with
    | ⟨0, _⟩ => rfl
    | ⟨1, _⟩ => exact hq
  match a with
  | ⟨0, _⟩ =>
    show GatherDims.start _ (ix2 r l) idx 0 + GatherDims.batchCoord _ (ix2 r l) 0 + GatherDims.offCoord _ (ix2 r l) 0 = r.val
    rw [GatherDims.batchCoord_eq_zero _ _ _ List.not_mem_nil, GatherDims.offCoord_eq_zero _ _ _ (by decide)]
    unfold GatherDims.start
    rw [dif_pos (by decide), e 0 (by decide) 0 rfl, h0, toInt_ofNat_of_lt (by omega)]
    show min ((r.val : Int).toNat) (1024 - 1) + 0 + 0 = r.val
    omega
  | ⟨1, _⟩ =>
    show GatherDims.start _ (ix2 r l) idx 1 + GatherDims.batchCoord _ (ix2 r l) 1 + GatherDims.offCoord _ (ix2 r l) 1 = p.val
    rw [GatherDims.batchCoord_eq_zero _ _ _ List.not_mem_nil, GatherDims.offCoord_eq_zero _ _ _ (by decide)]
    unfold GatherDims.start
    rw [dif_pos (by decide), e 1 (by decide) 1 rfl, h1, toInt_ofNat_of_lt (by omega)]
    show min ((p.val : Int).toNat) (128 - 1) + 0 + 0 = p.val
    omega
  | ⟨2, _⟩ =>
    show GatherDims.start _ (ix2 r l) idx 2 + GatherDims.batchCoord _ (ix2 r l) 2 + GatherDims.offCoord _ (ix2 r l) 2 = l.val
    rw [GatherDims.batchCoord_eq_zero _ _ _ List.not_mem_nil]
    unfold GatherDims.start GatherDims.offCoord
    rw [dif_neg (by decide), dif_pos (by decide)]
    show 0 + 0 + l.val = l.val
    omega

/-- What the loop carries before trip `k`, in terms of the row recursion. -/
structure Carried (a : TreeSpec.Args) (k : ℕ) (V0 : Valuation τ sig (Elt Ideal)) : Prop where
  ctr : V0 (Proc.devRef .tc main_v55_9) = fun _ => BitVec.ofNat 32 k
  nums : ∀ i : Fin 127, V0 (Proc.devRef .tc main_v55_0) (ix1 i) = BitVec.ofNat 32 (i.val + 1)
  par : ∀ (i : Fin 127) (r : Fin 1024), V0 (Proc.devRef .tc main_v55_1) (ix2 i r) = a.conn (ix2 r ⟨1 + i.val, by omega⟩)
  rows : ∀ r : Fin 1024, V0 (Proc.devRef .tc main_v55_2) (ix1 r) = BitVec.ofNat 32 r.val
  rf : ∀ x l : Fin 128, V0 (Proc.devRef .tc main_v55_3) (ix2 x l) = TreeSpec.rec a.uf x l
  gf : ∀ (r : Fin 1024) (l : Fin 128), V0 (Proc.devRef .tc main_v55_4) (ix2 r l) = TreeSpec.inp a.emb a.wf a.bf r l
  ro : ∀ x l : Fin 128, V0 (Proc.devRef .tc main_v55_5) (ix2 x l) = TreeSpec.rec a.uo x l
  go : ∀ (r : Fin 1024) (l : Fin 128), V0 (Proc.devRef .tc main_v55_6) (ix2 r l) = TreeSpec.inp a.emb a.wo a.bo r l
  rz : ∀ x l : Fin 128, V0 (Proc.devRef .tc main_v55_7) (ix2 x l) = TreeSpec.rec a.uz x l
  gz : ∀ (r : Fin 1024) (l : Fin 128), V0 (Proc.devRef .tc main_v55_8) (ix2 r l) = TreeSpec.inp a.emb a.wz a.bz r l
  hid : ∀ (r : Fin 1024) (n l : Fin 128), V0 (Proc.devRef .tc main_v55_10) (ix3 r n l) = (TreeSpec.tree a r k).1 n l
  cel : ∀ (r : Fin 1024) (n l : Fin 128), V0 (Proc.devRef .tc main_v55_11) (ix3 r n l) = (TreeSpec.tree a r k).2 n l

variable {a : TreeSpec.Args} {k : ℕ} {V0 : Valuation τ sig (Elt Ideal)}

/-- The node that trip `k` computes. -/
theorem Carried.node (h : Carried a k V0) (hk : k < 127) : res_main_while0b_v56 V0 = fun _ => BitVec.ofNat 32 (k + 1) := by
  have hsl : S127.Slices ![k] S1 := ⟨rfl, fun a => by
    match a with
    | ⟨0, _⟩ => show k + 1 ≤ 127; omega⟩
  funext y
  unfold res_main_while0b_v56
  rw [Host.dynamicSlice_eq_extractStridedSlice S1 _ _ ![k] _ hsl (fun a => by
    match a with
    | ⟨0, _⟩ =>
      show BitVec.toInt (V0 (Proc.devRef .tc main_v55_9) _) = (k : Int)
      rw [h.ctr, toInt_ofNat_of_lt (by omega)])]
  refine Eq.trans ?_ (h.nums ⟨k, hk⟩)
  pointwise []

/-- The parents' words that trip `k` reads. -/
theorem Carried.words (h : Carried a k V0) (hk : k < 127) (r : Fin 1024) :
    res_main_while0b_v57 V0 (ix1 r) = a.conn (ix2 r ⟨1 + k, by omega⟩) := by
  have hsl : S127x1024.Slices ![k, 0] S1x1024 := ⟨rfl, fun a => by
    match a with
    | ⟨0, _⟩ => show k + 1 ≤ 127; omega
    | ⟨1, _⟩ => show 0 + 1024 ≤ 1024; omega⟩
  unfold res_main_while0b_v57
  rw [Host.dynamicSlice_eq_extractStridedSlice S1x1024 _ _ ![k, 0] _ hsl (fun a => by
    match a with
    | ⟨0, _⟩ =>
      show BitVec.toInt (V0 (Proc.devRef .tc main_v55_9) _) = (k : Int)
      rw [h.ctr, toInt_ofNat_of_lt (by omega)]
    | ⟨1, _⟩ => rfl)]
  refine Eq.trans ?_ (h.par ⟨k, hk⟩ r)
  pointwise []

/-- A word below 128 is the word of its node. -/
theorem word_eq (hN : ∀ y, (a.conn y).toNat < 128) (r : Fin 1024) (hk : k < 127) :
    a.conn (ix2 r ⟨1 + k, by omega⟩) = BitVec.ofNat 32 (TreeSpec.parent a r (k + 1)).val := by
  have e : (⟨(k + 1) % 128, Nat.mod_lt _ (by decide)⟩ : Fin 128) = ⟨1 + k, by omega⟩ := Fin.ext (by show (k + 1) % 128 = 1 + k; omega)
  show _ = BitVec.ofNat 32 ((a.conn (ix2 r ⟨(k + 1) % 128, Nat.mod_lt _ (by decide)⟩)).toNat % 128)
  rw [e, Nat.mod_eq_of_lt (hN _), BitVec.ofNat_toNat, BitVec.setWidth_eq]

/-- The parents' rows of a tree, as the reference gathers them. -/
theorem Carried.gathered (h : Carried a k V0) (hk : k < 127) (hN : ∀ y, (a.conn y).toNat < 128) {α : Type}
    (x : S1024x128x128.Idx → α) (r : Fin 1024) (l : Fin 128) :
    Host.gather gather_S1024x128x128_S1024x2_S1024x128_1_01_n_n_01_1_11128 x (concatenate S1024x2 1 [⟨S1024x1, (broadcastInDim S1024x1 ![0] bcast_S1024_S1024x1_0 (select (cmpi .slt (V0 (Proc.devRef .tc main_v55_2)) (broadcastInDim S1024 ![] bcast_S_S1024 (constantI S_ 32 0#32))) (addi (V0 (Proc.devRef .tc main_v55_2)) (broadcastInDim S1024 ![] bcast_S_S1024 (constantI S_ 32 1024#32))) (V0 (Proc.devRef .tc main_v55_2))))⟩, ⟨S1024x1, (broadcastInDim S1024x1 ![0] bcast_S1024_S1024x1_0 (select (cmpi .slt (res_main_while0b_v57 V0) (broadcastInDim S1024 ![] bcast_S_S1024 (constantI S_ 32 0#32))) (addi (res_main_while0b_v57 V0) (broadcastInDim S1024 ![] bcast_S_S1024 (constantI S_ 32 128#32))) (res_main_while0b_v57 V0)))⟩] concatenates_S1024x1_S1024x1_S1024x2_d1) (ix2 r l)
      = x (ix3 r (TreeSpec.parent a r (k + 1)) l) := by
  refine rows_gathered x _ r l _ ?_ ?_
  · refine Eq.trans ?_ (h.rows r)
    pointwise []
    refine Routing.wrap_of_lt _ _ ?_
    rw [h.rows r, BitVec.toNat_ofNat, Nat.mod_eq_of_lt (by omega)]
    show r.val < 2 ^ 31
    omega
  · refine Eq.trans ?_ ((h.words hk r).trans (word_eq hN r hk))
    pointwise []
    refine Routing.wrap_of_lt _ _ ?_
    rw [h.words hk r]
    have := hN (ix2 r ⟨1 + k, by omega⟩)
    show _ < 2 ^ 31
    omega

/-- The parents' hidden rows. -/
theorem Carried.parentH (h : Carried a k V0) (hk : k < 127) (hN : ∀ y, (a.conn y).toNat < 128) (r : Fin 1024) (l : Fin 128) :
    res_main_while0b_v71 V0 (ix2 r l) = (TreeSpec.tree a r k).1 (TreeSpec.parent a r (k + 1)) l := by
  unfold res_main_while0b_v71
  rw [h.gathered hk hN]
  exact h.hid r _ l

/-- The forget gate. -/
theorem Carried.forget (h : Carried a k V0) (hk : k < 127) (hN : ∀ y, (a.conn y).toNat < 128) (r : Fin 1024) (l : Fin 128) :
    res_main_while0b_v93 V0 (ix2 r l)
      = Ideal.logistic (TreeSpec.gate (TreeSpec.rec a.uf) (TreeSpec.inp a.emb a.wf a.bf r) ((TreeSpec.tree a r k).1 (TreeSpec.parent a r (k + 1))) l) := by
  unfold res_main_while0b_v93
  pointwise []
  unfold Ideal.logistic TreeSpec.gate
  simp only [h.parentH hk hN, h.rf, h.gf]

/-- The new cell states. -/
theorem Carried.newC (h : Carried a k V0) (hk : k < 127) (hN : ∀ y, (a.conn y).toNat < 128) (r : Fin 1024) (l : Fin 128) :
    res_main_while0b_v109 V0 (ix2 r l) = TreeSpec.newC a r (TreeSpec.tree a r k) (TreeSpec.parent a r (k + 1)) l := by
  unfold res_main_while0b_v109 TreeSpec.newC TreeSpec.cellC
  pointwise []
  rw [h.forget hk hN, h.gathered hk hN, h.gz, h.cel]
  simp only [h.parentH hk hN, h.rz]
  rfl

/-- Where the trip writes. -/
theorem Carried.at_node (h : Carried a k V0) (hk : k < 127) (i : Fin 3) :
    BitVec.toInt (((![constantI S_ 32 0#32, select (cmpi .slt (res_main_while0b_v56 V0) (constantI S_ 32 0#32)) (addi (res_main_while0b_v56 V0) (constantI S_ 32 128#32)) (res_main_while0b_v56 V0), constantI S_ 32 0#32] : Fin 3 → (⟨S_, .i32⟩ : BufTy).Contents (Elt Ideal))) i (Shape.Idx.first h_S_))
      = ((![0, k + 1, 0] : Fin 3 → ℕ) i : Int) := by
  match i with
  | ⟨0, _⟩ => rfl
  | ⟨1, _⟩ =>
    rw [h.node hk]
    exact toInt_wrap_ofNat (k + 1) (by omega)
  | ⟨2, _⟩ => rfl

/-- The cell trees after the trip. -/
theorem Carried.stepC (h : Carried a k V0) (hk : k < 127) (hN : ∀ y, (a.conn y).toNat < 128) (r : Fin 1024) (n l : Fin 128) :
    step_main_v55_11 V0 (ix3 r n l) = (TreeSpec.tree a r (k + 1)).2 n l := by
  unfold step_main_v55_11
  refine (node_written _ _ _ _ (k + 1) (by omega) (h.at_node hk) r n l).trans ?_
  show _ = if n.val = k + 1 then _ else _
  rw [h.cel]
  congr 1
  refine Eq.trans ?_ (h.newC hk hN r l)
  pointwise []

/-- The hidden trees after the trip. -/
theorem Carried.stepH (h : Carried a k V0) (hk : k < 127) (hN : ∀ y, (a.conn y).toNat < 128) (r : Fin 1024) (n l : Fin 128) :
    step_main_v55_10 V0 (ix3 r n l) = (TreeSpec.tree a r (k + 1)).1 n l := by
  unfold step_main_v55_10
  refine (node_written _ _ _ _ (k + 1) (by omega) (h.at_node hk) r n l).trans ?_
  show _ = if n.val = k + 1 then _ else _
  rw [h.hid]
  congr 1
  pointwise []
  rw [h.newC hk hN, h.go]
  simp only [h.parentH hk hN, h.ro]
  rfl

/-- One trip carries the recursion one step on. -/
theorem Carried.step (h : Carried a k V0) (hk : k < 127) (hN : ∀ y, (a.conn y).toNat < 128) : Carried a (k + 1) (STEP V0) where
  ctr := by
    rw [STEP_main_v55_9]
    unfold step_main_v55_9
    rw [h.ctr]
    funext y
    show BitVec.ofNat 32 k + 1#32 = BitVec.ofNat 32 (k + 1)
    rw [BitVec.ofNat_add]
  nums := by rw [STEP_main_v55_0]; exact h.nums
  par := by rw [STEP_main_v55_1]; exact h.par
  rows := by rw [STEP_main_v55_2]; exact h.rows
  rf := by rw [STEP_main_v55_3]; exact h.rf
  gf := by rw [STEP_main_v55_4]; exact h.gf
  ro := by rw [STEP_main_v55_5]; exact h.ro
  go := by rw [STEP_main_v55_6]; exact h.go
  rz := by rw [STEP_main_v55_7]; exact h.rz
  gz := by rw [STEP_main_v55_8]; exact h.gz
  hid := by rw [STEP_main_v55_10]; exact h.stepH hk hN
  cel := by rw [STEP_main_v55_11]; exact h.stepC hk hN

/-- After `k` trips from the loop's entry the trees hold `k` steps of the recursion. -/
theorem Carried.iter (h : Carried a 0 V0) (hN : ∀ y, (a.conn y).toNat < 128) : ∀ k, k ≤ 127 → Carried a k (STEP^[k] V0)
  | 0, _ => h
  | k + 1, hk => by
    rw [Function.iterate_succ_apply']
    exact (Carried.iter h hN k (by omega)).step (by omega) hN

end Cert.ReferenceIdeal.Value

end
-- ==== Proof.RefRoot.lean ====
module

public import proofs.«01_k».proof.Proof.RefTrip
public import Idealize.ShloMosaic.Lib.Routing.OpsSet

/-!
Node 0 of every row set to an update: how the reference puts the roots in the trees.
-/

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic
open Idealize.ShloMosaic.StableHlo

/-- Row `r`, lane `l` of the update of node 0 lands at `(r, 0, l)` and nowhere else. -/
theorem root_lands (idx : IVec S1 32) (hidx : idx (ix1 0) = 0#32) (r' r : Fin 1024) (l' n l : Fin 128) :
    scatter_S1024x128x128_S1_S1024x128_01_1_1_0.resultIdx? (ix2 r' l') idx = some (ix3 r n l) ↔ r' = r ∧ n.val = 0 ∧ l' = l := by
  have hs : ∀ h : (1 : Fin 3) ∈ scatter_S1024x128x128_S1_S1024x128_01_1_1_0.scatterDimsToOperandDims,
      scatter_S1024x128x128_S1_S1024x128_01_1_1_0.siIdx (ix2 r' l')
        ⟨scatter_S1024x128x128_S1_S1024x128_01_1_1_0.scatterDimsToOperandDims.idxOf 1, List.idxOf_lt_length_iff.2 h⟩ = ix1 0 := by
    intro h
    funext b
    refine Fin.ext ?_
    match b with
    | ⟨0, _⟩ => rfl
  have s0 : scatter_S1024x128x128_S1_S1024x128_01_1_1_0.start (ix2 r' l') idx (0 : Fin 3) = 0 := by
    unfold ScatterDims.start; rw [dif_neg (by decide)]
  have s1 : scatter_S1024x128x128_S1_S1024x128_01_1_1_0.start (ix2 r' l') idx (1 : Fin 3) = 0 := by
    unfold ScatterDims.start; rw [dif_pos (by decide), hs (by decide), hidx]; rfl
  have s2 : scatter_S1024x128x128_S1_S1024x128_01_1_1_0.start (ix2 r' l') idx (2 : Fin 3) = 0 := by
    unfold ScatterDims.start; rw [dif_neg (by decide)]
  have w0 : scatter_S1024x128x128_S1_S1024x128_01_1_1_0.window (ix2 r' l') (0 : Fin 3) = r'.val := by
    unfold ScatterDims.window; rw [dif_pos (by decide)]; rfl
  have w1 : scatter_S1024x128x128_S1_S1024x128_01_1_1_0.window (ix2 r' l') (1 : Fin 3) = 0 := by
    unfold ScatterDims.window; rw [dif_neg (by decide)]
  have w2 : scatter_S1024x128x128_S1_S1024x128_01_1_1_0.window (ix2 r' l') (2 : Fin 3) = l'.val := by
    unfold ScatterDims.window; rw [dif_pos (by decide)]; rfl
  rw [Routing.resultIdx?_eq_some]
  constructor
  · intro h
    have h0 := h (0 : Fin 3)
    have h1 := h (1 : Fin 3)
    have h2 := h (2 : Fin 3)
    rw [s0, w0] at h0
    rw [s1, w1] at h1
    rw [s2, w2] at h2
    have e0 : (0 : Int) + (r'.val : Int) = (r.val : Int) := h0
    have e1 : (0 : Int) + ((0 : ℕ) : Int) = (n.val : Int) := h1
    have e2 : (0 : Int) + (l'.val : Int) = (l.val : Int) := h2
    exact ⟨Fin.ext (by omega), by omega, Fin.ext (by omega)⟩
  · rintro ⟨rfl, hn, rfl⟩ i
    match i with
    | ⟨0, _⟩ =>
      show scatter_S1024x128x128_S1_S1024x128_01_1_1_0.start (ix2 r' l') idx (0 : Fin 3) + (scatter_S1024x128x128_S1_S1024x128_01_1_1_0.window (ix2 r' l') (0 : Fin 3) : Int) = (r'.val : Int)
      rw [s0, w0]; omega
    | ⟨1, _⟩ =>
      show scatter_S1024x128x128_S1_S1024x128_01_1_1_0.start (ix2 r' l') idx (1 : Fin 3) + (scatter_S1024x128x128_S1_S1024x128_01_1_1_0.window (ix2 r' l') (1 : Fin 3) : Int) = (n.val : Int)
      rw [s1, w1]; omega
    | ⟨2, _⟩ =>
      show scatter_S1024x128x128_S1_S1024x128_01_1_1_0.start (ix2 r' l') idx (2 : Fin 3) + (scatter_S1024x128x128_S1_S1024x128_01_1_1_0.window (ix2 r' l') (2 : Fin 3) : Int) = (l'.val : Int)
      rw [s2, w2]; omega

/-- Node 0 of every row set to an update, read at an index. -/
theorem root_set {α : Type} (x : S1024x128x128.Idx → α) (idx : IVec S1 32) (hidx : idx (ix1 0) = 0#32) (u : S1024x128.Idx → α)
    (r : Fin 1024) (n l : Fin 128) :
    Host.scatter scatter_S1024x128x128_S1_S1024x128_01_1_1_0 (fun _ b => b) x idx u (ix3 r n l)
      = if n.val = 0 then u (ix2 r l) else x (ix3 r n l) := by
  have lands : ∀ j : S1024x128.Idx, scatter_S1024x128x128_S1_S1024x128_01_1_1_0.resultIdx? j idx = some (ix3 r n l) →
      j = ix2 r l ∧ n.val = 0 := by
    intro j hj
    have ej : j = ix2 (j 0) (j 1) := eq_ix2 j
    rw [ej] at hj
    obtain ⟨h0, h1, h2⟩ := (root_lands idx hidx (j 0) r (j 1) n l).1 hj
    exact ⟨ej.trans (congrArg₂ ix2 h0 h2), h1⟩
  by_cases hn : n.val = 0
  · rw [if_pos hn]
    exact Routing.scatter_set_hit _ x idx u _ _ (fun j hj => congrArg u (lands j hj).1) (ix2 r l)
      ((root_lands idx hidx r r l n l).2 ⟨rfl, hn, rfl⟩)
  · rw [if_neg hn]
    exact Routing.scatter_set_miss _ x idx u _ fun j hj => hn (lands j hj).2

end Cert.ReferenceIdeal.Value

end
-- ==== Proof.RefEntry.lean ====
module

public import proofs.«01_k».proof.Proof.RefRoot

/-!
What the reference's loop is entered with, and the reference's result: the last of the 127 steps of the row recursion.
-/

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic
open Idealize.ShloMosaic.StableHlo

variable (m : (l : Loc nD τ sig) → Buf (Elt Ideal) l)

/-- The arguments the result depends on, as the reference finds them. -/
def args (c : Dev nD) : TreeSpec.Args where
  emb := m ((c.tc : Thread nD τ).loc main_arg0)
  conn := m ((c.tc : Thread nD τ).loc main_arg1)
  wf := m ((c.tc : Thread nD τ).loc main_arg3)
  bf := m ((c.tc : Thread nD τ).loc main_arg4)
  wo := m ((c.tc : Thread nD τ).loc main_arg5)
  bo := m ((c.tc : Thread nD τ).loc main_arg6)
  wz := m ((c.tc : Thread nD τ).loc main_arg7)
  bz := m ((c.tc : Thread nD τ).loc main_arg8)
  uf := m ((c.tc : Thread nD τ).loc main_arg9)
  uo := m ((c.tc : Thread nD τ).loc main_arg10)
  uz := m ((c.tc : Thread nD τ).loc main_arg11)
  h0 := m ((c.tc : Thread nD τ).loc main_arg12)
  c0 := m ((c.tc : Thread nD τ).loc main_arg13)

/-- The loop is entered with the recursion's base: the trees with node 0 computed, the counter at zero, and the gates'
    weights and inputs. -/
theorem entry (c : Dev nD) : Carried (args m c) 0 (entryContents preI m c) where
  ctr := ctr_entry m c
  nums i := by
    simp only [entryContents, afterL_cons, afterL_nil]
    after_reads_simp
    simp only [id]
    pointwise []
    show 1#32 + BitVec.ofNat 32 i.val = BitVec.ofNat 32 (i.val + 1)
    rw [Nat.add_comm, BitVec.ofNat_add]
  par i r := by
    simp only [entryContents, afterL_cons, afterL_nil]
    after_reads_simp
    simp only [id]
    pointwise []
    rfl
  rows r := by
    simp only [entryContents, afterL_cons, afterL_nil]
    after_reads_simp
    simp only [id]
    pointwise []
  rf x l := by
    simp only [entryContents, afterL_cons, afterL_nil]
    after_reads_simp
    simp only [id]
    pointwise []
    rfl
  gf r l := by
    simp only [entryContents, afterL_cons, afterL_nil]
    after_reads_simp
    simp only [id]
    pointwise []
    rfl
  ro x l := by
    simp only [entryContents, afterL_cons, afterL_nil]
    after_reads_simp
    simp only [id]
    pointwise []
    rfl
  go r l := by
    simp only [entryContents, afterL_cons, afterL_nil]
    after_reads_simp
    simp only [id]
    pointwise []
    rfl
  rz x l := by
    simp only [entryContents, afterL_cons, afterL_nil]
    after_reads_simp
    simp only [id]
    pointwise []
    rfl
  gz r l := by
    simp only [entryContents, afterL_cons, afterL_nil]
    after_reads_simp
    simp only [id]
    pointwise []
    rfl
  hid r n l := by
    simp only [entryContents, afterL_cons, afterL_nil]
    after_reads_simp
    simp only [id]
    rw [root_set _ _ rfl, TreeSpec.tree_zero_fst]
    by_cases hn : n.val = 0
    · rw [if_pos hn, if_pos hn]
      simp only [TreeSpec.cellH, TreeSpec.rootC, TreeSpec.inp, Ideal.logistic]
      pointwise []
      rfl
    · rw [if_neg hn, if_neg hn]
      rfl
  cel r n l := by
    simp only [entryContents, afterL_cons, afterL_nil]
    after_reads_simp
    simp only [id]
    rw [root_set _ _ rfl, TreeSpec.tree_zero_snd]
    by_cases hn : n.val = 0
    · rw [if_pos hn, if_pos hn]
      simp only [TreeSpec.cellH, TreeSpec.rootC, TreeSpec.inp, Ideal.logistic]
      pointwise []
      rfl
    · rw [if_neg hn, if_neg hn]
      rfl

/-- The reference's result, row by row, is the recursion's last step. -/
theorem result_eq (c : Dev nD) (hN : ∀ y, ((args m c).conn y).toNat < 128) (r : Fin 1024) (n l : Fin 128) :
    (STEP^[127] (entryContents preI m c)) (Proc.devRef .tc main_v55_10) (ix3 r n l) = (TreeSpec.tree (args m c) r 127).1 n l :=
  ((entry m c).iter hN 127 (by omega)).hid r n l

end Cert.ReferenceIdeal.Value

end
-- ==== Proof.KernelGates.lean ====
module

public import proofs.«01_k».proof.Proof.RealBody
public import proofs.«01_k».proof.Proof.Spec

/-!
The arithmetic of a block over the extended reals: what the kernel's stores hold, entry by entry, is the row recursion.
-/

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen Cert.TreeGather

/-- What the windows of a block hold, in terms of the arguments: element `b` of the block is batch row `row b`. -/
structure Inputs (a : TreeSpec.Args) (row : Fin 256 → Fin 1024) (N : SN.Idx → Elt Ideal .i32) (E : S256x128.Idx → Elt Ideal .f32)
    (V3 : S128x384.Idx → Elt Ideal .f32) (V4 : S1x384.Idx → Elt Ideal .f32) : Prop where
  emb : ∀ (b : Fin 256) (x : Fin 128), E (ix2 b x) = a.emb (ix3 (row b) 0 x)
  conn : ∀ (n : Fin 128) (b : Fin 256), N (ix2 n b) = a.conn (ix2 (row b) n)
  wf : ∀ (x l : Fin 128), V3 (ix2 x ⟨l.val, by omega⟩) = a.wf (ix2 l x)
  wo : ∀ (x l : Fin 128), V3 (ix2 x ⟨128 + l.val, by omega⟩) = a.wo (ix2 l x)
  wz : ∀ (x l : Fin 128), V3 (ix2 x ⟨256 + l.val, by omega⟩) = a.wz (ix2 l x)
  bf : ∀ l : Fin 128, V4 (ix2 0 ⟨l.val, by omega⟩) = a.bf (ix1 l)
  bo : ∀ l : Fin 128, V4 (ix2 0 ⟨128 + l.val, by omega⟩) = a.bo (ix1 l)
  bz : ∀ l : Fin 128, V4 (ix2 0 ⟨256 + l.val, by omega⟩) = a.bz (ix1 l)

/-- The first 128 columns of the recurrent weight are the forget gate's. -/
theorem wRec_f (T5 T6 T7 : S128x128.Idx → Elt Ideal .f32) (x l : Fin 128) :
    wRec T5 T6 T7 (ix2 x ⟨l.val, by omega⟩) = TreeSpec.rec T5 x l := by
  unfold wRec TreeSpec.rec
  pointwise [k0_pay516]

/-- The next 128 columns of the recurrent weight are the output gate's. -/
theorem wRec_o (T5 T6 T7 : S128x128.Idx → Elt Ideal .f32) (x l : Fin 128) :
    wRec T5 T6 T7 (ix2 x ⟨128 + l.val, by omega⟩) = TreeSpec.rec T6 x l := by
  unfold wRec TreeSpec.rec
  pointwise [k0_pay516]

/-- The last 128 columns of the recurrent weight are the input gate's. -/
theorem wRec_z (T5 T6 T7 : S128x128.Idx → Elt Ideal .f32) (x l : Fin 128) :
    wRec T5 T6 T7 (ix2 x ⟨256 + l.val, by omega⟩) = TreeSpec.rec T7 x l := by
  unfold wRec TreeSpec.rec
  pointwise [k0_pay516]
  have := l.isLt
  have e : 256 + l.val - 128 - 128 = l.val := by omega
  split_ifs <;> first | (exfalso; omega) | (simp only [e])

section

variable {a : TreeSpec.Args} {row : Fin 256 → Fin 1024} {N : SN.Idx → Elt Ideal .i32} {E : S256x128.Idx → Elt Ideal .f32}
  {V3 : S128x384.Idx → Elt Ideal .f32} {V4 : S1x384.Idx → Elt Ideal .f32} (I : Inputs a row N E V3 V4)

include I

/-- The forget gate's input. -/
theorem Inputs.gIn_f (b : Fin 256) (l : Fin 128) : gIn E V3 V4 (ix2 b ⟨l.val, by omega⟩) = TreeSpec.inp a.emb a.wf a.bf (row b) l := by
  unfold gIn TreeSpec.inp
  unfold_payloads
  pointwise []
  simp only [I.emb, I.wf, I.bf]

/-- The output gate's input. -/
theorem Inputs.gIn_o (b : Fin 256) (l : Fin 128) : gIn E V3 V4 (ix2 b ⟨128 + l.val, by omega⟩) = TreeSpec.inp a.emb a.wo a.bo (row b) l := by
  unfold gIn TreeSpec.inp
  unfold_payloads
  pointwise []
  simp only [I.emb, I.wo, I.bo]

/-- The input gate's input. -/
theorem Inputs.gIn_z (b : Fin 256) (l : Fin 128) : gIn E V3 V4 (ix2 b ⟨256 + l.val, by omega⟩) = TreeSpec.inp a.emb a.wz a.bz (row b) l := by
  unfold gIn TreeSpec.inp
  unfold_payloads
  pointwise []
  simp only [I.emb, I.wz, I.bz]

/-- Node 0 of the cell tree. -/
theorem Inputs.rootC_eq (b : Fin 256) (l : Fin 128) : rootC E V3 V4 (ix3 0 b l)
    = TreeSpec.rootC (TreeSpec.inp a.emb a.wf a.bf (row b) l) (TreeSpec.inp a.emb a.wz a.bz (row b) l) := by
  unfold rootC TreeSpec.rootC TreeSpec.inp
  unfold_payloads
  pointwise []
  simp only [I.emb, I.wf, I.bf, I.wz, I.bz]

/-- Node 0 of the hidden tree. -/
theorem Inputs.rootH_eq (b : Fin 256) (l : Fin 128) : rootH E V3 V4 (ix3 0 b l)
    = TreeSpec.cellH (TreeSpec.inp a.emb a.wo a.bo (row b) l)
        (TreeSpec.rootC (TreeSpec.inp a.emb a.wf a.bf (row b) l) (TreeSpec.inp a.emb a.wz a.bz (row b) l)) := by
  unfold rootH TreeSpec.cellH TreeSpec.rootC TreeSpec.inp
  unfold_payloads
  pointwise []
  simp only [I.emb, I.wf, I.bf, I.wz, I.bz, I.wo, I.bo]

/-- A later node of the cell tree, from the rows gathered from its parent `p`. -/
theorem Inputs.newC_eq {gh gc : SR.Idx → Elt Ideal .f32} {T : TreeSpec.Row} {p : Fin 128} {b : Fin 256}
    (hh : ∀ x : Fin 128, gh (ix3 0 b x) = T.1 p x) (hc : ∀ x : Fin 128, gc (ix3 0 b x) = T.2 p x) (l : Fin 128) :
    newC (wRec (F := Ideal) a.uf a.uo a.uz) (gIn E V3 V4) gh gc (ix3 0 b l) = TreeSpec.newC a (row b) T p l := by
  unfold TreeSpec.newC TreeSpec.cellC TreeSpec.gate
  simp only [← wRec_f a.uf a.uo a.uz, ← wRec_z a.uf a.uo a.uz, ← I.gIn_f, ← I.gIn_z, ← hh, ← hc]
  generalize wRec (F := Ideal) a.uf a.uo a.uz = W
  generalize gIn (F := Ideal) E V3 V4 = G
  unfold newC
  unfold_payloads
  pointwise []

/-- A later node of the hidden tree, from the rows gathered from its parent `p`. -/
theorem Inputs.newH_eq {gh gc : SR.Idx → Elt Ideal .f32} {T : TreeSpec.Row} {p : Fin 128} {b : Fin 256}
    (hh : ∀ x : Fin 128, gh (ix3 0 b x) = T.1 p x) (hc : ∀ x : Fin 128, gc (ix3 0 b x) = T.2 p x) (l : Fin 128) :
    newH (wRec (F := Ideal) a.uf a.uo a.uz) (gIn E V3 V4) gh gc (ix3 0 b l) = TreeSpec.newH a (row b) T p l := by
  unfold TreeSpec.newH TreeSpec.newC TreeSpec.cellH TreeSpec.cellC TreeSpec.gate
  simp only [← wRec_f a.uf a.uo a.uz, ← wRec_o a.uf a.uo a.uz, ← wRec_z a.uf a.uo a.uz, ← I.gIn_f, ← I.gIn_o, ← I.gIn_z, ← hh, ← hc]
  generalize wRec (F := Ideal) a.uf a.uo a.uz = W
  generalize gIn (F := Ideal) E V3 V4 = G
  unfold newH
  unfold_payloads
  pointwise []

omit I in
/-- The words of a trip name the parents. -/
theorem gat_at (A : SA.Idx → Elt Ideal .f32) (W : ℕ → BitVec 32) (b : Fin 256) (p x : Fin 128) (h : (W b.val).toNat % 128 = p.val) :
    gat A W (ix3 0 b x) = A (ixA p.val b.val x.val p.isLt b.isLt x.isLt) := by
  unfold gat
  refine congrArg A (funext fun i => Fin.ext ?_)
  match i with
  | 0 => exact h
  | 1 => rfl
  | 2 => rfl

/-- Element `b` of node `k + 1`'s words is the node's parent. -/
theorem Inputs.parent_eq (b : Fin 256) (k : ℕ) (hk : k < 127) : (wordAt N (k + 1) b.val).toNat % 128 = (TreeSpec.parent a (row b) (k + 1)).val := by
  have e : (⟨k + 1, by omega⟩ : Fin 128) = ⟨(k + 1) % 128, Nat.mod_lt _ (by decide)⟩ := Fin.ext (by show k + 1 = (k + 1) % 128; omega)
  have hw : wordAt N (k + 1) b.val = N (ix2 ⟨k + 1, by omega⟩ b) := by
    unfold wordAt
    rw [dif_pos ⟨by omega, b.isLt⟩]
    refine congrArg N (funext fun i => Fin.ext ?_)
    match i with
    | 0 => rfl
    | 1 => rfl
  rw [hw, I.conn]
  show _ = (a.conn (ix2 (row b) ⟨(k + 1) % 128, Nat.mod_lt _ (by decide)⟩)).toNat % 128
  rw [← e]

/-- The tree buffers of a block, after any number of trips, are the rows of the recursion. -/
theorem Inputs.trees_eq {base : ℕ} (hrow : ∀ b : Fin 256, (row b).val = (base + b.val) % 1024) : ∀ k, k ≤ 127 → ∀ (n : Fin 128) (b : Fin 256) (l : Fin 128),
    (trees (newH (wRec (F := Ideal) a.uf a.uo a.uz) (gIn E V3 V4)) (newC (wRec (F := Ideal) a.uf a.uo a.uz) (gIn E V3 V4)) N
      (upd (block a.h0 base) 0 (rootH E V3 V4)) (upd (block a.c0 base) 0 (rootC E V3 V4)) k).1 (ixA n.val b.val l.val n.isLt b.isLt l.isLt)
        = (TreeSpec.tree a (row b) k).1 n l
    ∧ (trees (newH (wRec (F := Ideal) a.uf a.uo a.uz) (gIn E V3 V4)) (newC (wRec (F := Ideal) a.uf a.uo a.uz) (gIn E V3 V4)) N
      (upd (block a.h0 base) 0 (rootH E V3 V4)) (upd (block a.c0 base) 0 (rootC E V3 V4)) k).2 (ixA n.val b.val l.val n.isLt b.isLt l.isLt)
        = (TreeSpec.tree a (row b) k).2 n l := by
  have eR : ∀ (b : Fin 256) (l : Fin 128), ixR b.val l.val b.isLt l.isLt = ix3 0 b l := fun b l => by
    funext i
    refine Fin.ext ?_
    match i with
    | 0 => rfl
    | 1 => rfl
    | 2 => rfl
  have eB : ∀ (X : SH.Idx → Elt Ideal .f32) (n : Fin 128) (b : Fin 256) (l : Fin 128),
      block X base (ixA n.val b.val l.val n.isLt b.isLt l.isLt) = X (ix3 (row b) n l) := fun X n b l => by
    unfold block
    refine congrArg X (funext fun i => Fin.ext ?_)
    match i with
    | 0 => exact (hrow b).symm
    | 1 => rfl
    | 2 => rfl
  intro k
  induction k with
  | zero =>
    intro _ n b l
    rw [TreeSpec.tree_zero_fst, TreeSpec.tree_zero_snd, ← I.rootH_eq, ← I.rootC_eq, ← eR, ← eB a.h0, ← eB a.c0]
    exact ⟨rfl, rfl⟩
  | succ k ih =>
    intro hk n b l
    have ihk := ih (by omega)
    have hh : ∀ x : Fin 128, _ = (TreeSpec.tree a (row b) k).1 (TreeSpec.parent a (row b) (k + 1)) x := fun x =>
      (gat_at _ _ b _ x (I.parent_eq b k (by omega))).trans (ihk _ b x).1
    have hc : ∀ x : Fin 128, _ = (TreeSpec.tree a (row b) k).2 (TreeSpec.parent a (row b) (k + 1)) x := fun x =>
      (gat_at _ _ b _ x (I.parent_eq b k (by omega))).trans (ihk _ b x).2
    constructor
    · show (if n.val = k + 1 then _ else _) = if n.val = k + 1 then _ else _
      by_cases hn : n.val = k + 1
      · rw [if_pos hn, if_pos hn]
        exact (congrArg _ (eR b l)).trans (I.newH_eq hh hc l)
      · rw [if_neg hn, if_neg hn]
        exact (ihk n b l).1
    · show (if n.val = k + 1 then _ else _) = if n.val = k + 1 then _ else _
      by_cases hn : n.val = k + 1
      · rw [if_pos hn, if_pos hn]
        exact (congrArg _ (eR b l)).trans (I.newC_eq hh hc l)
      · rw [if_neg hn, if_neg hn]
        exact (ihk n b l).2

end

end Cert.KernelIdeal.Hand

end
-- ==== Proof.KernelValue.lean ====
module

public import proofs.«01_k».proof.Proof.RealLaunch
public import proofs.«01_k».proof.Proof.KernelGates
public import Idealize.ShloMosaic.Lib.Pipeline.ValueKit

/-!
The kernel's result over the extended reals, entry by entry: the last step of the row recursion.
-/

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen Cert.TreeGather

variable (m : (l : Loc nD τ sig) → Buf (Elt Ideal) l)

/-- The arguments the result depends on, as the kernel finds them. -/
def args (c : Dev nD) : TreeSpec.Args where
  emb := m ((c.tc : Thread nD τ).loc main_arg0)
  conn := m ((c.tc : Thread nD τ).loc main_arg1)
  wf := m ((c.tc : Thread nD τ).loc main_arg3)
  bf := m ((c.tc : Thread nD τ).loc main_arg4)
  wo := m ((c.tc : Thread nD τ).loc main_arg5)
  bo := m ((c.tc : Thread nD τ).loc main_arg6)
  wz := m ((c.tc : Thread nD τ).loc main_arg7)
  bz := m ((c.tc : Thread nD τ).loc main_arg8)
  uf := m ((c.tc : Thread nD τ).loc main_arg9)
  uo := m ((c.tc : Thread nD τ).loc main_arg10)
  uz := m ((c.tc : Thread nD τ).loc main_arg11)
  h0 := m ((c.tc : Thread nD τ).loc main_arg12)
  c0 := m ((c.tc : Thread nD τ).loc main_arg13)

/-- Point `t` of the grid is block `t`. -/
theorem coord_eq : ∀ t : Fin cfg0.N, ((grid0.coords t) 0).val = t.val := by decide +kernel

/-- Window 0 reads the rows of the point's block. -/
theorem at_0_0 : ∀ t : Fin cfg0.N, win0_0.index t 0 = t.val := by decide +kernel
/-- Window 0 reads all lanes. -/
theorem at_0_1 : ∀ t : Fin cfg0.N, win0_0.index t 1 = 0 := by decide +kernel
/-- Window 1 reads all nodes. -/
theorem at_1_0 : ∀ t : Fin cfg0.N, win0_1.index t 0 = 0 := by decide +kernel
/-- Window 1 reads the columns of the point's block. -/
theorem at_1_1 : ∀ t : Fin cfg0.N, win0_1.index t 1 = t.val := by decide +kernel
/-- Window 2 reads its whole array at every point. -/
theorem at_2 : ∀ (t : Fin cfg0.N) a, win0_2.index t a = 0 := by decide +kernel
/-- Window 3 reads its whole array at every point. -/
theorem at_3 : ∀ (t : Fin cfg0.N) a, win0_3.index t a = 0 := by decide +kernel
/-- Window 4 reads its whole array at every point. -/
theorem at_4 : ∀ (t : Fin cfg0.N) a, win0_4.index t a = 0 := by decide +kernel
/-- Window 5 reads its whole array at every point. -/
theorem at_5 : ∀ (t : Fin cfg0.N) a, win0_5.index t a = 0 := by decide +kernel
/-- Window 6 reads its whole array at every point. -/
theorem at_6 : ∀ (t : Fin cfg0.N) a, win0_6.index t a = 0 := by decide +kernel

/-- The batch row of element `b` of block `t`. -/
def rowOf (t : Fin cfg0.N) (b : Fin 256) : Fin 1024 := ⟨(256 * t.val + b.val) % 1024, Nat.mod_lt _ (by decide)⟩

/-- The batch row as a number. -/
theorem rowOf_val (t : Fin cfg0.N) (b : Fin 256) : (rowOf t b).val = 256 * t.val + b.val := by
  have h : t.val < 4 := t.isLt
  show (256 * t.val + b.val) % 1024 = _
  omega

/-- Block `t` of the embedding is its rows. -/
theorem blk_emb (c : Dev nD) (t : Fin cfg0.N) (b : Fin 256) (x : Fin 128) : iblk m c 0 t (ix2 b x) = V m c main_v1 (ix2 (rowOf t b) x) := by
  have h := rowOf_val t b
  blk_ext [iblk]
  · show win0_0.index t 0 * 256 + b.val = (rowOf t b).val
    rw [at_0_0]; omega
  · show win0_0.index t 1 * 128 + x.val = x.val
    rw [at_0_1]; omega

/-- Block `t` of the connection table is its rows of the table, node first. -/
theorem blk_conn (c : Dev nD) (t : Fin cfg0.N) (n : Fin 128) (b : Fin 256) : iblk m c 1 t (ix2 n b) = V m c main_v2 (ix2 n (rowOf t b)) := by
  have h := rowOf_val t b
  blk_ext [iblk]
  · show win0_1.index t 0 * 128 + n.val = n.val
    rw [at_1_0]; omega
  · show win0_1.index t 1 * 256 + b.val = (rowOf t b).val
    rw [at_1_1]; omega

/-- The window of the weights holds them all. -/
theorem blk_w (c : Dev nD) (t : Fin cfg0.N) (x : Fin 128) (l : Fin 384) : iblk m c 2 t (ix2 x l) = V m c main_v6 (ix2 x l) := by
  blk_ext [iblk]
  · show win0_2.index t 0 * 128 + x.val = x.val
    rw [at_2]; omega
  · show win0_2.index t 1 * 384 + l.val = l.val
    rw [at_2]; omega

/-- The window of the biases holds them all. -/
theorem blk_b (c : Dev nD) (t : Fin cfg0.N) (l : Fin 384) : iblk m c 3 t (ix2 0 l) = V m c main_v8 (ix2 0 l) := by
  blk_ext [iblk]
  · exact at_3 t 0
  · show win0_3.index t 1 * 384 + l.val = l.val
    rw [at_3]; omega

/-- The window of the forget gate's factor holds it all. -/
theorem blk_uf (c : Dev nD) (t : Fin cfg0.N) : iblk m c 4 t = (args m c).uf := by
  refine Eq.trans (funext fun y => ?_) (V_main_arg9 m c)
  rw [eq_ix2 y]
  blk_ext [iblk]
  · show win0_4.index t 0 * 128 + (y 0).val = (y 0).val
    rw [at_4]; omega
  · show win0_4.index t 1 * 128 + (y 1).val = (y 1).val
    rw [at_4]; omega

/-- The window of the output gate's factor holds it all. -/
theorem blk_uo (c : Dev nD) (t : Fin cfg0.N) : iblk m c 5 t = (args m c).uo := by
  refine Eq.trans (funext fun y => ?_) (V_main_arg10 m c)
  rw [eq_ix2 y]
  blk_ext [iblk]
  · show win0_5.index t 0 * 128 + (y 0).val = (y 0).val
    rw [at_5]; omega
  · show win0_5.index t 1 * 128 + (y 1).val = (y 1).val
    rw [at_5]; omega

/-- The window of the input gate's factor holds it all. -/
theorem blk_uz (c : Dev nD) (t : Fin cfg0.N) : iblk m c 6 t = (args m c).uz := by
  refine Eq.trans (funext fun y => ?_) (V_main_arg11 m c)
  rw [eq_ix2 y]
  blk_ext [iblk]
  · show win0_6.index t 0 * 128 + (y 0).val = (y 0).val
    rw [at_6]; omega
  · show win0_6.index t 1 * 128 + (y 1).val = (y 1).val
    rw [at_6]; omega

/-- The rows the windows read are node 0's embedding. -/
theorem host_emb (c : Dev nD) (r : Fin 1024) (x : Fin 128) : V m c main_v1 (ix2 r x) = (args m c).emb (ix3 r 0 x) := by
  unfold V hostOps0
  after_results
  pointwise []
  rfl

/-- The table the windows read is the connection table, node first. -/
theorem host_conn (c : Dev nD) (n : Fin 128) (r : Fin 1024) : V m c main_v2 (ix2 n r) = (args m c).conn (ix2 r n) := by
  unfold V hostOps0
  after_results
  pointwise []
  rfl

/-- The forget gate's weight, transposed, where the weights are put side by side. -/
theorem before_v3 (c : Dev nD) : StableHlo.after ((hostOps0 (F := Ideal)).take 6) (fun b => m (c, b)) (Proc.devRef .tc main_v3)
    = transpose S128x128 [1, 0] (args m c).wf transposes_S128x128_S128x128_1_0 := by
  simp only [hostOps0, List.take_succ_cons, List.take_zero]
  after_results
  rfl

/-- The output gate's weight, transposed, where the weights are put side by side. -/
theorem before_v4 (c : Dev nD) : StableHlo.after ((hostOps0 (F := Ideal)).take 6) (fun b => m (c, b)) (Proc.devRef .tc main_v4)
    = transpose S128x128 [1, 0] (args m c).wo transposes_S128x128_S128x128_1_0 := by
  simp only [hostOps0, List.take_succ_cons, List.take_zero]
  after_results
  rfl

/-- The input gate's weight, transposed, where the weights are put side by side. -/
theorem before_v5 (c : Dev nD) : StableHlo.after ((hostOps0 (F := Ideal)).take 6) (fun b => m (c, b)) (Proc.devRef .tc main_v5)
    = transpose S128x128 [1, 0] (args m c).wz transposes_S128x128_S128x128_1_0 := by
  simp only [hostOps0, List.take_succ_cons, List.take_zero]
  after_results
  rfl

/-- The forget gate's bias where the biases are put side by side. -/
theorem before_arg4 (c : Dev nD) : StableHlo.after ((hostOps0 (F := Ideal)).take 7) (fun b => m (c, b)) (Proc.devRef .tc main_arg4)
    = (args m c).bf := by
  simp only [hostOps0, List.take_succ_cons, List.take_zero]
  after_results
  rfl

/-- The output gate's bias where the biases are put side by side. -/
theorem before_arg6 (c : Dev nD) : StableHlo.after ((hostOps0 (F := Ideal)).take 7) (fun b => m (c, b)) (Proc.devRef .tc main_arg6)
    = (args m c).bo := by
  simp only [hostOps0, List.take_succ_cons, List.take_zero]
  after_results
  rfl

/-- The input gate's bias where the biases are put side by side. -/
theorem before_arg8 (c : Dev nD) : StableHlo.after ((hostOps0 (F := Ideal)).take 7) (fun b => m (c, b)) (Proc.devRef .tc main_arg8)
    = (args m c).bz := by
  simp only [hostOps0, List.take_succ_cons, List.take_zero]
  after_results
  rfl

/-- The first 128 columns of the weights are the forget gate's. -/
theorem host_wf (c : Dev nD) (x l : Fin 128) : V m c main_v6 (ix2 x ⟨l.val, by omega⟩) = (args m c).wf (ix2 l x) := by
  unfold V hostOps0
  after_results
  pointwise []
  exact (congrFun (before_v3 m c) (ix2 x l)).trans (by pointwise [])

/-- The next 128 columns of the weights are the output gate's. -/
theorem host_wo (c : Dev nD) (x l : Fin 128) : V m c main_v6 (ix2 x ⟨128 + l.val, by omega⟩) = (args m c).wo (ix2 l x) := by
  unfold V hostOps0
  after_results
  pointwise []
  exact (congrFun (before_v4 m c) (ix2 x l)).trans (by pointwise [])

/-- The last 128 columns of the weights are the input gate's. -/
theorem host_wz (c : Dev nD) (x l : Fin 128) : V m c main_v6 (ix2 x ⟨256 + l.val, by omega⟩) = (args m c).wz (ix2 l x) := by
  unfold V hostOps0
  after_results
  pointwise []
  have := l.isLt
  have e : 256 + l.val - 128 - 128 = l.val := by omega
  split_ifs <;> first | (exfalso; omega) | (simp only [e]; exact (congrFun (before_v5 m c) (ix2 x l)).trans (by pointwise []))

/-- The first 128 biases are the forget gate's. -/
theorem host_bf (c : Dev nD) (l : Fin 128) : V m c main_v8 (ix2 0 ⟨l.val, by omega⟩) = (args m c).bf (ix1 l) := by
  unfold V hostOps0
  after_results
  pointwise []
  exact (congrFun (before_arg4 m c) (ix1 l)).trans (rfl)

/-- The next 128 biases are the output gate's. -/
theorem host_bo (c : Dev nD) (l : Fin 128) : V m c main_v8 (ix2 0 ⟨128 + l.val, by omega⟩) = (args m c).bo (ix1 l) := by
  unfold V hostOps0
  after_results
  pointwise []
  exact (congrFun (before_arg6 m c) (ix1 l)).trans (rfl)

/-- The last 128 biases are the input gate's. -/
theorem host_bz (c : Dev nD) (l : Fin 128) : V m c main_v8 (ix2 0 ⟨256 + l.val, by omega⟩) = (args m c).bz (ix1 l) := by
  unfold V hostOps0
  after_results
  pointwise []
  have := l.isLt
  have e : 256 + l.val - 128 - 128 = l.val := by omega
  split_ifs <;> first | (exfalso; omega) | (simp only [e]; exact (congrFun (before_arg8 m c) (ix1 l)))

/-- The windows of block `t` hold the arguments' rows and weights. -/
theorem inputs (c : Dev nD) (t : Fin cfg0.N) : Inputs (args m c) (rowOf t) (iblk m c 1 t) (iblk m c 0 t) (iblk m c 2 t) (iblk m c 3 t) where
  emb b x := (blk_emb m c t b x).trans (host_emb m c _ x)
  conn n b := (blk_conn m c t n b).trans (host_conn m c n _)
  wf x l := (blk_w m c t x _).trans (host_wf m c x l)
  wo x l := (blk_w m c t x _).trans (host_wo m c x l)
  wz x l := (blk_w m c t x _).trans (host_wz m c x l)
  bf l := (blk_b m c t _).trans (host_bf m c l)
  bo l := (blk_b m c t _).trans (host_bo m c l)
  bz l := (blk_b m c t _).trans (host_bz m c l)

/-- The hidden tree of block `t`. -/
theorem treesAt_eq (c : Dev nD) (t : Fin cfg0.N) (n : Fin 128) (b : Fin 256) (l : Fin 128) :
    (treesAt m c t).1 (ixA n.val b.val l.val n.isLt b.isLt l.isLt) = (TreeSpec.tree (args m c) (rowOf t b) 127).1 n l := by
  have h := ((inputs m c t).trees_eq (base := 256 * ((grid0.coords t) 0).val) (fun b => by rw [coord_eq]; rfl) 127 (Nat.le_refl _) n b l).1
  unfold treesAt final
  rw [blk_uf, blk_uo, blk_uz, V_main_arg12, V_main_arg13]
  exact h

/-- After `k` blocks the rows of those blocks are done. -/
theorem outAt_eq (c : Dev nD) : ∀ k, k ≤ 4 → ∀ (r : Fin 1024) (n l : Fin 128), r.val < 256 * k →
    outAt m c k (ix3 r n l) = (TreeSpec.tree (args m c) r 127).1 n l := by
  intro k
  induction k with
  | zero => intro _ r n l h; exact absurd h (Nat.not_lt_zero _)
  | succ k ih =>
    intro hk r n l hr
    have hs := outAt_succ m c ⟨k, show k < 4 by omega⟩
    rw [coord_eq] at hs
    refine (congrFun hs (ix3 r n l)).trans ?_
    unfold prog
    by_cases h : 256 * k ≤ r.val
    · refine (dif_pos (show 256 * k ≤ r.val ∧ r.val < 256 * k + 256 ∧ n.val < 128 from ⟨h, by omega, n.isLt⟩)).trans ?_
      have hb : rowOf ⟨k, show k < 4 by omega⟩ ⟨r.val - 256 * k, by omega⟩ = r := Fin.ext (by
        rw [rowOf_val]
        show 256 * k + (r.val - 256 * k) = r.val
        omega)
      have e := treesAt_eq m c ⟨k, show k < 4 by omega⟩ n ⟨r.val - 256 * k, by omega⟩ l
      rw [hb] at e
      exact e
    · refine (dif_neg (show ¬ (256 * k ≤ r.val ∧ r.val < 256 * k + 256 ∧ n.val < 128) from fun hh => h hh.1)).trans ?_
      exact ih (by omega) r n l (by omega)

/-- The kernel's result, row by row, is the recursion's last step. -/
theorem result_eq (c : Dev nD) (r : Fin 1024) (n l : Fin 128) : result m c (ix3 r n l) = (TreeSpec.tree (args m c) r 127).1 n l :=
  outAt_eq m c 4 (Nat.le_refl _) r n l r.isLt

end Cert.KernelIdeal.Hand

end
-- ==== Proof.Algebraic.lean ====
module

public import proofs.«01_k».proof.Defs
public import proofs.«01_k».proof.Proof.Gen.Pre_parents_are_nodes
public import proofs.«01_k».proof.Proof.Words
public import proofs.«01_k».proof.Proof.RefEntry
public import proofs.«01_k».proof.Proof.KernelValue

/-!
The kernel's reading over the extended reals and the reference compute the same result: both are the row recursion's
last step, of the same arguments.
-/

@[expose] public section

noncomputable section

namespace Cert.Proof

open Idealize.ShloMosaic Idealize.SL.Sem Cert.TreeGather

/-- From equal arguments, under the precondition, the kernel and the reference end with equal results. -/
theorem algebraic : Cert.algebraic_KernelIdeal_ReferenceIdeal := fun m ρ m' ρ' hpre hargs => by
  refine ⟨fun c => Cert.KernelIdeal.Hand.result m c, ?_, ?_⟩
  · exact (θ_run Cert.KernelIdeal.defs _ _).mono (fun _ h => h.1)
      (Cert.KernelIdeal.Hand.run_values (F := Ideal) m ρ (Cert.KernelIdeal.Hand.nodes_lt m fun c y => words_lt (hpre c) y))
  · refine (θ_run Cert.ReferenceIdeal.defs _ _).mono (fun r h c => ⟨(h c).1.trans ?_, (h c).2⟩)
      (Cert.ReferenceIdeal.Value.run (F := Ideal) m' ρ')
    have e : Cert.ReferenceIdeal.Value.args m' c = Cert.KernelIdeal.Hand.args m c := by
      obtain ⟨h0, h1, _, h3, h4, h5, h6, h7, h8, h9, h10, h11, h12, h13⟩ := hargs c
      unfold Cert.ReferenceIdeal.Value.args Cert.KernelIdeal.Hand.args
      rw [h0, h1, h3, h4, h5, h6, h7, h8, h9, h10, h11, h12, h13]
    have hN : ∀ y, ((Cert.ReferenceIdeal.Value.args m' c).conn y).toNat < 128 := by
      rw [e]
      exact fun y => words_lt (hpre c) y
    have key : ∀ (r : Fin 1024) (n l : Fin 128), _ = _ := fun r n l =>
      (Cert.ReferenceIdeal.Value.result_eq m' c hN r n l).trans
        ((congrArg (fun a => (TreeSpec.tree a r 127).1 n l) e).trans (Cert.KernelIdeal.Hand.result_eq m c r n l).symm)
    funext y
    rw [eq_ix3 y]
    exact key (y 0) (y 1) (y 2)

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_parents_are_nodes
public import proofs.«01_k».proof.Proof.Words
public import proofs.«01_k».proof.Proof.RealLaunch
public import proofs.«01_k».proof.Proof.WordLaunch
public import proofs.«01_k».proof.Proof.Algebraic

/-!
The claims: the frames of the kernel, of its reading over the extended reals and of the reference, that the reading
is of the kernel, and that the reading and the reference compute the same result.
-/

@[expose] public section

noncomputable section

namespace Cert.Proof

open Idealize.ShloMosaic Idealize.SL.Sem Cert.TreeGather

/-- The kernel runs under the precondition, leaves its arguments as they were and its semaphores at zero. -/
theorem frame_kernel : Cert.quiescent_Kernel := fun m ρ h =>
  (θ_run Cert.Kernel.defs _ _).mono (fun _ h => ⟨fun c => (h.1 c).2, h.2⟩)
    (Cert.Kernel.Hand.run_values (F := Bits) m ρ (Cert.Kernel.Hand.nodes_lt m fun c y => words_lt (h c) y))

/-- So does its reading over the extended reals. -/
theorem frame_kernelIdeal : Cert.quiescent_KernelIdeal := fun m ρ h =>
  (θ_run Cert.KernelIdeal.defs _ _).mono (fun _ h => ⟨fun c => (h.1 c).2, h.2⟩)
    (Cert.KernelIdeal.Hand.run_values (F := Ideal) m ρ (Cert.KernelIdeal.Hand.nodes_lt m fun c y => words_lt (h c) y))

/-- The reference runs from any memory, leaves its arguments as they were and declares no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- And so under the precondition. -/
theorem frame_reference_pre : Cert.quiescent_ReferenceIdeal_pre_parents_are_nodes := fun m ρ _ => frame_reference m ρ trivial

/-- The claims. -/
theorem claim : Cert.Claim :=
  ⟨Cert.Kernel.Gen.facts, Cert.KernelIdeal.Gen.facts, Cert.ReferenceIdeal.Gen.facts, Cert.Pre_parents_are_nodes.Gen.facts,
    frame_kernel, frame_kernelIdeal, frame_reference, frame_reference_pre, trivial,
    algebraic⟩

end Cert.Proof

end
